-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Quant (m : (ℓ : Loc Cert.Quant.nD Cert.Quant.τ Cert.Quant.sig) → Buf (Elt Bits) ℓ) : Prop :=
  True

def Pre_Quant_normal [hPre_normal : Cert.Pre_normal.Facts] (m : (ℓ : Loc Cert.Quant.nD Cert.Quant.τ Cert.Quant.sig) → Buf (Elt Bits) ℓ) : Prop :=
  ∀ c : Dev Cert.Quant.nD,
    (Cert.Pre_normal.fn (F := Bits) (m ((c.tc : Thread Cert.Quant.nD Cert.Quant.τ).loc Cert.Quant.main_arg0)) (m ((c.tc : Thread Cert.Quant.nD Cert.Quant.τ).loc Cert.Quant.main_arg1))) = (fun _ => 1#1)

def Pre_QuantReference [hPre_normal : Cert.Pre_normal.Facts] (m : (ℓ : Loc Cert.QuantReference.nD Cert.QuantReference.τ Cert.QuantReference.sig) → Buf (Elt Bits) ℓ) : Prop :=
  ∀ c : Dev Cert.QuantReference.nD,
    (Cert.Pre_normal.fn (F := Bits) (m ((c.tc : Thread Cert.QuantReference.nD Cert.QuantReference.τ).loc Cert.QuantReference.main_arg0)) (m ((c.tc : Thread Cert.QuantReference.nD Cert.QuantReference.τ).loc Cert.QuantReference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_Quant_pre_normal [hQuant : Cert.Quant.Facts] [hPre_normal : Cert.Pre_normal.Facts] : Prop :=
  ∀ (m : (ℓ : Loc Cert.Quant.nD Cert.Quant.τ Cert.Quant.sig) → Buf (Elt Bits) ℓ) (g : Dev Cert.Quant.nD → PrngReg), Pre_Quant_normal m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantReference [hQuantReference : Cert.QuantReference.Facts] [hPre_normal : Cert.Pre_normal.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0)
      ∧ r.2.mem ((c.tc : Thread Cert.QuantReference.nD Cert.QuantReference.τ).loc Cert.QuantReference.main_arg1) = m ((c.tc : Thread Cert.QuantReference.nD Cert.QuantReference.τ).loc Cert.QuantReference.main_arg1))
      ∧ r.2.sem = fun _ => 0)

def preserves_Kernel_KernelIdeal : Prop :=
  IdealRules.named_const.Statement Cert.KernelIdeal.κ "inv_n" .f32 0x37888889#32 ((1 / 61440 : ℝ) : EReal)

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Quant_QuantReference_pre_normal [hQuant : Cert.Quant.Facts] [hQuantReference : Cert.QuantReference.Facts] [hPre_normal : Cert.Pre_normal.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant_normal m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)
      ∧ m' ((c.tc : Thread Cert.QuantReference.nD Cert.QuantReference.τ).loc Cert.QuantReference.main_arg1) = m ((c.tc : Thread Cert.Quant.nD Cert.Quant.τ).loc Cert.Quant.main_arg1)) →
    ∃ (v0 : (c : Dev Cert.Quant.nD) → Buf (Elt Bits) ((c.tc : Thread Cert.Quant.nD Cert.Quant.τ).loc Cert.Quant.main_v0_0)) (v1 : (c : Dev Cert.Quant.nD) → Buf (Elt Bits) ((c.tc : Thread Cert.Quant.nD Cert.Quant.τ).loc Cert.Quant.main_v1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v0_0) = v0 c
          ∧ r.2.mem ((c.tc : Thread Cert.Quant.nD Cert.Quant.τ).loc Cert.Quant.main_v1) = v1 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v12_0) = v0 c
          ∧ r.2.mem ((c.tc : Thread Cert.QuantReference.nD Cert.QuantReference.τ).loc Cert.QuantReference.main_v12_1) = v1 c
          ∧ r.2.mem ((c.tc : Thread Cert.QuantReference.nD Cert.QuantReference.τ).loc Cert.QuantReference.main_arg0) = m' ((c.tc : Thread Cert.QuantReference.nD Cert.QuantReference.τ).loc Cert.QuantReference.main_arg0)
          ∧ r.2.mem ((c.tc : Thread Cert.QuantReference.nD Cert.QuantReference.τ).loc Cert.QuantReference.main_arg1) = m' ((c.tc : Thread Cert.QuantReference.nD Cert.QuantReference.τ).loc Cert.QuantReference.main_arg1))

def Claim : Prop :=
  ∃ (hKernel : Cert.Kernel.Facts) (hKernelIdeal : Cert.KernelIdeal.Facts) (hReferenceIdeal : Cert.ReferenceIdeal.Facts) (hQuant : Cert.Quant.Facts) (hQuantReference : Cert.QuantReference.Facts) (hPre_domain : Cert.Pre_domain.Facts) (hPre_normal : Cert.Pre_normal.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ quiescent_Quant (hQuant := hQuant)
    ∧ quiescent_Quant_pre_normal (hQuant := hQuant) (hPre_normal := hPre_normal)
    ∧ quiescent_QuantReference (hQuantReference := hQuantReference) (hPre_normal := hPre_normal)
    ∧ preserves_Kernel_KernelIdeal
    ∧ algebraic_KernelIdeal_ReferenceIdeal_pre_domain (hKernelIdeal := hKernelIdeal) (hReferenceIdeal := hReferenceIdeal) (hPre_domain := hPre_domain)
    ∧ bitexact_Quant_QuantReference_pre_normal (hQuant := hQuant) (hQuantReference := hQuantReference) (hPre_normal := hPre_normal)
-- ==== Pre_domain.lean ====
abbrev S16x1024x1920 : Shape := ⟨3, ![16, 1024, 1920]⟩
abbrev S1920 : Shape := ⟨1, ![1920]⟩
abbrev S_ : Shape := ⟨0, ![]⟩

class Facts : Prop where
  bitsLt_bf16_f32 : FTy.bits .bf16 < FTy.bits .f32
  bcast_S_S16x1024x1920 : S_.BroadcastsInDim S16x1024x1920 (![] : Fin 0 → Fin S16x1024x1920.rank)
  reducesTo_S16x1024x1920_S_d0_1_2 : S16x1024x1920.ReducesTo [0, 1, 2] S_
  h_S_ : 0 < S_.numel
  bcast_S_S1920 : S_.BroadcastsInDim S1920 (![] : Fin 0 → Fin S1920.rank)
  reducesTo_S1920_S_d0 : S1920.ReducesTo [0] S_

variable [Facts]

def fn_part1 {F : FTy → Type} [FloatOps F] (main_arg4 : FVec F S_ .f32) (main_v13 : IVec S_ 1) (main_v15 : IVec S1920 1) (main_c_5 : IVec S_ 1) : IVec S_ 1 :=
  let main_v16 : IVec S_ 1 := (fun x v => Host.reduce IntOp.andi x v reducesTo_S1920_S_d0 h_S_) main_v15 main_c_5
  let main_v17 : IVec S_ 1 := andi main_v13 main_v16
  let main_cst_6 : FVec F S_ .f32 := constant S_ .f32 0x7F800000#32
  let main_v18 : IVec S_ 1 := cmpf .olt main_arg4 main_cst_6
  let main_v19 : IVec S_ 1 := andi main_v17 main_v18
  let main_cst_7 : FVec F S_ .f32 := constant S_ .f32 0x00000000#32
  let main_v20 : IVec S_ 1 := cmpf .oge main_arg4 main_cst_7
  let main_v21 : IVec S_ 1 := andi main_v19 main_v20
  main_v21

def fn {F : FTy → Type} [FloatOps F] (main_arg0 : FVec F S16x1024x1920 .bf16) (main_arg1 : FVec F S1920 .f32) (main_arg2 : FVec F S1920 .f32) (main_arg3 : FVec F S16x1024x1920 .fp8e5m2) (main_arg4 : FVec F S_ .f32) : IVec S_ 1 :=
  let main_v0 : FVec F S16x1024x1920 .f32 := (extf .f32 · bitsLt_bf16_f32) main_arg0
  let main_v1 : FVec F S16x1024x1920 .f32 := Host.absf main_v0
  let main_cst : FVec F S_ .f32 := constant S_ .f32 0x7F800000#32
  let main_v2 : FVec F S16x1024x1920 .f32 := broadcastInDim S16x1024x1920 ![] bcast_S_S16x1024x1920 main_cst
  let main_v3 : IVec S16x1024x1920 1 := cmpf .olt main_v1 main_v2
  let main_c : IVec S_ 1 := constantI S_ 1 1#1
  let main_v4 : IVec S_ 1 := (fun x v => Host.reduce IntOp.andi x v reducesTo_S16x1024x1920_S_d0_1_2 h_S_) main_v3 main_c
  let main_cst_0 : FVec F S_ .f32 := constant S_ .f32 0x7F800000#32
  let main_v5 : FVec F S1920 .f32 := broadcastInDim S1920 ![] bcast_S_S1920 main_cst_0
  let main_v6 : IVec S1920 1 := cmpf .olt main_arg1 main_v5
  let main_c_1 : IVec S_ 1 := constantI S_ 1 1#1
  let main_v7 : IVec S_ 1 := (fun x v => Host.reduce IntOp.andi x v reducesTo_S1920_S_d0 h_S_) main_v6 main_c_1
  let main_v8 : IVec S_ 1 := andi main_v4 main_v7
  let main_v9 : FVec F S1920 .f32 := Host.absf main_arg2
  let main_cst_2 : FVec F S_ .f32 := constant S_ .f32 0x7F800000#32
  let main_v10 : FVec F S1920 .f32 := broadcastInDim S1920 ![] bcast_S_S1920 main_cst_2
  let main_v11 : IVec S1920 1 := cmpf .olt main_v9 main_v10
  let main_c_3 : IVec S_ 1 := constantI S_ 1 1#1
  let main_v12 : IVec S_ 1 := (fun x v => Host.reduce IntOp.andi x v reducesTo_S1920_S_d0 h_S_) main_v11 main_c_3
  let main_v13 : IVec S_ 1 := andi main_v8 main_v12
  let main_cst_4 : FVec F S_ .f32 := constant S_ .f32 0x00000000#32
  let main_v14 : FVec F S1920 .f32 := broadcastInDim S1920 ![] bcast_S_S1920 main_cst_4
  let main_v15 : IVec S1920 1 := cmpf .oge main_arg1 main_v14
  let main_c_5 : IVec S_ 1 := constantI S_ 1 1#1
  fn_part1 (F := F) main_arg4 main_v13 main_v15 main_c_5
-- ==== Pre_normal.lean ====
abbrev S8x128 : Shape := ⟨2, ![8, 128]⟩
abbrev S16x1024x1920 : Shape := ⟨3, ![16, 1024, 1920]⟩
abbrev S_ : Shape := ⟨0, ![]⟩

class Facts : Prop where
  reducesTo_S8x128_S_d0_1 : S8x128.ReducesTo [0, 1] S_
  h_S_ : 0 < S_.numel

variable [Facts]

def fn {F : FTy → Type} [BitOps F] (main_arg0 : FVec F S8x128 .f32) (main_arg1 : FVec F S16x1024x1920 .f32) : IVec S_ 1 :=
  let main_cst : FVec F S_ .f32 := constant S_ .f32 0xFF800000#32
  let main_v0 : FVec F S_ .f32 := (fun x v => Host.reduce FloatOps.maximumf x v reducesTo_S8x128_S_d0_1 h_S_) main_arg0 main_cst
  let main_cst_0 : FVec F S_ .f32 := constant S_ .f32 0x37924925#32
  let main_v1 : FVec F S_ .f32 := mulf main_v0 main_cst_0
  let main_v2 : IVec S_ 32 := bitcastToInt main_v1
  let main_c : IVec S_ 32 := constantI S_ 32 23#32
  let main_v3 : IVec S_ 32 := Host.shrsi main_v2 main_c
  let main_c_1 : IVec S_ 32 := constantI S_ 32 255#32
  let main_v4 : IVec S_ 32 := andi main_v3 main_c_1
  let main_cst_2 : FVec F S_ .f32 := constant S_ .f32 0x00000000#32
  let main_v5 : IVec S_ 1 := cmpf .oeq main_v0 main_cst_2
  let main_c_3 : IVec S_ 32 := constantI S_ 32 0#32
  let main_v6 : IVec S_ 1 := cmpi .sgt main_v4 main_c_3
  let main_c_4 : IVec S_ 32 := constantI S_ 32 254#32
  let main_v7 : IVec S_ 1 := cmpi .slt main_v4 main_c_4
  let main_v8 : IVec S_ 1 := andi main_v6 main_v7
  let main_v9 : IVec S_ 1 := ori main_v5 main_v8
  main_v9
-- ==== Kernel.lean ====
abbrev S16x1024x1920 : Shape := ⟨3, ![16, 1024, 1920]⟩
abbrev S1920 : Shape := ⟨1, ![1920]⟩
abbrev S_ : Shape := ⟨0, ![]⟩
abbrev S1920x128 : Shape := ⟨2, ![1920, 128]⟩
abbrev S1x1 : Shape := ⟨2, ![1, 1]⟩
abbrev S1x1920 : Shape := ⟨2, ![1, 1920]⟩
abbrev S128x1920 : Shape := ⟨2, ![128, 1920]⟩
abbrev S8x128 : Shape := ⟨2, ![8, 128]⟩
abbrev S8x1920 : Shape := ⟨2, ![8, 1920]⟩
abbrev S1x1024x1920 : Shape := ⟨3, ![1, 1024, 1920]⟩
abbrev S1x16x128 : Shape := ⟨3, ![1, 16, 128]⟩
abbrev S16x128 : Shape := ⟨2, ![16, 128]⟩
abbrev S1x128 : Shape := ⟨2, ![1, 128]⟩
abbrev S1x32x128 : Shape := ⟨3, ![1, 32, 128]⟩
abbrev S32x128 : Shape := ⟨2, ![32, 128]⟩

abbrev nBuf : Space → Nat
  | .hbm => 41
  | .vmem => 18
  | .smem => 1
  | _ => 0

abbrev bufTy : (tb : Table) → Fin (tcTables nBuf tb) → BufTy
  | .hbm, ⟨0, _⟩ => ⟨S16x1024x1920, .bf16⟩
  | .hbm, ⟨1, _⟩ => ⟨S1920, .f32⟩
  | .hbm, ⟨2, _⟩ => ⟨S1920, .f32⟩
  | .hbm, ⟨3, _⟩ => ⟨S16x1024x1920, .fp8e5m2⟩
  | .hbm, ⟨4, _⟩ => ⟨S_, .f32⟩
  | .hbm, ⟨5, _⟩ => ⟨S1920x128, .i32⟩
  | .hbm, ⟨6, _⟩ => ⟨S_, .i32⟩
  | .hbm, ⟨7, _⟩ => ⟨S_, .i32⟩
  | .hbm, ⟨8, _⟩ => ⟨S1920x128, .i32⟩
  | .hbm, ⟨9, _⟩ => ⟨S1920x128, .i32⟩
  | .hbm, ⟨10, _⟩ => ⟨S1920x128, .i32⟩
  | .hbm, ⟨11, _⟩ => ⟨S_, .i32⟩
  | .hbm, ⟨12, _⟩ => ⟨S1920x128, .i32⟩
  | .hbm, ⟨13, _⟩ => ⟨S1920x128, .i1⟩
  | .hbm, ⟨14, _⟩ => ⟨S1920x128, .i32⟩
  | .hbm, ⟨15, _⟩ => ⟨S1920x128, .i32⟩
  | .hbm, ⟨16, _⟩ => ⟨S_, .i32⟩
  | .hbm, ⟨17, _⟩ => ⟨S1920x128, .i32⟩
  | .hbm, ⟨18, _⟩ => ⟨S1920x128, .i1⟩
  | .hbm, ⟨19, _⟩ => ⟨S1920x128, .i1⟩
  | .hbm, ⟨20, _⟩ => ⟨S_, .i32⟩
  | .hbm, ⟨21, _⟩ => ⟨S1920x128, .i32⟩
  | .hbm, ⟨22, _⟩ => ⟨S1920x128, .i32⟩
  | .hbm, ⟨23, _⟩ => ⟨S1920x128, .i32⟩
  | .hbm, ⟨24, _⟩ => ⟨S1920x128, .i32⟩
  | .hbm, ⟨25, _⟩ => ⟨S1920x128, .i1⟩
  | .hbm, ⟨26, _⟩ => ⟨S1920x128, .f32⟩
  | .hbm, ⟨27, _⟩ => ⟨S1x1, .f32⟩
  | .hbm, ⟨28, _⟩ => ⟨S1x1920, .f32⟩
  | .hbm, ⟨29, _⟩ => ⟨S1x1920, .f32⟩
  | .hbm, ⟨30, _⟩ => ⟨S128x1920, .f32⟩
  | .hbm, ⟨31, _⟩ => ⟨S16x1024x1920, .f32⟩
  | .hbm, ⟨32, _⟩ => ⟨S8x128, .f32⟩
  | .hbm, ⟨33, _⟩ => ⟨S8x1920, .f32⟩
  | .hbm, ⟨34, _⟩ => ⟨S8x1920, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1920, .f32⟩
  | .hbm, ⟨39, _⟩ => ⟨S_, .f32⟩
  | .hbm, ⟨40, _⟩ => ⟨S1920, .f32⟩
  | .local _ .vmem, ⟨0, _⟩ => ⟨S1x1024x1920, .bf16⟩
  | .local _ .vmem, ⟨1, _⟩ => ⟨S1x1024x1920, .bf16⟩
  | .local _ .vmem, ⟨2, _⟩ => ⟨S1x1024x1920, .fp8e5m2⟩
  | .local _ .vmem, ⟨3, _⟩ => ⟨S1x1024x1920, .fp8e5m2⟩
  | .local _ .vmem, ⟨4, _⟩ => ⟨S1x1920, .f32⟩
  | .local _ .vmem, ⟨5, _⟩ => ⟨S1x1920, .f32⟩
  | .local _ .vmem, ⟨6, _⟩ => ⟨S1920x128, .f32⟩
  | .local _ .vmem, ⟨7, _⟩ => ⟨S128x1920, .f32⟩
  | .local _ .vmem, ⟨8, _⟩ => ⟨S1x1024x1920, .f32⟩
  | .local _ .vmem, ⟨9, _⟩ => ⟨S1x1024x1920, .f32⟩
  | .local _ .vmem, ⟨10, _⟩ => ⟨S8x128, .f32⟩
  | .local _ .vmem, ⟨11, _⟩ => ⟨S8x1920, .f32⟩
  | .local _ .vmem, ⟨12, _⟩ => ⟨S8x1920, .f32⟩
  | .local _ .vmem, ⟨13, _⟩ => ⟨S8x1920, .f32⟩
  | .local _ .vmem, ⟨14, _⟩ => ⟨S8x1920, .f32⟩
  | .local _ .vmem, ⟨15, _⟩ => ⟨S8x1920, .f32⟩
  | .local _ .vmem, ⟨16, _⟩ => ⟨S8x1920, .f32⟩
  | .local _ .vmem, ⟨17, _⟩ => ⟨S8x1920, .f32⟩
  | .local _ .smem, ⟨0, _⟩ => ⟨S1x1, .f32⟩
  | _, _ => ⟨S16x1024x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9_0 : Ref sig .tc := ⟨.hbm, 31, rfl⟩
abbrev main_v9_1 : Ref sig .tc := ⟨.hbm, 32, rfl⟩
abbrev main_v9_2 : Ref sig .tc := ⟨.hbm, 33, rfl⟩
abbrev main_v9_3 : Ref sig .tc := ⟨.hbm, 34, rfl⟩
abbrev main_cst : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c15_i32 : BitVec 32 := 15#32
  let v4 : BitVec 32 := Scalar.addi c0_i32_1 c15_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg17 : BitVec 32 := Scf.iv c0_i32_1 c1_i32 k0_t1
  let c128_i32 : BitVec 32 := 128#32
  let v123 : BitVec 32 := Scalar.muli arg17 c128_i32
  v123
@[reducible] def k0_t2_loop : Scf.Loop 32 :=
  let c0_i32_85 : BitVec 32 := 0#32
  let c8_i32 : BitVec 32 := 8#32
  let v125 : BitVec 32 := Scalar.addi c0_i32_85 c8_i32
  let c1_i32_86 : BitVec 32 := 1#32
  ⟨c0_i32_85, v125, c1_i32_86⟩
def k0_off1 (k0_t1 : Fin k0_t1_loop.trips) (k0_t2 : Fin k0_t2_loop.trips) (c0_i32_90 : BitVec 32) : Fin 3 → Nat :=
  let c0_91 : Index := 0#32
  let c0_i32_85 : BitVec 32 := 0#32
  let c1_i32_86 : BitVec 32 := 1#32
  let arg18 : BitVec 32 := Scf.iv c0_i32_85 c1_i32_86 k0_t2
  let c128_i32_89 : BitVec 32 := 128#32
  let v131 : BitVec 32 := Scalar.muli arg18 c128_i32_89
  let v132 : BitVec 32 := Scalar.addi v131 c0_i32_90
  let v133 : Index := Scalar.indexCast v132
  let c0_i32_1 : BitVec 32 := 0#32
  let c1_i32 : BitVec 32 := 1#32
  let arg17 : BitVec 32 := Scf.iv c0_i32_1 c1_i32 k0_t1
  let c128_i32 : BitVec 32 := 128#32
  let v123 : BitVec 32 := Scalar.muli arg17 c128_i32
  let v124 : BitVec 32 := v123
  let v134 : Index := Scalar.indexCast v124
  ![0, v133.toNat, v134.toNat]
def k0_off2 (k0_t1 : Fin k0_t1_loop.trips) : Fin 2 → Nat :=
  let c0_88 : Index := 0#32
  let c0_i32_1 : BitVec 32 := 0#32
  let c1_i32 : BitVec 32 := 1#32
  let arg17 : BitVec 32 := Scf.iv c0_i32_1 c1_i32 k0_t1
  let c128_i32 : BitVec 32 := 128#32
  let v123 : BitVec 32 := Scalar.muli arg17 c128_i32
  let v124 : BitVec 32 := v123
  let v127 : Index := Scalar.indexCast v124
  ![0, v127.toNat]
@[reducible] def k0_t3_loop : Scf.Loop 32 :=
  let c0_i32_14 : BitVec 32 := 0#32
  let c15_i32_15 : BitVec 32 := 15#32
  let v22 : BitVec 32 := Scalar.addi c0_i32_14 c15_i32_15
  let c1_i32_16 : BitVec 32 := 1#32
  ⟨c0_i32_14, v22, c1_i32_16⟩
def k0_mult2 (k0_t3 : Fin k0_t3_loop.trips) : BitVec 32 :=
  let c0_i32_14 : BitVec 32 := 0#32
  let c1_i32_16 : BitVec 32 := 1#32
  let arg17 : BitVec 32 := Scf.iv c0_i32_14 c1_i32_16 k0_t3
  let c128_i32 : BitVec 32 := 128#32
  let v123 : BitVec 32 := Scalar.muli arg17 c128_i32
  v123
def k0_off3 (k0_t3 : Fin k0_t3_loop.trips) : Fin 2 → Nat :=
  let c0_85 : Index := 0#32
  let c0_i32_14 : BitVec 32 := 0#32
  let c1_i32_16 : BitVec 32 := 1#32
  let arg17 : BitVec 32 := Scf.iv c0_i32_14 c1_i32_16 k0_t3
  let c128_i32 : BitVec 32 := 128#32
  let v123 : BitVec 32 := Scalar.muli arg17 c128_i32
  let v124 : BitVec 32 := v123
  let v125 : Index := Scalar.indexCast v124
  ![0, v125.toNat]
@[reducible] def k0_t4_loop : Scf.Loop 32 :=
  let c0_i32_86 : BitVec 32 := 0#32
  let c8_i32 : BitVec 32 := 8#32
  let v127 : BitVec 32 := Scalar.addi c0_i32_86 c8_i32
  let c1_i32_87 : BitVec 32 := 1#32
  ⟨c0_i32_86, v127, c1_i32_87⟩
def k0_off4 (k0_t3 : Fin k0_t3_loop.trips) (k0_t4 : Fin k0_t4_loop.trips) (c0_i32_91 : BitVec 32) : Fin 3 → Nat :=
  let c0_92 : Index := 0#32
  let c0_i32_86 : BitVec 32 := 0#32
  let c1_i32_87 : BitVec 32 := 1#32
  let arg18 : BitVec 32 := Scf.iv c0_i32_86 c1_i32_87 k0_t4
  let c128_i32_90 : BitVec 32 := 128#32
  let v133 : BitVec 32 := Scalar.muli arg18 c128_i32_90
  let v134 : BitVec 32 := Scalar.addi v133 c0_i32_91
  let v135 : Index := Scalar.indexCast v134
  let c0_i32_14 : BitVec 32 := 0#32
  let c1_i32_16 : BitVec 32 := 1#32
  let arg17 : BitVec 32 := Scf.iv c0_i32_14 c1_i32_16 k0_t3
  let c128_i32 : BitVec 32 := 128#32
  let v123 : BitVec 32 := Scalar.muli arg17 c128_i32
  let v124 : BitVec 32 := v123
  let v136 : Index := Scalar.indexCast v124
  ![0, v135.toNat, v136.toNat]
def k0_off5 (k0_t3 : Fin k0_t3_loop.trips) : Fin 2 → Nat :=
  let c0_89 : Index := 0#32
  let c0_i32_14 : BitVec 32 := 0#32
  let c1_i32_16 : BitVec 32 := 1#32
  let arg17 : BitVec 32 := Scf.iv c0_i32_14 c1_i32_16 k0_t3
  let c128_i32 : BitVec 32 := 128#32
  let v123 : BitVec 32 := Scalar.muli arg17 c128_i32
  let v124 : BitVec 32 := v123
  let v129 : Index := Scalar.indexCast v124
  ![0, v129.toNat]
@[reducible] def k0_t5_loop : Scf.Loop 32 :=
  let c0_i32_37 : BitVec 32 := 0#32
  let c15_i32_38 : BitVec 32 := 15#32
  let v52 : BitVec 32 := Scalar.addi c0_i32_37 c15_i32_38
  let c1_i32_39 : BitVec 32 := 1#32
  ⟨c0_i32_37, v52, c1_i32_39⟩
def k0_mult3 (k0_t5 : Fin k0_t5_loop.trips) : BitVec 32 :=
  let c0_i32_37 : BitVec 32 := 0#32
  let c1_i32_39 : BitVec 32 := 1#32
  let arg17 : BitVec 32 := Scf.iv c0_i32_37 c1_i32_39 k0_t5
  let c128_i32 : BitVec 32 := 128#32
  let v123 : BitVec 32 := Scalar.muli arg17 c128_i32
  v123
def k0_off6 (k0_t5 : Fin k0_t5_loop.trips) : Fin 2 → Nat :=
  let c0_85 : Index := 0#32
  let c0_i32_37 : BitVec 32 := 0#32
  let c1_i32_39 : BitVec 32 := 1#32
  let arg17 : BitVec 32 := Scf.iv c0_i32_37 c1_i32_39 k0_t5
  let c128_i32 : BitVec 32 := 128#32
  let v123 : BitVec 32 := Scalar.muli arg17 c128_i32
  let v124 : BitVec 32 := v123
  let v125 : Index := Scalar.indexCast v124
  ![0, v125.toNat]
def k0_off7 (k0_t5 : Fin k0_t5_loop.trips) : Fin 2 → Nat :=
  let c1_86 : Index := 1#32
  let c0_i32_37 : BitVec 32 := 0#32
  let c1_i32_39 : BitVec 32 := 1#32
  let arg17 : BitVec 32 := Scf.iv c0_i32_37 c1_i32_39 k0_t5
  let c128_i32 : BitVec 32 := 128#32
  let v123 : BitVec 32 := Scalar.muli arg17 c128_i32
  let v124 : BitVec 32 := v123
  let v127 : Index := Scalar.indexCast v124
  ![1, v127.toNat]
def k0_off8 (k0_t5 : Fin k0_t5_loop.trips) : Fin 2 → Nat :=
  let c2_87 : Index := 2#32
  let c0_i32_37 : BitVec 32 := 0#32
  let c1_i32_39 : BitVec 32 := 1#32
  let arg17 : BitVec 32 := Scf.iv c0_i32_37 c1_i32_39 k0_t5
  let c128_i32 : BitVec 32 := 128#32
  let v123 : BitVec 32 := Scalar.muli arg17 c128_i32
  let v124 : BitVec 32 := v123
  let v129 : Index := Scalar.indexCast v124
  ![2, v129.toNat]
@[reducible] def k0_t6_loop : Scf.Loop 32 :=
  let c0_i32_88 : BitVec 32 := 0#32
  let c8_i32 : BitVec 32 := 8#32
  let v131 : BitVec 32 := Scalar.addi c0_i32_88 c8_i32
  let c1_i32_89 : BitVec 32 := 1#32
  ⟨c0_i32_88, v131, c1_i32_89⟩
def k0_off9 (k0_t5 : Fin k0_t5_loop.trips) (k0_t6 : Fin k0_t6_loop.trips) (c0_i32_94 : BitVec 32) : Fin 3 → Nat :=
  let c0_95 : Index := 0#32
  let c0_i32_88 : BitVec 32 := 0#32
  let c1_i32_89 : BitVec 32 := 1#32
  let arg18 : BitVec 32 := Scf.iv c0_i32_88 c1_i32_89 k0_t6
  let c128_i32_93 : BitVec 32 := 128#32
  let v141 : BitVec 32 := Scalar.muli arg18 c128_i32_93
  let v142 : BitVec 32 := Scalar.addi v141 c0_i32_94
  let v143 : Index := Scalar.indexCast v142
  let c0_i32_37 : BitVec 32 := 0#32
  let c1_i32_39 : BitVec 32 := 1#32
  let arg17 : BitVec 32 := Scf.iv c0_i32_37 c1_i32_39 k0_t5
  let c128_i32 : BitVec 32 := 128#32
  let v123 : BitVec 32 := Scalar.muli arg17 c128_i32
  let v124 : BitVec 32 := v123
  let v144 : Index := Scalar.indexCast v124
  ![0, v143.toNat, v144.toNat]
def k0_off10 (k0_t5 : Fin k0_t5_loop.trips) : Fin 2 → Nat :=
  let c0_91 : Index := 0#32
  let c0_i32_37 : BitVec 32 := 0#32
  let c1_i32_39 : BitVec 32 := 1#32
  let arg17 : BitVec 32 := Scf.iv c0_i32_37 c1_i32_39 k0_t5
  let c128_i32 : BitVec 32 := 128#32
  let v123 : BitVec 32 := Scalar.muli arg17 c128_i32
  let v124 : BitVec 32 := v123
  let v133 : Index := Scalar.indexCast v124
  ![0, v133.toNat]
@[reducible] def k0_t7_loop : Scf.Loop 32 :=
  let c0_i32_79 : BitVec 32 := 0#32
  let c15_i32_80 : BitVec 32 := 15#32
  let v120 : BitVec 32 := Scalar.addi c0_i32_79 c15_i32_80
  let c1_i32_81 : BitVec 32 := 1#32
  ⟨c0_i32_79, v120, c1_i32_81⟩
def k0_mult4 (k0_t7 : Fin k0_t7_loop.trips) : BitVec 32 :=
  let c0_i32_79 : BitVec 32 := 0#32
  let c1_i32_81 : BitVec 32 := 1#32
  let arg17 : BitVec 32 := Scf.iv c0_i32_79 c1_i32_81 k0_t7
  let c128_i32 : BitVec 32 := 128#32
  let v123 : BitVec 32 := Scalar.muli arg17 c128_i32
  v123
def k0_off11 (k0_t7 : Fin k0_t7_loop.trips) : Fin 2 → Nat :=
  let c0_85 : Index := 0#32
  let c0_i32_79 : BitVec 32 := 0#32
  let c1_i32_81 : BitVec 32 := 1#32
  let arg17 : BitVec 32 := Scf.iv c0_i32_79 c1_i32_81 k0_t7
  let c128_i32 : BitVec 32 := 128#32
  let v123 : BitVec 32 := Scalar.muli arg17 c128_i32
  let v124 : BitVec 32 := v123
  let v125 : Index := Scalar.indexCast v124
  ![0, v125.toNat]
def k0_off12 (k0_t7 : Fin k0_t7_loop.trips) : Fin 2 → Nat :=
  let c1_87 : Index := 1#32
  let c0_i32_79 : BitVec 32 := 0#32
  let c1_i32_81 : BitVec 32 := 1#32
  let arg17 : BitVec 32 := Scf.iv c0_i32_79 c1_i32_81 k0_t7
  let c128_i32 : BitVec 32 := 128#32
  let v123 : BitVec 32 := Scalar.muli arg17 c128_i32
  let v124 : BitVec 32 := v123
  let v129 : Index := Scalar.indexCast v124
  ![1, v129.toNat]
def k0_off13 (k0_t7 : Fin k0_t7_loop.trips) : Fin 2 → Nat :=
  let c2_88 : Index := 2#32
  let c0_i32_79 : BitVec 32 := 0#32
  let c1_i32_81 : BitVec 32 := 1#32
  let arg17 : BitVec 32 := Scf.iv c0_i32_79 c1_i32_81 k0_t7
  let c128_i32 : BitVec 32 := 128#32
  let v123 : BitVec 32 := Scalar.muli arg17 c128_i32
  let v124 : BitVec 32 := v123
  let v131 : Index := Scalar.indexCast v124
  ![2, v131.toNat]
@[reducible] def k0_t8_loop : Scf.Loop 32 :=
  let c0_i32_89 : BitVec 32 := 0#32
  let c8_i32 : BitVec 32 := 8#32
  let v133 : BitVec 32 := Scalar.addi c0_i32_89 c8_i32
  let c1_i32_90 : BitVec 32 := 1#32
  ⟨c0_i32_89, v133, c1_i32_90⟩
def k0_off14 (k0_t7 : Fin k0_t7_loop.trips) (k0_t8 : Fin k0_t8_loop.trips) (c0_i32_93 : BitVec 32) : Fin 3 → Nat :=
  let c0_94 : Index := 0#32
  let c0_i32_89 : BitVec 32 := 0#32
  let c1_i32_90 : BitVec 32 := 1#32
  let arg19 : BitVec 32 := Scf.iv c0_i32_89 c1_i32_90 k0_t8
  let c128_i32_92 : BitVec 32 := 128#32
  let v135 : BitVec 32 := Scalar.muli arg19 c128_i32_92
  let v136 : BitVec 32 := Scalar.addi v135 c0_i32_93
  let v137 : Index := Scalar.indexCast v136
  let c0_i32_79 : BitVec 32 := 0#32
  let c1_i32_81 : BitVec 32 := 1#32
  let arg17 : BitVec 32 := Scf.iv c0_i32_79 c1_i32_81 k0_t7
  let c128_i32 : BitVec 32 := 128#32
  let v123 : BitVec 32 := Scalar.muli arg17 c128_i32
  let v124 : BitVec 32 := v123
  let v138 : Index := Scalar.indexCast v124
  ![0, v137.toNat, v138.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1920 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1920x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1920 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_n" => some ((1 / 61440 : ℝ) : EReal)
  | _ => none
-- ==== ReferenceIdeal.lean ====
abbrev S16x1024x1920 : Shape := ⟨3, ![16, 1024, 1920]⟩
abbrev S1920 : Shape := ⟨1, ![1920]⟩
abbrev S_ : Shape := ⟨0, ![]⟩
abbrev S16x1024x32x60 : Shape := ⟨4, ![16, 1024, 32, 60]⟩
abbrev S32x60 : Shape := ⟨2, ![32, 60]⟩
abbrev S16x32 : Shape := ⟨2, ![16, 32]⟩
abbrev S16x1x32x1 : Shape := ⟨4, ![16, 1, 32, 1]⟩
abbrev S1x1x32x60 : Shape := ⟨4, ![1, 1, 32, 60]⟩

abbrev nBuf : Space → Nat
  | .hbm => 91
  | .vmem => 2
  | .smem => 0
  | _ => 0

abbrev bufTy : (tb : Table) → Fin (tcTables nBuf tb) → BufTy
  | .hbm, ⟨0, _⟩ => ⟨S16x1024x1920, .bf16⟩
  | .hbm, ⟨1, _⟩ => ⟨S1920, .f32⟩
  | .hbm, ⟨2, _⟩ => ⟨S1920, .f32⟩
  | .hbm, ⟨3, _⟩ => ⟨S16x1024x1920, .fp8e5m2⟩
  | .hbm, ⟨4, _⟩ => ⟨S_, .f32⟩
  | .hbm, ⟨5, _⟩ => ⟨S16x1024x1920, .f32⟩
  | .hbm, ⟨6, _⟩ => ⟨S16x1024x32x60, .f32⟩
  | .hbm, ⟨7, _⟩ => ⟨S16x1024x1920, .f32⟩
  | .hbm, ⟨8, _⟩ => ⟨S16x1024x1920, .f32⟩
  | .hbm, ⟨9, _⟩ => ⟨S16x1024x1920, .f32⟩
  | .hbm, ⟨10, _⟩ => ⟨S16x1024x32x60, .f32⟩
  | .hbm, ⟨11, _⟩ => ⟨S32x60, .f32⟩
  | .hbm, ⟨12, _⟩ => ⟨S32x60, .f32⟩
  | .hbm, ⟨13, _⟩ => ⟨S_, .f32⟩
  | .hbm, ⟨14, _⟩ => ⟨S16x32, .f32⟩
  | .hbm, ⟨15, _⟩ => ⟨S16x1x32x1, .f32⟩
  | .hbm, ⟨16, _⟩ => ⟨S_, .f32⟩
  | .hbm, ⟨17, _⟩ => ⟨S16x1x32x1, .f32⟩
  | .hbm, ⟨18, _⟩ => ⟨S16x1x32x1, .f32⟩
  | .hbm, ⟨19, _⟩ => ⟨S16x1024x32x60, .f32⟩
  | .hbm, ⟨20, _⟩ => ⟨S16x1024x32x60, .f32⟩
  | .hbm, ⟨21, _⟩ => ⟨S16x1024x32x60, .f32⟩
  | .hbm, ⟨22, _⟩ => ⟨S_, .f32⟩
  | .hbm, ⟨23, _⟩ => ⟨S16x32, .f32⟩
  | .hbm, ⟨24, _⟩ => ⟨S16x1x32x1, .f32⟩
  | .hbm, ⟨25, _⟩ => ⟨S_, .f32⟩
  | .hbm, ⟨26, _⟩ => ⟨S16x1x32x1, .f32⟩
  | .hbm, ⟨27, _⟩ => ⟨S16x1x32x1, .f32⟩
  | .hbm, ⟨28, _⟩ => ⟨S_, .f32⟩
  | .hbm, ⟨29, _⟩ => ⟨S16x1x32x1, .f32⟩
  | .hbm, ⟨30, _⟩ => ⟨S16x1x32x1, .f32⟩
  | .hbm, ⟨31, _⟩ => ⟨S16x1x32x1, .f32⟩
  | .hbm, ⟨32, _⟩ => ⟨S16x1024x32x60, .f32⟩
  | .hbm, ⟨33, _⟩ => ⟨S16x1024x32x60, .f32⟩
  | .hbm, ⟨34, _⟩ => ⟨S1x1x32x60, .f32⟩
  | .hbm, ⟨35, _⟩ => ⟨S16x1024x32x60, .f32⟩
  | .hbm, ⟨36, _⟩ => ⟨S16x1024x32x60, .f32⟩
  | .hbm, ⟨37, _⟩ => ⟨S1x1x32x60, .f32⟩
  | .hbm, ⟨38, _⟩ => ⟨S16x1024x32x60, .f32⟩
  | .hbm, ⟨39, _⟩ => ⟨S16x1024x32x60, .f32⟩
  | .hbm, ⟨40, _⟩ => ⟨S16x1024x32x60, .f32⟩
  | .hbm, ⟨41, _⟩ => ⟨S16x1024x32x60, .f32⟩
  | .hbm, ⟨42, _⟩ => ⟨S_, .f32⟩
  | .hbm, ⟨43, _⟩ => ⟨S16x1024x32x60, .f32⟩
  | .hbm, ⟨44, _⟩ => ⟨S16x1024x32x60, .f32⟩
  | .hbm, ⟨45, _⟩ => ⟨S_, .f32⟩
  | .hbm, ⟨46, _⟩ => ⟨S16x1024x32x60, .f32⟩
  | .hbm, ⟨47, _⟩ => ⟨S16x1024x32x60, .f32⟩
  | .hbm, ⟨48, _⟩ => ⟨S16x1024x32x60, .f32⟩
  | .hbm, ⟨49, _⟩ => ⟨S_, .f32⟩
  | .hbm, ⟨50, _⟩ => ⟨S16x1024x32x60, .f32⟩
  | .hbm, ⟨51, _⟩ => ⟨S16x1024x32x60, .f32⟩
  | .hbm, ⟨52, _⟩ => ⟨S16x1024x32x60, .f32⟩
  | .hbm, ⟨53, _⟩ => ⟨S_, .f32⟩
  | .hbm, ⟨54, _⟩ => ⟨S16x1024x32x60, .f32⟩
  | .hbm, ⟨55, _⟩ => ⟨S16x1024x32x60, .f32⟩
  | .hbm, ⟨56, _⟩ => ⟨S16x1024x32x60, .f32⟩
  | .hbm, ⟨57, _⟩ => ⟨S16x1024x32x60, .f32⟩
  | .hbm, ⟨58, _⟩ => ⟨S_, .f32⟩
  | .hbm, ⟨59, _⟩ => ⟨S32x60, .f32⟩
  | .hbm, ⟨60, _⟩ => ⟨S1920, .f32⟩
  | .hbm, ⟨61, _⟩ => ⟨S_, .f32⟩
  | .hbm, ⟨62, _⟩ => ⟨S32x60, .f32⟩
  | .hbm, ⟨63, _⟩ => ⟨S1920, .f32⟩
  | .hbm, ⟨64, _⟩ => ⟨S1x1x32x60, .f32⟩
  | .hbm, ⟨65, _⟩ => ⟨S16x1024x32x60, .f32⟩
  | .hbm, ⟨66, _⟩ => ⟨S16x1024x32x60, .f32⟩
  | .hbm, ⟨67, _⟩ => ⟨S_, .f32⟩
  | .hbm, ⟨68, _⟩ => ⟨S16x32, .f32⟩
  | .hbm, ⟨69, _⟩ => ⟨S16x1x32x1, .f32⟩
  | .hbm, ⟨70, _⟩ => ⟨S_, .f32⟩
  | .hbm, ⟨71, _⟩ => ⟨S16x1x32x1, .f32⟩
  | .hbm, ⟨72, _⟩ => ⟨S16x1x32x1, .f32⟩
  | .hbm, ⟨73, _⟩ => ⟨S16x1024x32x60, .f32⟩
  | .hbm, ⟨74, _⟩ => ⟨S_, .f32⟩
  | .hbm, ⟨75, _⟩ => ⟨S16x32, .f32⟩
  | .hbm, ⟨76, _⟩ => ⟨S16x1x32x1, .f32⟩
  | .hbm, ⟨77, _⟩ => ⟨S_, .f32⟩
  | .hbm, ⟨78, _⟩ => ⟨S16x1x32x1, .f32⟩
  | .hbm, ⟨79, _⟩ => ⟨S16x1x32x1, .f32⟩
  | .hbm, ⟨80, _⟩ => ⟨S16x1024x32x60, .f32⟩
  | .hbm, ⟨81, _⟩ => ⟨S16x1024x32x60, .f32⟩
  | .hbm, ⟨82, _⟩ => ⟨S16x1024x32x60, .f32⟩
  | .hbm, ⟨83, _⟩ => ⟨S16x1024x32x60, .f32⟩
  | .hbm, ⟨84, _⟩ => ⟨S16x1024x32x60, .f32⟩
  | .hbm, ⟨85, _⟩ => ⟨S16x1024x32x60, .f32⟩
  | .hbm, ⟨86, _⟩ => ⟨S16x1024x32x60, .f32⟩
  | .hbm, ⟨87, _⟩ => ⟨S16x1024x1920, .f32⟩
  | .hbm, ⟨88, _⟩ => ⟨S16x1024x1920, .f32⟩
  | .hbm, ⟨89, _⟩ => ⟨S_, .f32⟩
  | .hbm, ⟨90, _⟩ => ⟨S_, .f32⟩
  | .local _ .vmem, ⟨0, _⟩ => ⟨S16x1024x1920, .fp8e5m2⟩
  | .local _ .vmem, ⟨1, _⟩ => ⟨S16x1024x1920, .f32⟩
  | _, _ => ⟨S16x1024x1920, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x1024x1920 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Quant.lean ====
abbrev S8x128 : Shape := ⟨2, ![8, 128]⟩
abbrev S16x1024x1920 : Shape := ⟨3, ![16, 1024, 1920]⟩
abbrev S1x1 : Shape := ⟨2, ![1, 1]⟩
abbrev S1x1024x1920 : Shape := ⟨3, ![1, 1024, 1920]⟩
abbrev S1x8x128 : Shape := ⟨3, ![1, 8, 128]⟩
abbrev S1 : Shape := ⟨1, ![1]⟩
abbrev S1x1x1 : Shape := ⟨3, ![1, 1, 1]⟩
abbrev S1x32x128 : Shape := ⟨3, ![1, 32, 128]⟩
abbrev S32x128 : Shape := ⟨2, ![32, 128]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S8x128, .f32⟩
  | .hbm, ⟨1, _⟩ => ⟨S16x1024x1920, .f32⟩
  | .hbm, ⟨2, _⟩ => ⟨S16x1024x1920, .fp8e5m2⟩
  | .hbm, ⟨3, _⟩ => ⟨S1x1, .f32⟩
  | .hbm, ⟨4, _⟩ => ⟨S_, .f32⟩
  | .local _ .vmem, ⟨0, _⟩ => ⟨S8x128, .f32⟩
  | .local _ .vmem, ⟨1, _⟩ => ⟨S1x1024x1920, .f32⟩
  | .local _ .vmem, ⟨2, _⟩ => ⟨S1x1024x1920, .f32⟩
  | .local _ .vmem, ⟨3, _⟩ => ⟨S1x1024x1920, .fp8e5m2⟩
  | .local _ .vmem, ⟨4, _⟩ => ⟨S1x1024x1920, .fp8e5m2⟩
  | .local _ .vmem, ⟨5, _⟩ => ⟨S1x1, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_9 : BitVec 32 := 0#32
  let c15_i32 : BitVec 32 := 15#32
  let v32 : BitVec 32 := Scalar.addi c0_i32_9 c15_i32
  let c1_i32 : BitVec 32 := 1#32
  ⟨c0_i32_9, v32, c1_i32⟩
def k0_mult1 (k0_t1 : Fin k0_t1_loop.trips) : BitVec 32 :=
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  v33
def k0_off1 (k0_t1 : Fin k0_t1_loop.trips) : Fin 3 → Nat :=
  let c0_11 : Index := 0#32
  let c0_12 : Index := 0#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v35 : Index := Scalar.indexCast v34
  ![0, 0, v35.toNat]
def k0_off2 (k0_t1 : Fin k0_t1_loop.trips) : Fin 3 → Nat :=
  let c0_17 : Index := 0#32
  let c32 : Index := 32#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v49 : Index := Scalar.indexCast v34
  ![0, 32, v49.toNat]
def k0_off3 (k0_t1 : Fin k0_t1_loop.trips) : Fin 3 → Nat :=
  let c0_22 : Index := 0#32
  let c64 : Index := 64#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v63 : Index := Scalar.indexCast v34
  ![0, 64, v63.toNat]
def k0_off4 (k0_t1 : Fin k0_t1_loop.trips) : Fin 3 → Nat :=
  let c0_27 : Index := 0#32
  let c96 : Index := 96#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v77 : Index := Scalar.indexCast v34
  ![0, 96, v77.toNat]
def k0_off5 (k0_t1 : Fin k0_t1_loop.trips) : Fin 3 → Nat :=
  let c0_32 : Index := 0#32
  let c128 : Index := 128#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v91 : Index := Scalar.indexCast v34
  ![0, 128, v91.toNat]
def k0_off6 (k0_t1 : Fin k0_t1_loop.trips) : Fin 3 → Nat :=
  let c0_37 : Index := 0#32
  let c160 : Index := 160#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v105 : Index := Scalar.indexCast v34
  ![0, 160, v105.toNat]
def k0_off7 (k0_t1 : Fin k0_t1_loop.trips) : Fin 3 → Nat :=
  let c0_42 : Index := 0#32
  let c192 : Index := 192#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v119 : Index := Scalar.indexCast v34
  ![0, 192, v119.toNat]
def k0_off8 (k0_t1 : Fin k0_t1_loop.trips) : Fin 3 → Nat :=
  let c0_47 : Index := 0#32
  let c224 : Index := 224#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v133 : Index := Scalar.indexCast v34
  ![0, 224, v133.toNat]
def k0_off9 (k0_t1 : Fin k0_t1_loop.trips) : Fin 3 → Nat :=
  let c0_52 : Index := 0#32
  let c256 : Index := 256#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v147 : Index := Scalar.indexCast v34
  ![0, 256, v147.toNat]
def k0_off10 (k0_t1 : Fin k0_t1_loop.trips) : Fin 3 → Nat :=
  let c0_57 : Index := 0#32
  let c288 : Index := 288#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v161 : Index := Scalar.indexCast v34
  ![0, 288, v161.toNat]
def k0_off11 (k0_t1 : Fin k0_t1_loop.trips) : Fin 3 → Nat :=
  let c0_62 : Index := 0#32
  let c320 : Index := 320#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v175 : Index := Scalar.indexCast v34
  ![0, 320, v175.toNat]
def k0_off12 (k0_t1 : Fin k0_t1_loop.trips) : Fin 3 → Nat :=
  let c0_67 : Index := 0#32
  let c352 : Index := 352#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v189 : Index := Scalar.indexCast v34
  ![0, 352, v189.toNat]
def k0_off13 (k0_t1 : Fin k0_t1_loop.trips) : Fin 3 → Nat :=
  let c0_72 : Index := 0#32
  let c384 : Index := 384#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v203 : Index := Scalar.indexCast v34
  ![0, 384, v203.toNat]
def k0_off14 (k0_t1 : Fin k0_t1_loop.trips) : Fin 3 → Nat :=
  let c0_77 : Index := 0#32
  let c416 : Index := 416#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v217 : Index := Scalar.indexCast v34
  ![0, 416, v217.toNat]
def k0_off15 (k0_t1 : Fin k0_t1_loop.trips) : Fin 3 → Nat :=
  let c0_82 : Index := 0#32
  let c448 : Index := 448#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v231 : Index := Scalar.indexCast v34
  ![0, 448, v231.toNat]
def k0_off16 (k0_t1 : Fin k0_t1_loop.trips) : Fin 3 → Nat :=
  let c0_87 : Index := 0#32
  let c480 : Index := 480#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v245 : Index := Scalar.indexCast v34
  ![0, 480, v245.toNat]
def k0_off17 (k0_t1 : Fin k0_t1_loop.trips) : Fin 3 → Nat :=
  let c0_92 : Index := 0#32
  let c512 : Index := 512#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v259 : Index := Scalar.indexCast v34
  ![0, 512, v259.toNat]
def k0_off18 (k0_t1 : Fin k0_t1_loop.trips) : Fin 3 → Nat :=
  let c0_97 : Index := 0#32
  let c544 : Index := 544#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v273 : Index := Scalar.indexCast v34
  ![0, 544, v273.toNat]
def k0_off19 (k0_t1 : Fin k0_t1_loop.trips) : Fin 3 → Nat :=
  let c0_102 : Index := 0#32
  let c576 : Index := 576#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v287 : Index := Scalar.indexCast v34
  ![0, 576, v287.toNat]
def k0_off20 (k0_t1 : Fin k0_t1_loop.trips) : Fin 3 → Nat :=
  let c0_107 : Index := 0#32
  let c608 : Index := 608#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v301 : Index := Scalar.indexCast v34
  ![0, 608, v301.toNat]
def k0_off21 (k0_t1 : Fin k0_t1_loop.trips) : Fin 3 → Nat :=
  let c0_112 : Index := 0#32
  let c640 : Index := 640#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v315 : Index := Scalar.indexCast v34
  ![0, 640, v315.toNat]
def k0_off22 (k0_t1 : Fin k0_t1_loop.trips) : Fin 3 → Nat :=
  let c0_117 : Index := 0#32
  let c672 : Index := 672#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v329 : Index := Scalar.indexCast v34
  ![0, 672, v329.toNat]
def k0_off23 (k0_t1 : Fin k0_t1_loop.trips) : Fin 3 → Nat :=
  let c0_122 : Index := 0#32
  let c704 : Index := 704#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v343 : Index := Scalar.indexCast v34
  ![0, 704, v343.toNat]
def k0_off24 (k0_t1 : Fin k0_t1_loop.trips) : Fin 3 → Nat :=
  let c0_127 : Index := 0#32
  let c736 : Index := 736#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v357 : Index := Scalar.indexCast v34
  ![0, 736, v357.toNat]
def k0_off25 (k0_t1 : Fin k0_t1_loop.trips) : Fin 3 → Nat :=
  let c0_132 : Index := 0#32
  let c768 : Index := 768#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v371 : Index := Scalar.indexCast v34
  ![0, 768, v371.toNat]
def k0_off26 (k0_t1 : Fin k0_t1_loop.trips) : Fin 3 → Nat :=
  let c0_137 : Index := 0#32
  let c800 : Index := 800#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v385 : Index := Scalar.indexCast v34
  ![0, 800, v385.toNat]
def k0_off27 (k0_t1 : Fin k0_t1_loop.trips) : Fin 3 → Nat :=
  let c0_142 : Index := 0#32
  let c832 : Index := 832#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v399 : Index := Scalar.indexCast v34
  ![0, 832, v399.toNat]
def k0_off28 (k0_t1 : Fin k0_t1_loop.trips) : Fin 3 → Nat :=
  let c0_147 : Index := 0#32
  let c864 : Index := 864#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v413 : Index := Scalar.indexCast v34
  ![0, 864, v413.toNat]
def k0_off29 (k0_t1 : Fin k0_t1_loop.trips) : Fin 3 → Nat :=
  let c0_152 : Index := 0#32
  let c896 : Index := 896#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v427 : Index := Scalar.indexCast v34
  ![0, 896, v427.toNat]
def k0_off30 (k0_t1 : Fin k0_t1_loop.trips) : Fin 3 → Nat :=
  let c0_157 : Index := 0#32
  let c928 : Index := 928#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v441 : Index := Scalar.indexCast v34
  ![0, 928, v441.toNat]
def k0_off31 (k0_t1 : Fin k0_t1_loop.trips) : Fin 3 → Nat :=
  let c0_162 : Index := 0#32
  let c960 : Index := 960#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v455 : Index := Scalar.indexCast v34
  ![0, 960, v455.toNat]
def k0_off32 (k0_t1 : Fin k0_t1_loop.trips) : Fin 3 → Nat :=
  let c0_167 : Index := 0#32
  let c992 : Index := 992#32
  let c0_i32_9 : BitVec 32 := 0#32
  let c1_i32 : BitVec 32 := 1#32
  let arg5 : BitVec 32 := Scf.iv c0_i32_9 c1_i32 k0_t1
  let c128_i32 : BitVec 32 := 128#32
  let v33 : BitVec 32 := Scalar.muli arg5 c128_i32
  let v34 : BitVec 32 := v33
  let v469 : Index := Scalar.indexCast v34
  ![0, 992, v469.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1920 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== QuantReference.lean ====
abbrev S8x128 : Shape := ⟨2, ![8, 128]⟩
abbrev S16x1024x1920 : Shape := ⟨3, ![16, 1024, 1920]⟩
abbrev S_ : Shape := ⟨0, ![]⟩

abbrev nBuf : Space → Nat
  | .hbm => 146
  | .vmem => 2
  | .smem => 0
  | _ => 0

abbrev hbmTy0_0 (i : Nat) : BufTy := match i % 128 with
  | 0 => ⟨S8x128, .f32⟩
  | 1 => ⟨S16x1024x1920, .f32⟩
  | 2 => ⟨S_, .f32⟩
  | 3 => ⟨S_, .f32⟩
  | 4 => ⟨S_, .f32⟩
  | 5 => ⟨S_, .f32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .f32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .f32⟩
  | 40 => ⟨S_, .f32⟩
  | 41 => ⟨S_, .i1⟩
  | 42 => ⟨S_, .i32⟩
  | 43 => ⟨S_, .i32⟩
  | 44 => ⟨S_, .f32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .f32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .f32⟩
  | 88 => ⟨S_, .i32⟩
  | 89 => ⟨S_, .f32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .f32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i1⟩
  | _ => ⟨S8x128, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .f32⟩
  | 5 => ⟨S16x1024x1920, .f32⟩
  | 6 => ⟨S16x1024x1920, .f32⟩
  | 7 => ⟨S_, .f32⟩
  | 8 => ⟨S_, .f32⟩
  | 9 => ⟨S_, .f32⟩
  | 10 => ⟨S16x1024x1920, .f32⟩
  | 11 => ⟨S16x1024x1920, .f32⟩
  | 12 => ⟨S_, .f32⟩
  | 13 => ⟨S16x1024x1920, .f32⟩
  | 14 => ⟨S16x1024x1920, .f32⟩
  | 15 => ⟨S16x1024x1920, .fp8e5m2⟩
  | 16 => ⟨S16x1024x1920, .fp8e5m2⟩
  | 17 => ⟨S_, .f32⟩
  | _ => ⟨S8x128, .f32⟩

abbrev hbmTy (i : Nat) : BufTy := match i / 128 with
  | 0 => hbmTy0_0 i
  | 1 => hbmTy0_1 i
  | _ => ⟨S8x128, .f32⟩

abbrev bufTy : (tb : Table) → Fin (tcTables nBuf tb) → BufTy
  | .hbm, ⟨i, _⟩ => hbmTy i
  | .local _ .vmem, ⟨0, _⟩ => ⟨S16x1024x1920, .f32⟩
  | .local _ .vmem, ⟨1, _⟩ => ⟨S16x1024x1920, .fp8e5m2⟩
  | _, _ => ⟨S8x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_c_1 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_c_3 : Ref sig .tc := ⟨.hbm, 18, rfl⟩
abbrev main_call0_v8 : Ref sig .tc := ⟨.hbm, 19, rfl⟩
abbrev main_call0_c_4 : Ref sig .tc := ⟨.hbm, 20, rfl⟩
abbrev main_call0_v9 : Ref sig .tc := ⟨.hbm, 21, rfl⟩
abbrev main_call0_c_5 : Ref sig .tc := ⟨.hbm, 22, rfl⟩
abbrev main_call0_v10 : Ref sig .tc := ⟨.hbm, 23, rfl⟩
abbrev main_call0_c_6 : Ref sig .tc := ⟨.hbm, 24, rfl⟩
abbrev main_call0_v11 : Ref sig .tc := ⟨.hbm, 25, rfl⟩
abbrev main_call0_c_7 : Ref sig .tc := ⟨.hbm, 26, rfl⟩
abbrev main_call0_v12 : Ref sig .tc := ⟨.hbm, 27, rfl⟩
abbrev main_call0_c_8 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_9 : Ref sig .tc := ⟨.hbm, 35, rfl⟩
abbrev main_call0_v19 : Ref sig .tc := ⟨.hbm, 36, rfl⟩
abbrev main_call0_c_10 : Ref sig .tc := ⟨.hbm, 37, rfl⟩
abbrev main_v2_1 : Ref sig .tc := ⟨.hbm, 38, rfl⟩
abbrev main_v2_0 : Ref sig .tc := ⟨.hbm, 39, rfl⟩
abbrev main_cst_1 : Ref sig .tc := ⟨.hbm, 40, rfl⟩
abbrev main_v3 : Ref sig .tc := ⟨.hbm, 41, rfl⟩
abbrev main_c : Ref sig .tc := ⟨.hbm, 42, rfl⟩
abbrev main_v4 : Ref sig .tc := ⟨.hbm, 43, rfl⟩
abbrev main_cst_2 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_c_1 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_c_3 : Ref sig .tc := ⟨.hbm, 57, rfl⟩
abbrev main_call2_v8 : Ref sig .tc := ⟨.hbm, 58, rfl⟩
abbrev main_call2_c_4 : Ref sig .tc := ⟨.hbm, 59, rfl⟩
abbrev main_call2_v9 : Ref sig .tc := ⟨.hbm, 60, rfl⟩
abbrev main_call2_c_5 : Ref sig .tc := ⟨.hbm, 61, rfl⟩
abbrev main_call2_v10 : Ref sig .tc := ⟨.hbm, 62, rfl⟩
abbrev main_call2_c_6 : Ref sig .tc := ⟨.hbm, 63, rfl⟩
abbrev main_call2_v11 : Ref sig .tc := ⟨.hbm, 64, rfl⟩
abbrev main_call2_c_7 : Ref sig .tc := ⟨.hbm, 65, rfl⟩
abbrev main_call2_v12 : Ref sig .tc := ⟨.hbm, 66, rfl⟩
abbrev main_call2_c_8 : Ref sig .tc := ⟨.hbm, 67, rfl⟩
abbrev main_call2_c_9 : Ref sig .tc := ⟨.hbm, 68, rfl⟩
abbrev main_call2_v13 : Ref sig .tc := ⟨.hbm, 69, rfl⟩
abbrev main_call2_v14 : Ref sig .tc := ⟨.hbm, 70, rfl⟩
abbrev main_call2_v15 : Ref sig .tc := ⟨.hbm, 71, rfl⟩
abbrev main_call2_c_10 : Ref sig .tc := ⟨.hbm, 72, rfl⟩
abbrev main_call2_v16 : Ref sig .tc := ⟨.hbm, 73, rfl⟩
abbrev main_call2_v17 : Ref sig .tc := ⟨.hbm, 74, rfl⟩
abbrev main_call2_c_11 : Ref sig .tc := ⟨.hbm, 75, rfl⟩
abbrev main_call2_v18 : Ref sig .tc := ⟨.hbm, 76, rfl⟩
abbrev main_call2_v19 : Ref sig .tc := ⟨.hbm, 77, rfl⟩
abbrev main_call2_v20 : Ref sig .tc := ⟨.hbm, 78, rfl⟩
abbrev main_call2_c_12 : Ref sig .tc := ⟨.hbm, 79, rfl⟩
abbrev main_call2_v21 : Ref sig .tc := ⟨.hbm, 80, rfl⟩
abbrev main_call2_c_13 : Ref sig .tc := ⟨.hbm, 81, rfl⟩
abbrev main_call2_v22 : Ref sig .tc := ⟨.hbm, 82, rfl⟩
abbrev main_call2_v23 : Ref sig .tc := ⟨.hbm, 83, rfl⟩
abbrev main_call2_v24 : Ref sig .tc := ⟨.hbm, 84, rfl⟩
abbrev main_call2_v25 : Ref sig .tc := ⟨.hbm, 85, rfl⟩
abbrev main_call2_v26 : Ref sig .tc := ⟨.hbm, 86, rfl⟩
abbrev main_v5 : Ref sig .tc := ⟨.hbm, 87, rfl⟩
abbrev main_v6 : Ref sig .tc := ⟨.hbm, 88, rfl⟩
abbrev main_cst_3 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_c_1 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_c_3 : Ref sig .tc := ⟨.hbm, 102, rfl⟩
abbrev main_call3_v8 : Ref sig .tc := ⟨.hbm, 103, rfl⟩
abbrev main_call3_c_4 : Ref sig .tc := ⟨.hbm, 104, rfl⟩
abbrev main_call3_v9 : Ref sig .tc := ⟨.hbm, 105, rfl⟩
abbrev main_call3_c_5 : Ref sig .tc := ⟨.hbm, 106, rfl⟩
abbrev main_call3_v10 : Ref sig .tc := ⟨.hbm, 107, rfl⟩
abbrev main_call3_c_6 : Ref sig .tc := ⟨.hbm, 108, rfl⟩
abbrev main_call3_v11 : Ref sig .tc := ⟨.hbm, 109, rfl⟩
abbrev main_call3_c_7 : Ref sig .tc := ⟨.hbm, 110, rfl⟩
abbrev main_call3_v12 : Ref sig .tc := ⟨.hbm, 111, rfl⟩
abbrev main_call3_c_8 : Ref sig .tc := ⟨.hbm, 112, rfl⟩
abbrev main_call3_c_9 : Ref sig .tc := ⟨.hbm, 113, rfl⟩
abbrev main_call3_v13 : Ref sig .tc := ⟨.hbm, 114, rfl⟩
abbrev main_call3_v14 : Ref sig .tc := ⟨.hbm, 115, rfl⟩
abbrev main_call3_v15 : Ref sig .tc := ⟨.hbm, 116, rfl⟩
abbrev main_call3_c_10 : Ref sig .tc := ⟨.hbm, 117, rfl⟩
abbrev main_call3_v16 : Ref sig .tc := ⟨.hbm, 118, rfl⟩
abbrev main_call3_v17 : Ref sig .tc := ⟨.hbm, 119, rfl⟩
abbrev main_call3_c_11 : Ref sig .tc := ⟨.hbm, 120, rfl⟩
abbrev main_call3_v18 : Ref sig .tc := ⟨.hbm, 121, rfl⟩
abbrev main_call3_v19 : Ref sig .tc := ⟨.hbm, 122, rfl⟩
abbrev main_call3_v20 : Ref sig .tc := ⟨.hbm, 123, rfl⟩
abbrev main_call3_c_12 : Ref sig .tc := ⟨.hbm, 124, rfl⟩
abbrev main_call3_v21 : Ref sig .tc := ⟨.hbm, 125, rfl⟩
abbrev main_call3_c_13 : Ref sig .tc := ⟨.hbm, 126, rfl⟩
abbrev main_call3_v22 : Ref sig .tc := ⟨.hbm, 127, rfl⟩
abbrev main_call3_v23 : Ref sig .tc := ⟨.hbm, 128, rfl⟩
abbrev main_call3_v24 : Ref sig .tc := ⟨.hbm, 129, rfl⟩
abbrev main_call3_v25 : Ref sig .tc := ⟨.hbm, 130, rfl⟩
abbrev main_call3_v26 : Ref sig .tc := ⟨.hbm, 131, rfl⟩
abbrev main_v7 : Ref sig .tc := ⟨.hbm, 132, rfl⟩
abbrev main_v8 : Ref sig .tc := ⟨.hbm, 133, rfl⟩
abbrev main_v9 : Ref sig .tc := ⟨.hbm, 134, rfl⟩
abbrev main_cst_4 : Ref sig .tc := ⟨.hbm, 135, rfl⟩
abbrev main_cst_5 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v10 : Ref sig .tc := ⟨.hbm, 142, rfl⟩
abbrev main_v11 : Ref sig .tc := ⟨.hbm, 143, rfl⟩
abbrev main_v12_0 : Ref sig .tc := ⟨.hbm, 144, rfl⟩
abbrev main_v12_1 : Ref sig .tc := ⟨.hbm, 145, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

abbrev stage0_0 : Fin 1 → Memref sig .tc .vmem S16x1024x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x1920 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.ForgetKernel.lean ====
/- The kernel's outer loops by invariants that only say which buffers a loop touches: an input is
   held at its contents and a buffer the loop writes at some contents. Enough for the frame. -/
module

public import proofs.«01_k».proof.Proof.Gen.Kernel.Loops
public import Idealize.ShloMosaic.Lib.Exec
public import Idealize.ShloMosaic.Lib.Tactic
public import Idealize.ShloMosaic.Lib.Pipeline.Kit

@[expose] public section

set_option warn.classDefReducibility false
set_option maxRecDepth 8192
set_option maxHeartbeats 4000000

noncomputable section

namespace Cert.Kernel.Forget

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The first pass (sums of the activations): column block by column block into the scratch. -/
@[sl_loop] def loopInv_k0_t1 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole)  (X_arg2 : BufTy.Contents (Elt F) arg2.view.ty)  :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16   where
  inv _ _ := iprop((arg2.view.loc (c : Thread nD τ) ↦[arg2.view.set]{fullShare} X_arg2) ∗ (∃ f, (arg12.view.loc (c : Thread nD τ) ↦[arg12.view.set]{fullShare} f)))
  step k acc := by
    unfold k0_t1_body
    iintro ⟨HR_arg2, ⟨%f_arg12, HW_arg12⟩⟩
    sl_exec
    sl_step
    sl_close

/-- The second pass (sums of squared deviations). -/
@[sl_loop] def loopInv_k0_t3 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole)  (X_arg2 : BufTy.Contents (Elt F) arg2.view.ty) (X_arg15 : BufTy.Contents (Elt F) arg15.view.ty)  :
    Gen.LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16   where
  inv _ _ := iprop((arg2.view.loc (c : Thread nD τ) ↦[arg2.view.set]{fullShare} X_arg2) ∗ (arg15.view.loc (c : Thread nD τ) ↦[arg15.view.set]{fullShare} X_arg15) ∗ (∃ f, (arg12.view.loc (c : Thread nD τ) ↦[arg12.view.set]{fullShare} f)))
  step k acc := by
    unfold k0_t3_body
    iintro ⟨HR_arg2, HR_arg15, ⟨%f_arg12, HW_arg12⟩⟩
    sl_exec
    sl_step
    sl_close

/-- The third pass: gradients before the norm into the output block, partial sums into two scratch arrays. -/
@[sl_loop] def loopInv_k0_t5 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (v0 : FVec F S8x128 .f32) (v23 : Vec F S8x1920 .f32) (v25 : FVec F S1920x128 .f32) (X_arg2 : BufTy.Contents (Elt F) arg2.view.ty) (X_arg3 : BufTy.Contents (Elt F) arg3.view.ty) (X_arg15 : BufTy.Contents (Elt F) arg15.view.ty)  :
    Gen.LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25  where
  inv _ _ := iprop((arg2.view.loc (c : Thread nD τ) ↦[arg2.view.set]{fullShare} X_arg2) ∗ (arg3.view.loc (c : Thread nD τ) ↦[arg3.view.set]{fullShare} X_arg3) ∗ (arg15.view.loc (c : Thread nD τ) ↦[arg15.view.set]{fullShare} X_arg15) ∗ (∃ f, (arg8.view.loc (c : Thread nD τ) ↦[arg8.view.set]{fullShare} f)) ∗ (∃ f, (arg13.view.loc (c : Thread nD τ) ↦[arg13.view.set]{fullShare} f)) ∗ (∃ f, (arg14.view.loc (c : Thread nD τ) ↦[arg14.view.set]{fullShare} f)))
  step k acc := by
    unfold k0_t5_body
    iintro ⟨HR_arg2, HR_arg3, HR_arg15, ⟨%f_arg8, HW_arg8⟩, ⟨%f_arg13, HW_arg13⟩, ⟨%f_arg14, HW_arg14⟩⟩
    sl_exec
    sl_step
    sl_close

/-- The fourth pass: the output block in place, and the running largest magnitude. -/
@[sl_loop] def loopInv_k0_t7 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole)  (X_arg2 : BufTy.Contents (Elt F) arg2.view.ty) (X_arg15 : BufTy.Contents (Elt F) arg15.view.ty) (X_arg16 : BufTy.Contents (Elt F) arg16.view.ty) (init : FVec F S8x128 .f32) :
    Gen.LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  init where
  inv _ _ := iprop((arg2.view.loc (c : Thread nD τ) ↦[arg2.view.set]{fullShare} X_arg2) ∗ (arg15.view.loc (c : Thread nD τ) ↦[arg15.view.set]{fullShare} X_arg15) ∗ (arg16.view.loc (c : Thread nD τ) ↦[arg16.view.set]{fullShare} X_arg16) ∗ (∃ f, (arg8.view.loc (c : Thread nD τ) ↦[arg8.view.set]{fullShare} f)))
  step k acc := by
    unfold k0_t7_body
    iintro ⟨HR_arg2, HR_arg15, HR_arg16, ⟨%f_arg8, HW_arg8⟩⟩
    sl_exec
    sl_step
    sl_close

end Cert.Kernel.Forget

end
-- ==== Proof.ForgetKernelFrame.lean ====
/- The frame of the main kernel: the body runs from any contents of the outputs and the scratch, leaves the
   inputs' blocks alone, and nothing is said of what it writes. -/
module

public import proofs.«01_k».proof.Proof.ForgetKernel
public import proofs.«01_k».proof.Proof.Gen.Kernel.Frame
public import Idealize.ShloMosaic.Lib.Claim

@[expose] public section

set_option maxRecDepth 16384
set_option maxHeartbeats 4000000

noncomputable section

namespace Cert.Kernel.Forget

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What the body needs and gives back: the inputs at their contents, outputs and scratch at some contents. -/
abbrev held (c : Dev nD) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (x1 : Vec F S1x1 .f32) (x2 : Vec F S1x1024x1920 .bf16) (x3 : Vec F S1x1024x1920 .fp8e5m2) (x4 : Vec F S1x1920 .f32) (x5 : Vec F S1x1920 .f32) (x6 : Vec F S1920x128 .f32) (x7 : Vec F S128x1920 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))

/-- The body runs from those buffers and gives them back. -/
theorem sound_kernel (c : Dev nD) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (x1 : Vec F S1x1 .f32) (x2 : Vec F S1x1024x1920 .bf16) (x3 : Vec F S1x1024x1920 .fp8e5m2) (x4 : Vec F S1x1920 .f32) (x5 : Vec F S1x1920 .f32) (x6 : Vec F S1920x128 .f32) (x7 : Vec F S128x1920 .f32) (K : PUnit → sProp 𝕄) :
    iprop(held (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 ∗ (held (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 -∗ K ⟨⟩))
      ⊢ wp frame (wpE (defs₀ (F := F)) Variants.none c none) E (cc0_gn_silu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gn_silu_bwd_eq_skeleton]; unfold cc0_gn_silu_bwd_skel
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  subst hf1
  subst hf2
  subst hf3
  subst hf4
  subst hf5
  subst hf6
  subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  · iexists _; iexists _; isplitr
    swap; · iexact H16
    ipureintro; rfl

variable (m : (ℓ : Loc nD τ sig) → Buf (Elt F) ℓ) (ρ : Dev nD → PrngReg)

/-- The proof data: an input's buffer at its block, an output's at anything (forgotten below). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ _ := Pipeline.ΦA spec0 c
  q _ := fullShare
  owed _ := 0

/-- The output windows, of which the frame says nothing. -/
def fgt : Fin cfg0.W → Bool
  | ⟨n, _⟩ => decide (7 ≤ n)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- What the body is called with at a point, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after_0, after_1, after_2, after_3, after_4, after_5, after_6]
  unfold Pipeline.ΦA
  rw [scopedRest0_eq]
  iintro ⟨⟨⟨⟨%g0, S0⟩, ⟨%g1, S1⟩, ⟨%g2, S2⟩, ⟨%g3, S3⟩, ⟨%g4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0 H1 H2 H3 H4 H5 H6 H7 H8 H9 H10 S0 S1 S2 S3 S4]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [S0]; · iexists g0; rw [owns_whole]; iexact S0
    isplitl [S1]; · iexists g1; rw [owns_whole]; iexact S1
    isplitl [S2]; · iexists g2; rw [owns_whole]; iexact S2
    isplitl [S3]; · iexists g3; rw [owns_whole]; iexact S3
    iexists g4; rw [owns_whole]; iexact S4
  · unfold held
    simp only [owns_whole]
    iintro ⟨H0, H1, H2, H3, H4, H5, H6, H7, H8, H9, H10, ⟨%e0, S0⟩, ⟨%e1, S1⟩, ⟨%e2, S2⟩, ⟨%e3, S3⟩, ⟨%e4, S4⟩⟩
    isplitl [S0 S1 S2 S3 S4 Hp]
    · isplitl [S0 S1 S2 S3 S4]
      · isplitl [S0]; · iexists _; iexact S0
        isplitl [S1]; · iexists _; iexact S1
        isplitl [S2]; · iexists _; iexact S2
        isplitl [S3]; · iexists _; iexact S3
        iexists _; iexact S4
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

/-- The buffers the lines after the region write. -/
def tailT : Finset (Ref sig .tc) := {main_cst, main_v10, main_cst_0, main_v11, main_cst_1, main_v12}

theorem tail_writes : ∀ ops ∈ ([hostOps1] : List (List (HloOp τ sig (Elt F)))), ∀ op ∈ ops,
    ∀ b : Ref sig .tc, Proc.devRef .tc b ∈ op.writes → b ∈ tailT := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
  · simp only [StableHlo.nullary_writes, StableHlo.binary_writes, Finset.mem_singleton] at hb
    have := Proc.devRef_injective _ hb
    subst this
    simp [tailT]

set_option backward.isDefEq.respectTransparency.types false in
/-- The launch: every array of an input ends as it was when the region was entered, every other buffer the later lines do
    not write keeps its contents, and every semaphore counter ends at zero. -/
theorem run_main : θ_run defs (onTc (τ := τ) (main (F := F))) (s₀ m ρ)
    (fun r => Pipeline.RDat.FramePostR cfg0 (fun c => (dats m 0 c).toRForget fgt) tailT (fun c b => V0 m c (Proc.devRef .tc b)) r ∧ r.2.sem = fun _ => 0) :=
  Pipeline.θ_run_frame_around_T_forget (Q' := _) cfgs (dats m) (0 : Fin 1) launch0 defs₀ Variants.none fgt tailT m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 1 rfl).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c),
     (h.1.arr_in c 2 rfl).trans (V_main_arg3 m c),
     ((h.1 c).2 main_arg4 (Finset.mem_sdiff.mpr ⟨Pipeline.mem_restRefs_of main_arg4 (by decide) (by decide), by decide⟩)).trans (V_main_arg4 m c)⟩, h.2⟩)
    (run_main m ρ)

end Cert.Kernel.Forget

end
-- ==== Proof.ForgetKernelIdeal.lean ====
/- The kernel's outer loops by invariants that only say which buffers a loop touches: an input is
   held at its contents and a buffer the loop writes at some contents. Enough for the frame. -/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option warn.classDefReducibility false
set_option maxRecDepth 8192
set_option maxHeartbeats 4000000

noncomputable section

namespace Cert.KernelIdeal.Forget

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- The first pass (sums of the activations): column block by column block into the scratch. -/
@[sl_loop] def loopInv_k0_t1 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole)  (X_arg2 : BufTy.Contents (Elt F) arg2.view.ty)  :
    Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16   where
  inv _ _ := iprop((arg2.view.loc (c : Thread nD τ) ↦[arg2.view.set]{fullShare} X_arg2) ∗ (∃ f, (arg12.view.loc (c : Thread nD τ) ↦[arg12.view.set]{fullShare} f)))
  step k acc := by
    unfold k0_t1_body
    iintro ⟨HR_arg2, ⟨%f_arg12, HW_arg12⟩⟩
    sl_exec
    sl_step
    sl_close

/-- The second pass (sums of squared deviations). -/
@[sl_loop] def loopInv_k0_t3 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole)  (X_arg2 : BufTy.Contents (Elt F) arg2.view.ty) (X_arg15 : BufTy.Contents (Elt F) arg15.view.ty)  :
    Gen.LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16   where
  inv _ _ := iprop((arg2.view.loc (c : Thread nD τ) ↦[arg2.view.set]{fullShare} X_arg2) ∗ (arg15.view.loc (c : Thread nD τ) ↦[arg15.view.set]{fullShare} X_arg15) ∗ (∃ f, (arg12.view.loc (c : Thread nD τ) ↦[arg12.view.set]{fullShare} f)))
  step k acc := by
    unfold k0_t3_body
    iintro ⟨HR_arg2, HR_arg15, ⟨%f_arg12, HW_arg12⟩⟩
    sl_exec
    sl_step
    sl_close

/-- The third pass: gradients before the norm into the output block, partial sums into two scratch arrays. -/
@[sl_loop] def loopInv_k0_t5 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (v0 : FVec F S8x128 .f32) (v23 : Vec F S8x1920 .f32) (v25 : FVec F S1920x128 .f32) (X_arg2 : BufTy.Contents (Elt F) arg2.view.ty) (X_arg3 : BufTy.Contents (Elt F) arg3.view.ty) (X_arg15 : BufTy.Contents (Elt F) arg15.view.ty)  :
    Gen.LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25  where
  inv _ _ := iprop((arg2.view.loc (c : Thread nD τ) ↦[arg2.view.set]{fullShare} X_arg2) ∗ (arg3.view.loc (c : Thread nD τ) ↦[arg3.view.set]{fullShare} X_arg3) ∗ (arg15.view.loc (c : Thread nD τ) ↦[arg15.view.set]{fullShare} X_arg15) ∗ (∃ f, (arg8.view.loc (c : Thread nD τ) ↦[arg8.view.set]{fullShare} f)) ∗ (∃ f, (arg13.view.loc (c : Thread nD τ) ↦[arg13.view.set]{fullShare} f)) ∗ (∃ f, (arg14.view.loc (c : Thread nD τ) ↦[arg14.view.set]{fullShare} f)))
  step k acc := by
    unfold k0_t5_body
    iintro ⟨HR_arg2, HR_arg3, HR_arg15, ⟨%f_arg8, HW_arg8⟩, ⟨%f_arg13, HW_arg13⟩, ⟨%f_arg14, HW_arg14⟩⟩
    sl_exec
    sl_step
    sl_close

/-- The fourth pass: the output block in place, and the running largest magnitude. -/
@[sl_loop] def loopInv_k0_t7 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole)  (X_arg2 : BufTy.Contents (Elt F) arg2.view.ty) (X_arg15 : BufTy.Contents (Elt F) arg15.view.ty) (X_arg16 : BufTy.Contents (Elt F) arg16.view.ty) (init : FVec F S8x128 .f32) :
    Gen.LoopInvTy_k0_t7 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  init where
  inv _ _ := iprop((arg2.view.loc (c : Thread nD τ) ↦[arg2.view.set]{fullShare} X_arg2) ∗ (arg15.view.loc (c : Thread nD τ) ↦[arg15.view.set]{fullShare} X_arg15) ∗ (arg16.view.loc (c : Thread nD τ) ↦[arg16.view.set]{fullShare} X_arg16) ∗ (∃ f, (arg8.view.loc (c : Thread nD τ) ↦[arg8.view.set]{fullShare} f)))
  step k acc := by
    unfold k0_t7_body
    iintro ⟨HR_arg2, HR_arg15, HR_arg16, ⟨%f_arg8, HW_arg8⟩⟩
    sl_exec
    sl_step
    sl_close

end Cert.KernelIdeal.Forget

end
-- ==== Proof.ForgetKernelIdealFrame.lean ====
/- The frame of the main kernel: the body runs from any contents of the outputs and the scratch, leaves the
   inputs' blocks alone, and nothing is said of what it writes. -/
module

public import proofs.«01_k».proof.Proof.ForgetKernelIdeal
public import proofs.«01_k».proof.Proof.Gen.KernelIdeal.Frame
public import Idealize.ShloMosaic.Lib.Claim

@[expose] public section

set_option maxRecDepth 16384
set_option maxHeartbeats 4000000

noncomputable section

namespace Cert.KernelIdeal.Forget

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What the body needs and gives back: the inputs at their contents, outputs and scratch at some contents. -/
abbrev held (c : Dev nD) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (x1 : Vec F S1x1 .f32) (x2 : Vec F S1x1024x1920 .bf16) (x3 : Vec F S1x1024x1920 .fp8e5m2) (x4 : Vec F S1x1920 .f32) (x5 : Vec F S1x1920 .f32) (x6 : Vec F S1920x128 .f32) (x7 : Vec F S128x1920 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))

/-- The body runs from those buffers and gives them back. -/
theorem sound_kernel (c : Dev nD) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (x1 : Vec F S1x1 .f32) (x2 : Vec F S1x1024x1920 .bf16) (x3 : Vec F S1x1024x1920 .fp8e5m2) (x4 : Vec F S1x1920 .f32) (x5 : Vec F S1x1920 .f32) (x6 : Vec F S1920x128 .f32) (x7 : Vec F S128x1920 .f32) (K : PUnit → sProp 𝕄) :
    iprop(held (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 ∗ (held (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 -∗ K ⟨⟩))
      ⊢ wp frame (wpE (defs₀ (F := F)) Variants.none c none) E (cc0_gn_silu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gn_silu_bwd_eq_skeleton]; unfold cc0_gn_silu_bwd_skel
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩⟩, Hk⟩
  subst hf1
  subst hf2
  subst hf3
  subst hf4
  subst hf5
  subst hf6
  subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  · iexists _; iexists _; isplitr
    swap; · iexact H16
    ipureintro; rfl

variable (m : (ℓ : Loc nD τ sig) → Buf (Elt F) ℓ) (ρ : Dev nD → PrngReg)

/-- The proof data: an input's buffer at its block, an output's at anything (forgotten below). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ _ := Pipeline.ΦA spec0 c
  q _ := fullShare
  owed _ := 0

/-- The output windows, of which the frame says nothing. -/
def fgt : Fin cfg0.W → Bool
  | ⟨n, _⟩ => decide (7 ≤ n)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- What the body is called with at a point, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after_0, after_1, after_2, after_3, after_4, after_5, after_6]
  unfold Pipeline.ΦA
  rw [scopedRest0_eq]
  iintro ⟨⟨⟨⟨%g0, S0⟩, ⟨%g1, S1⟩, ⟨%g2, S2⟩, ⟨%g3, S3⟩, ⟨%g4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0 H1 H2 H3 H4 H5 H6 H7 H8 H9 H10 S0 S1 S2 S3 S4]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [S0]; · iexists g0; rw [owns_whole]; iexact S0
    isplitl [S1]; · iexists g1; rw [owns_whole]; iexact S1
    isplitl [S2]; · iexists g2; rw [owns_whole]; iexact S2
    isplitl [S3]; · iexists g3; rw [owns_whole]; iexact S3
    iexists g4; rw [owns_whole]; iexact S4
  · unfold held
    simp only [owns_whole]
    iintro ⟨H0, H1, H2, H3, H4, H5, H6, H7, H8, H9, H10, ⟨%e0, S0⟩, ⟨%e1, S1⟩, ⟨%e2, S2⟩, ⟨%e3, S3⟩, ⟨%e4, S4⟩⟩
    isplitl [S0 S1 S2 S3 S4 Hp]
    · isplitl [S0 S1 S2 S3 S4]
      · isplitl [S0]; · iexists _; iexact S0
        isplitl [S1]; · iexists _; iexact S1
        isplitl [S2]; · iexists _; iexact S2
        isplitl [S3]; · iexists _; iexact S3
        iexists _; iexact S4
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

/-- The buffers the lines after the region write. -/
def tailT : Finset (Ref sig .tc) := {main_cst, main_v10, main_cst_0, main_v11, main_cst_1, main_v12}

theorem tail_writes : ∀ ops ∈ ([hostOps1] : List (List (HloOp τ sig (Elt F)))), ∀ op ∈ ops,
    ∀ b : Ref sig .tc, Proc.devRef .tc b ∈ op.writes → b ∈ tailT := by
  intro ops hops op hop b hb
  simp only [List.mem_cons, List.mem_nil_iff, or_false] at hops
  subst hops
  simp only [hostOps1, List.mem_cons, List.mem_nil_iff, or_false] at hop
  rcases hop with rfl | rfl | rfl | rfl | rfl | rfl <;>
  · simp only [StableHlo.nullary_writes, StableHlo.binary_writes, Finset.mem_singleton] at hb
    have := Proc.devRef_injective _ hb
    subst this
    simp [tailT]

set_option backward.isDefEq.respectTransparency.types false in
/-- The launch: every array of an input ends as it was when the region was entered, every other buffer the later lines do
    not write keeps its contents, and every semaphore counter ends at zero. -/
theorem run_main : θ_run defs (onTc (τ := τ) (main (F := F))) (s₀ m ρ)
    (fun r => Pipeline.RDat.FramePostR cfg0 (fun c => (dats m 0 c).toRForget fgt) tailT (fun c b => V0 m c (Proc.devRef .tc b)) r ∧ r.2.sem = fun _ => 0) :=
  Pipeline.θ_run_frame_around_T_forget (Q' := _) cfgs (dats m) (0 : Fin 1) launch0 defs₀ Variants.none fgt tailT m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame claim at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1.arr_in c 1 rfl).trans (V_main_arg0 m c),
     ((h.1 c).2 main_arg1 (Finset.mem_sdiff.mpr ⟨Pipeline.mem_restRefs_of main_arg1 (by decide) (by decide), by decide⟩)).trans (V_main_arg1 m c),
     ((h.1 c).2 main_arg2 (Finset.mem_sdiff.mpr ⟨Pipeline.mem_restRefs_of main_arg2 (by decide) (by decide), by decide⟩)).trans (V_main_arg2 m c),
     (h.1.arr_in c 2 rfl).trans (V_main_arg3 m c),
     ((h.1 c).2 main_arg4 (Finset.mem_sdiff.mpr ⟨Pipeline.mem_restRefs_of main_arg4 (by decide) (by decide), by decide⟩)).trans (V_main_arg4 m c)⟩, h.2⟩)
    (run_main m ρ)

end Cert.KernelIdeal.Forget

end
-- ==== Proof.PassRead.lean ====
/- Reading the staged blocks of the main kernel by row and column numbers, at exact arithmetic:
   loads through closed offsets, stores read back, and sums over rows taken in the kernel's order. -/
module

public import proofs.«01_k».proof.Proof.Gen.KernelIdeal.Loops
public import Idealize.ShloMosaic.Lib.Pointwise
public import Idealize.ShloMosaic.Lib.WritesUnit

@[expose] public section

set_option maxRecDepth 16384

noncomputable section

namespace Cert.KernelIdeal.Pass

open Cert.KernelIdeal Cert.KernelIdeal.Gen
open Idealize.ShloMosaic Idealize.ShloMosaic.TcCoe

/-- The staged block's entry in row `s` and channel `c` (zero outside the block). -/
def at3 (x : S1x1024x1920.Idx → EReal) (s c : ℕ) : EReal :=
  if h : s < 1024 ∧ c < 1920 then x (ix3 0 ⟨s, h.1⟩ ⟨c, h.2⟩) else 0

/-- The entry in row `r` and channel `c` of an eight-row array (zero outside). -/
def at8 (x : S8x1920.Idx → EReal) (r c : ℕ) : EReal :=
  if h : r < 8 ∧ c < 1920 then x (ix2 ⟨r, h.1⟩ ⟨c, h.2⟩) else 0

theorem at3_fin (x : S1x1024x1920.Idx → EReal) (s : Fin 1024) (c : Fin 1920) : at3 x s.val c.val = x (ix3 0 s c) :=
  dif_pos ⟨s.isLt, c.isLt⟩

theorem at8_fin (x : S8x1920.Idx → EReal) (r : Fin 8) (c : Fin 1920) : at8 x r.val c.val = x (ix2 r c) :=
  dif_pos ⟨r.isLt, c.isLt⟩

theorem at3_of (x : S1x1024x1920.Idx → EReal) (s c : ℕ) (hs : s < 1024) (hc : c < 1920) : at3 x s c = x (ix3 0 ⟨s, hs⟩ ⟨c, hc⟩) :=
  dif_pos ⟨hs, hc⟩

theorem at8_of (x : S8x1920.Idx → EReal) (r c : ℕ) (hr : r < 8) (hc : c < 1920) : at8 x r c = x (ix2 ⟨r, hr⟩ ⟨c, hc⟩) :=
  dif_pos ⟨hr, hc⟩

variable {κ : Kind} {sp : Space}

/-- A load of a box of a staged block reads the entry at the box's place. -/
theorem ldbox {e : EltTy} (v : View sig κ sp S1x1024x1920 e) (f : v.ty.Contents (Elt Ideal)) (off size : Fin 3 → ℕ) (s c : ℕ)
    (inb : ∀ a, off a + size a ≤ S1x1024x1920.size a) (h : off = ![0, s, c])
    (x : (Rect.unit (s := S1x1024x1920) off size inb).toLoadRect.shape.Idx) (h1 : s + (x 1).val < 1024) (h2 : c + (x 2).val < 1920) :
    v.readAt (Elt Ideal) (Rect.unit (s := S1x1024x1920) off size inb).toLoadRect f x
      = v.read (Elt Ideal) f (ix3 0 ⟨s + (x 1).val, h1⟩ ⟨c + (x 2).val, h2⟩) := by
  subst h
  refine congrArg (v.read (Elt Ideal) f) (funext fun b => Fin.ext ?_)
  fin_cases b
  · have := (x 0).isLt
    have h0 := inb 0
    have h0' : 0 + size 0 ≤ 1 := h0
    have h3 : (x 0).val < size 0 := this
    show 0 + 1 * (x 0).val = 0
    omega
  · exact congrArg (s + ·) (Nat.one_mul _)
  · exact congrArg (c + ·) (Nat.one_mul _)

/-- A load of 16 rows by 128 channels, at a row and a lane. -/
theorem ld16b (v : View sig κ sp S1x1024x1920 .bf16) (f : v.ty.Contents (Elt Ideal)) (off : Fin 3 → ℕ) (s c : ℕ)
    (inb : ∀ a, off a + (![1, 16, 128] : Fin 3 → ℕ) a ≤ S1x1024x1920.size a) (h : off = ![0, s, c]) (a : Fin 16) (l : Fin 128) :
    v.readAt (Elt Ideal) (Rect.unit (s := S1x1024x1920) off ![1, 16, 128] inb).toLoadRect f (ix3 (0 : Fin 1) a l)
      = at3 (v.read (Elt Ideal) f) (s + a.val) (c + l.val) := by
  have h1 := inb 1; have h2 := inb 2
  rw [h] at h1 h2
  have h1' : s + 16 ≤ 1024 := h1
  have h2' : c + 128 ≤ 1920 := h2
  have g1 : s + a.val < 1024 := by omega
  have g2 : c + l.val < 1920 := by omega
  exact (ldbox v f off ![1, 16, 128] s c inb h (ix3 (0 : Fin 1) a l) g1 g2).trans
    (at3_of _ _ _ g1 g2).symm

/-- A load of 16 rows by 128 channels, at a row and a lane. -/
theorem ld16f (v : View sig κ sp S1x1024x1920 .f32) (f : v.ty.Contents (Elt Ideal)) (off : Fin 3 → ℕ) (s c : ℕ)
    (inb : ∀ a, off a + (![1, 16, 128] : Fin 3 → ℕ) a ≤ S1x1024x1920.size a) (h : off = ![0, s, c]) (a : Fin 16) (l : Fin 128) :
    v.readAt (Elt Ideal) (Rect.unit (s := S1x1024x1920) off ![1, 16, 128] inb).toLoadRect f (ix3 (0 : Fin 1) a l)
      = at3 (v.read (Elt Ideal) f) (s + a.val) (c + l.val) := by
  have h1 := inb 1; have h2 := inb 2
  rw [h] at h1 h2
  have h1' : s + 16 ≤ 1024 := h1
  have h2' : c + 128 ≤ 1920 := h2
  have g1 : s + a.val < 1024 := by omega
  have g2 : c + l.val < 1920 := by omega
  exact (ldbox v f off ![1, 16, 128] s c inb h (ix3 (0 : Fin 1) a l) g1 g2).trans
    (at3_of _ _ _ g1 g2).symm

/-- A load of 32 rows by 128 channels, at a row and a lane. -/
theorem ld32b (v : View sig κ sp S1x1024x1920 .bf16) (f : v.ty.Contents (Elt Ideal)) (off : Fin 3 → ℕ) (s c : ℕ)
    (inb : ∀ a, off a + (![1, 32, 128] : Fin 3 → ℕ) a ≤ S1x1024x1920.size a) (h : off = ![0, s, c]) (a : Fin 32) (l : Fin 128) :
    v.readAt (Elt Ideal) (Rect.unit (s := S1x1024x1920) off ![1, 32, 128] inb).toLoadRect f (ix3 (0 : Fin 1) a l)
      = at3 (v.read (Elt Ideal) f) (s + a.val) (c + l.val) := by
  have h1 := inb 1; have h2 := inb 2
  rw [h] at h1 h2
  have h1' : s + 32 ≤ 1024 := h1
  have h2' : c + 128 ≤ 1920 := h2
  have g1 : s + a.val < 1024 := by omega
  have g2 : c + l.val < 1920 := by omega
  exact (ldbox v f off ![1, 32, 128] s c inb h (ix3 (0 : Fin 1) a l) g1 g2).trans
    (at3_of _ _ _ g1 g2).symm

/-- A load of 32 rows by 128 channels, at a row and a lane. -/
theorem ld32c (v : View sig κ sp S1x1024x1920 .fp8e5m2) (f : v.ty.Contents (Elt Ideal)) (off : Fin 3 → ℕ) (s c : ℕ)
    (inb : ∀ a, off a + (![1, 32, 128] : Fin 3 → ℕ) a ≤ S1x1024x1920.size a) (h : off = ![0, s, c]) (a : Fin 32) (l : Fin 128) :
    v.readAt (Elt Ideal) (Rect.unit (s := S1x1024x1920) off ![1, 32, 128] inb).toLoadRect f (ix3 (0 : Fin 1) a l)
      = at3 (v.read (Elt Ideal) f) (s + a.val) (c + l.val) := by
  have h1 := inb 1; have h2 := inb 2
  rw [h] at h1 h2
  have h1' : s + 32 ≤ 1024 := h1
  have h2' : c + 128 ≤ 1920 := h2
  have g1 : s + a.val < 1024 := by omega
  have g2 : c + l.val < 1920 := by omega
  exact (ldbox v f off ![1, 32, 128] s c inb h (ix3 (0 : Fin 1) a l) g1 g2).trans
    (at3_of _ _ _ g1 g2).symm

/-- A load of one row by 128 channels of an eight-row array, at a lane. -/
theorem ldrow (v : View sig κ sp S8x1920 .f32) (f : v.ty.Contents (Elt Ideal)) (off : Fin 2 → ℕ) (r c : ℕ)
    (inb : ∀ a, off a + (![1, 128] : Fin 2 → ℕ) a ≤ S8x1920.size a) (h : off = ![r, c]) (l : Fin 128) :
    v.readAt (Elt Ideal) (Rect.unit (s := S8x1920) off ![1, 128] inb).toLoadRect f (ix2 (0 : Fin 1) l)
      = at8 (v.read (Elt Ideal) f) r (c + l.val) := by
  subst h
  have h1 := inb 0; have h2 := inb 1
  have h1' : r + 1 ≤ 8 := h1
  have h2' : c + 128 ≤ 1920 := h2
  have g1 : r < 8 := by omega
  have g2 : c + l.val < 1920 := by omega
  refine Eq.trans (b := v.read (Elt Ideal) f (ix2 ⟨r, g1⟩ ⟨c + l.val, g2⟩)) (congrArg (v.read (Elt Ideal) f) (funext fun b => Fin.ext ?_)) (at8_of _ _ _ g1 g2).symm
  fin_cases b
  · rfl
  · exact congrArg (c + ·) (Nat.one_mul _)

/-- One more tile of rows stored: what a block written top down reads. `G` is what the tiles hold, `R` what the rest reads. -/
theorem rd_cons {n : ℕ} (v : View sig κ sp S1x1024x1920 .f32) (f : v.ty.Contents (Elt Ideal)) (off : Fin 3 → ℕ) (o c0 : ℕ)
    (inb : ∀ a, off a + (![1, n, 128] : Fin 3 → ℕ) a ≤ S1x1024x1920.size a)
    (w : (Rect.unit (s := S1x1024x1920) off ![1, n, 128] inb).shape.Idx → Elt Ideal .f32)
    (L : List (View.Piece (Elt Ideal) S1x1024x1920 .f32)) (G : ℕ → ℕ → EReal) (R : Fin 1024 → Fin 1920 → EReal)
    (h : off = ![0, o, c0]) (hw : ∀ (a : Fin n) (l : Fin 128), w (ix3 0 a l) = G (o + a.val) (c0 + l.val))
    (hL : ∀ (s : Fin 1024) (c : Fin 1920), v.read (Elt Ideal) (v.writes (Elt Ideal) f L) (ix3 0 s c)
      = if s.val < o ∧ c0 ≤ c.val ∧ c.val < c0 + 128 then G s.val c.val else R s c) (s : Fin 1024) (c : Fin 1920) :
    v.read (Elt Ideal) (v.writes (Elt Ideal) f (⟨Rect.unit (s := S1x1024x1920) off ![1, n, 128] inb, w⟩ :: L)) (ix3 0 s c)
      = if s.val < o + n ∧ c0 ≤ c.val ∧ c.val < c0 + 128 then G s.val c.val else R s c := by
  by_cases hc : c0 ≤ c.val ∧ c.val < c0 + 128
  · by_cases hs : o ≤ s.val ∧ s.val < o + n
    · rw [if_pos ⟨hs.2, hc⟩]
      have ha : s.val - o < n := by omega
      have hl : c.val - c0 < 128 := by omega
      refine (View.read_writes_cons_unit_of_mem v f inb w L (ix3 0 s c) (ix3 0 ⟨s.val - o, ha⟩ ⟨c.val - c0, hl⟩) h ?_).trans ?_
      · intro a
        fin_cases a
        · rfl
        · show s.val = o + (s.val - o)
          omega
        · show c.val = c0 + (c.val - c0)
          omega
      · rw [hw]
        show G (o + (s.val - o)) (c0 + (c.val - c0)) = _
        rw [Nat.add_sub_cancel' hs.1, Nat.add_sub_cancel' hc.1]
    · refine (View.read_writes_cons_unit_of_not_mem v f inb w L (ix3 0 s c) h 1 ?_).trans ((hL s c).trans ?_)
      · show s.val < o ∨ o + n ≤ s.val
        omega
      · by_cases h1 : s.val < o
        · rw [if_pos ⟨h1, hc⟩, if_pos ⟨by omega, hc⟩]
        · rw [if_neg (fun h => h1 h.1), if_neg (fun h => hs ⟨by omega, h.1⟩)]
  · refine (View.read_writes_cons_unit_of_not_mem v f inb w L (ix3 0 s c) h 2 ?_).trans ((hL s c).trans ?_)
    · show c.val < c0 ∨ c0 + 128 ≤ c.val
      omega
    · rw [if_neg (fun h => hc h.2), if_neg (fun h => hc h.2)]

/-- One more column block stored into an eight-row array. -/
theorem rd8_cons (v : View sig κ sp S8x1920 .f32) (f : v.ty.Contents (Elt Ideal)) (off : Fin 2 → ℕ) (k : ℕ)
    (inb : ∀ a, off a + (![8, 128] : Fin 2 → ℕ) a ≤ S8x1920.size a)
    (w : (Rect.unit (s := S8x1920) off ![8, 128] inb).shape.Idx → Elt Ideal .f32) (G : ℕ → ℕ → EReal)
    (h : off = ![0, 128 * k]) (hw : ∀ (r : Fin 8) (l : Fin 128), w (ix2 r l) = G r.val (128 * k + l.val))
    (hL : ∀ (r : Fin 8) (c : Fin 1920), c.val < 128 * k → v.read (Elt Ideal) f (ix2 r c) = G r.val c.val)
    (r : Fin 8) (c : Fin 1920) (hc : c.val < 128 * (k + 1)) :
    v.read (Elt Ideal) (v.writes (Elt Ideal) f [⟨Rect.unit (s := S8x1920) off ![8, 128] inb, w⟩]) (ix2 r c) = G r.val c.val := by
  by_cases h1 : c.val < 128 * k
  · refine (View.read_writes_cons_unit_of_not_mem v f inb w [] (ix2 r c) h 1 (.inl h1)).trans (hL r c h1)
  · have hl : c.val - 128 * k < 128 := by omega
    refine (View.read_writes_cons_unit_of_mem v f inb w [] (ix2 r c) (ix2 r ⟨c.val - 128 * k, hl⟩) h ?_).trans ?_
    · intro a
      fin_cases a
      · exact (Nat.zero_add _).symm
      · show c.val = 128 * k + (c.val - 128 * k)
        omega
    · rw [hw]
      show G r.val (128 * k + (c.val - 128 * k)) = _
      rw [Nat.add_sub_cancel' (by omega)]

/-- Sixteen terms in pairs, as a trip adds them to what it carries. -/
theorem sum16 (g : ℕ → EReal) (a : EReal) :
    a + (g 0 + g 1) + (g 2 + g 3) + (g 4 + g 5) + (g 6 + g 7) + (g 8 + g 9) + (g 10 + g 11) + (g 12 + g 13) + (g 14 + g 15)
      = a + ∑ u ∈ Finset.range 16, g u := by
  simp only [Finset.sum_range_succ, Finset.sum_range_zero, zero_add]
  ac_rfl

/-- Sixteen terms one after another. -/
theorem sum16' (g : ℕ → EReal) (a : EReal) :
    a + g 0 + g 1 + g 2 + g 3 + g 4 + g 5 + g 6 + g 7 + g 8 + g 9 + g 10 + g 11 + g 12 + g 13 + g 14 + g 15
      = a + ∑ u ∈ Finset.range 16, g u := by
  simp only [Finset.sum_range_succ, Finset.sum_range_zero, zero_add]
  ac_rfl

/-- Sixteen more terms of a sum over row groups. -/
theorem sum_next (g : ℕ → EReal) (k : ℕ) (a : EReal) :
    a + ∑ u ∈ Finset.range (16 * k), g u + ∑ u ∈ Finset.range 16, g (16 * k + u) = a + ∑ u ∈ Finset.range (16 * (k + 1)), g u := by
  rw [Nat.mul_add, Nat.mul_one, Finset.sum_range_add, add_assoc]

/-- The largest of `a` and the first `n` values of `g`. -/
def maxTo (g : ℕ → EReal) (a : EReal) : ℕ → EReal
  | 0 => a
  | n + 1 => max (maxTo g a n) (g n)

theorem maxTo_add (g : ℕ → EReal) (a : EReal) (m n : ℕ) :
    maxTo (fun u => g (m + u)) (maxTo g a m) n = maxTo g a (m + n) := by
  induction n with
  | zero => rfl
  | succ n ih =>
    show max (maxTo (fun u => g (m + u)) (maxTo g a m) n) (g (m + n)) = max (maxTo g a (m + n)) (g (m + n))
    rw [ih]

/-- Sixteen values in pairs, as a trip folds them into the maximum it carries. -/
theorem max16 (g : ℕ → EReal) (a : EReal) :
    max (max (max (max (max (max (max (max a (max (g 0) (g 1))) (max (g 2) (g 3))) (max (g 4) (g 5))) (max (g 6) (g 7))) (max (g 8) (g 9))) (max (g 10) (g 11))) (max (g 12) (g 13))) (max (g 14) (g 15))
      = maxTo g a 16 := by
  simp only [maxTo]
  ac_rfl

end Cert.KernelIdeal.Pass

end
-- ==== Proof.PassPay.lean ====
/- The arithmetic of the main kernel at exact arithmetic, entry by entry: the payloads of its inner loops over the blocks they load. -/
module

public import proofs.«01_k».proof.Proof.PassRead

@[expose] public section

set_option maxRecDepth 16384
set_option maxHeartbeats 2000000

noncomputable section

namespace Cert.KernelIdeal.Pass

open Cert.KernelIdeal Cert.KernelIdeal.Gen
open Idealize.ShloMosaic Idealize.ShloMosaic.TcCoe

/-- The first pass's payload over eight loads: sixteen more entries of a column. -/
theorem pay2_at (acc : FVec Ideal S8x128 .f32) (v0 v1 v2 v3 v4 v5 v6 v7 : Vec Ideal S1x16x128 .bf16) (G : ℕ → ℕ → EReal)
    (h0 : ∀ (a : Fin 16) (l : Fin 128), v0 (ix3 (0 : Fin 1) a l) = G (0 + a.val) l.val) (h1 : ∀ (a : Fin 16) (l : Fin 128), v1 (ix3 (0 : Fin 1) a l) = G (16 + a.val) l.val) (h2 : ∀ (a : Fin 16) (l : Fin 128), v2 (ix3 (0 : Fin 1) a l) = G (32 + a.val) l.val) (h3 : ∀ (a : Fin 16) (l : Fin 128), v3 (ix3 (0 : Fin 1) a l) = G (48 + a.val) l.val) (h4 : ∀ (a : Fin 16) (l : Fin 128), v4 (ix3 (0 : Fin 1) a l) = G (64 + a.val) l.val) (h5 : ∀ (a : Fin 16) (l : Fin 128), v5 (ix3 (0 : Fin 1) a l) = G (80 + a.val) l.val) (h6 : ∀ (a : Fin 16) (l : Fin 128), v6 (ix3 (0 : Fin 1) a l) = G (96 + a.val) l.val) (h7 : ∀ (a : Fin 16) (l : Fin 128), v7 (ix3 (0 : Fin 1) a l) = G (112 + a.val) l.val) (r : Fin 8) (l : Fin 128) :
    k0_pay60 (k0_pay10 acc v0 v1 v2 v3) v4 v5 v6 v7 (ix2 r l) = acc (ix2 r l) + ∑ u ∈ Finset.range 16, G (8 * u + r.val) l.val := by
  rw [← sum16 (fun u => G (8 * u + r.val) l.val)]
  pointwise [k0_pay60, k0_pay10, h0, h1, h2, h3, h4, h5, h6, h7]
  simp only [← Nat.add_assoc, Nat.reduceMul, Nat.reduceAdd, Nat.zero_add]

/-- The second pass's payload over eight loads: sixteen more squared distances from the row `m`. -/
theorem pay4_at (m : Vec Ideal S1x128 .f32) (acc : FVec Ideal S8x128 .f32) (v0 v1 v2 v3 v4 v5 v6 v7 : Vec Ideal S1x16x128 .bf16) (mu : ℕ → EReal) (G : ℕ → ℕ → EReal)
    (hm : ∀ l : Fin 128, m (ix2 (0 : Fin 1) l) = mu l.val) (h0 : ∀ (a : Fin 16) (l : Fin 128), v0 (ix3 (0 : Fin 1) a l) = G (0 + a.val) l.val) (h1 : ∀ (a : Fin 16) (l : Fin 128), v1 (ix3 (0 : Fin 1) a l) = G (16 + a.val) l.val) (h2 : ∀ (a : Fin 16) (l : Fin 128), v2 (ix3 (0 : Fin 1) a l) = G (32 + a.val) l.val) (h3 : ∀ (a : Fin 16) (l : Fin 128), v3 (ix3 (0 : Fin 1) a l) = G (48 + a.val) l.val) (h4 : ∀ (a : Fin 16) (l : Fin 128), v4 (ix3 (0 : Fin 1) a l) = G (64 + a.val) l.val) (h5 : ∀ (a : Fin 16) (l : Fin 128), v5 (ix3 (0 : Fin 1) a l) = G (80 + a.val) l.val) (h6 : ∀ (a : Fin 16) (l : Fin 128), v6 (ix3 (0 : Fin 1) a l) = G (96 + a.val) l.val) (h7 : ∀ (a : Fin 16) (l : Fin 128), v7 (ix3 (0 : Fin 1) a l) = G (112 + a.val) l.val) (r : Fin 8) (l : Fin 128) :
    k0_pay63 m (k0_pay12 m (k0_pay11 m acc v0 v1 v2) v3 v4 v5 v6) v7 (ix2 r l)
      = acc (ix2 r l) + ∑ u ∈ Finset.range 16, (G (8 * u + r.val) l.val - mu l.val) * (G (8 * u + r.val) l.val - mu l.val) := by
  rw [← sum16 (fun u => (G (8 * u + r.val) l.val - mu l.val) * (G (8 * u + r.val) l.val - mu l.val))]
  pointwise [k0_pay63, k0_pay12, k0_pay11, hm, h0, h1, h2, h3, h4, h5, h6, h7]
  simp only [← Nat.add_assoc, Nat.reduceMul, Nat.reduceAdd, Nat.zero_add]

/-- The gradient before the affine map, without the scale of the codes: from the entry, its column's mean, gain and
    offset, and the code. -/
def dhf (mu g b x y : EReal) : EReal :=
  y * (Ideal.logistic ((x - mu) * g + b) * ((1 + ((x - mu) * g + b)) - ((x - mu) * g + b) * Ideal.logistic ((x - mu) * g + b)))

theorem pay14_at (m g b : Vec Ideal S1x128 .f32) (x : Vec Ideal S1x32x128 .bf16) (y : Vec Ideal S1x32x128 .fp8e5m2) (a : Fin 32) (l : Fin 128) :
    k0_pay14 m g b x y (ix2 a l) = dhf (m (ix2 (0 : Fin 1) l)) (g (ix2 (0 : Fin 1) l)) (b (ix2 (0 : Fin 1) l)) (x (ix3 (0 : Fin 1) a l)) (y (ix3 (0 : Fin 1) a l)) := by
  pointwise [k0_pay14, k0_pay13]
  rfl

theorem pay13_at (m : Vec Ideal S1x128 .f32) (x : Vec Ideal S1x32x128 .bf16) (a : Fin 32) (l : Fin 128) :
    k0_pay13 m x (ix2 a l) = x (ix3 (0 : Fin 1) a l) - m (ix2 (0 : Fin 1) l) := by
  pointwise [k0_pay13]

/-- The tile stored in the third pass. -/
theorem pay15_at (m g b : Vec Ideal S1x128 .f32) (x : Vec Ideal S1x32x128 .bf16) (y : Vec Ideal S1x32x128 .fp8e5m2) (a : Fin 32) (l : Fin 128) :
    k0_pay15 m g b x y (ix3 (0 : Fin 1) a l) = k0_pay14 m g b x y (ix2 a l) := by
  pointwise [k0_pay15]

theorem pay16_at (m g b : Vec Ideal S1x128 .f32) (acc : FVec Ideal S8x128 .f32) (x : Vec Ideal S1x32x128 .bf16) (y : Vec Ideal S1x32x128 .fp8e5m2)
    (D : ℕ → ℕ → EReal) (o : ℕ) (h : ∀ (a : Fin 32) (l : Fin 128), k0_pay14 m g b x y (ix2 a l) = D (o + a.val) l.val) (r : Fin 8) (l : Fin 128) :
    k0_pay16 m g b acc x y (ix2 r l) = acc (ix2 r l) + D (o + r.val) l.val + D (o + 8 + r.val) l.val + D (o + 16 + r.val) l.val + D (o + 24 + r.val) l.val := by
  pointwise [k0_pay16, h]
  simp only [← Nat.add_assoc]

theorem pay17_at (m g b : Vec Ideal S1x128 .f32) (acc : FVec Ideal S8x128 .f32) (x : Vec Ideal S1x32x128 .bf16) (y : Vec Ideal S1x32x128 .fp8e5m2)
    (D E : ℕ → ℕ → EReal) (o : ℕ) (h : ∀ (a : Fin 32) (l : Fin 128), k0_pay14 m g b x y (ix2 a l) = D (o + a.val) l.val)
    (h' : ∀ (a : Fin 32) (l : Fin 128), k0_pay13 m x (ix2 a l) = E (o + a.val) l.val) (r : Fin 8) (l : Fin 128) :
    k0_pay17 m g b acc x y (ix2 r l) = acc (ix2 r l) + D (o + r.val) l.val * E (o + r.val) l.val + D (o + 8 + r.val) l.val * E (o + 8 + r.val) l.val
      + D (o + 16 + r.val) l.val * E (o + 16 + r.val) l.val + D (o + 24 + r.val) l.val * E (o + 24 + r.val) l.val := by
  pointwise [k0_pay17, h, h']
  simp only [← Nat.add_assoc]

/-- The third pass's two carried values over four loads: sixteen more terms each. -/
theorem pay6_at (m g b : Vec Ideal S1x128 .f32) (acc acc' : FVec Ideal S8x128 .f32) (x0 x1 x2 x3 : Vec Ideal S1x32x128 .bf16) (y0 y1 y2 y3 : Vec Ideal S1x32x128 .fp8e5m2)
    (D E : ℕ → ℕ → EReal) (h0 : ∀ (a : Fin 32) (l : Fin 128), k0_pay14 m g b x0 y0 (ix2 a l) = D (0 + a.val) l.val) (e0 : ∀ (a : Fin 32) (l : Fin 128), k0_pay13 m x0 (ix2 a l) = E (0 + a.val) l.val) (h1 : ∀ (a : Fin 32) (l : Fin 128), k0_pay14 m g b x1 y1 (ix2 a l) = D (32 + a.val) l.val) (e1 : ∀ (a : Fin 32) (l : Fin 128), k0_pay13 m x1 (ix2 a l) = E (32 + a.val) l.val) (h2 : ∀ (a : Fin 32) (l : Fin 128), k0_pay14 m g b x2 y2 (ix2 a l) = D (64 + a.val) l.val) (e2 : ∀ (a : Fin 32) (l : Fin 128), k0_pay13 m x2 (ix2 a l) = E (64 + a.val) l.val) (h3 : ∀ (a : Fin 32) (l : Fin 128), k0_pay14 m g b x3 y3 (ix2 a l) = D (96 + a.val) l.val) (e3 : ∀ (a : Fin 32) (l : Fin 128), k0_pay13 m x3 (ix2 a l) = E (96 + a.val) l.val) (r : Fin 8) (l : Fin 128) :
    k0_pay16 m g b (k0_pay16 m g b (k0_pay16 m g b (k0_pay16 m g b acc x0 y0) x1 y1) x2 y2) x3 y3 (ix2 r l)
      = acc (ix2 r l) + ∑ u ∈ Finset.range 16, D (8 * u + r.val) l.val
    ∧ k0_pay17 m g b (k0_pay17 m g b (k0_pay17 m g b (k0_pay17 m g b acc' x0 y0) x1 y1) x2 y2) x3 y3 (ix2 r l)
      = acc' (ix2 r l) + ∑ u ∈ Finset.range 16, D (8 * u + r.val) l.val * E (8 * u + r.val) l.val := by
  constructor
  · rw [← sum16' (fun u => D (8 * u + r.val) l.val)]
    rw [pay16_at m g b _ x3 y3 D 96 h3, pay16_at m g b _ x2 y2 D 64 h2, pay16_at m g b _ x1 y1 D 32 h1, pay16_at m g b _ x0 y0 D 0 h0]
  · rw [← sum16' (fun u => D (8 * u + r.val) l.val * E (8 * u + r.val) l.val)]
    rw [pay17_at m g b _ x3 y3 D E 96 h3 e3, pay17_at m g b _ x2 y2 D E 64 h2 e2, pay17_at m g b _ x1 y1 D E 32 h1 e1, pay17_at m g b _ x0 y0 D E 0 h0 e0]

/-- The input gradient from the value stored in the third pass, the entry and the four numbers of its column. -/
def dxf (mu a b c x d : EReal) : EReal := (d * a + c) + (x - mu) * b

theorem pay7_at (m a b c : Vec Ideal S1x128 .f32) (x : Vec Ideal S1x16x128 .bf16) (d : Vec Ideal S1x16x128 .f32) (q : Fin 16) (l : Fin 128) :
    k0_pay7 m a b c x d (ix2 q l) = dxf (m (ix2 (0 : Fin 1) l)) (a (ix2 (0 : Fin 1) l)) (b (ix2 (0 : Fin 1) l)) (c (ix2 (0 : Fin 1) l)) (x (ix3 (0 : Fin 1) q l)) (d (ix3 (0 : Fin 1) q l)) := by
  pointwise [k0_pay7]
  rfl

theorem pay8_at (m a b c : Vec Ideal S1x128 .f32) (x : Vec Ideal S1x16x128 .bf16) (d : Vec Ideal S1x16x128 .f32) (q : Fin 16) (l : Fin 128) :
    k0_pay8 m a b c x d (ix3 (0 : Fin 1) q l) = k0_pay7 m a b c x d (ix2 q l) := by
  pointwise [k0_pay8]

/-- The absolute value, as both programs take it. -/
def ab (x : EReal) : EReal := FloatOps.absf (F := Ideal) (φ := .f32) x

/-- One more tile folded into the running maximum. -/
def mxp (acc : FVec Ideal S8x128 .f32) (v : FVec Ideal S16x128 .f32) : FVec Ideal S8x128 .f32 :=
  maximumf acc (maximumf (extractStridedSlice S8x128 ![0, 0] (absf v) slices_S16x128_o0_0_S8x128) (extractStridedSlice S8x128 ![8, 0] (absf v) slices_S16x128_o8_0_S8x128))

theorem mxp_at (acc : FVec Ideal S8x128 .f32) (v : FVec Ideal S16x128 .f32) (D : ℕ → ℕ → EReal) (o : ℕ)
    (h : ∀ (a : Fin 16) (l : Fin 128), v (ix2 a l) = D (o + a.val) l.val) (r : Fin 8) (l : Fin 128) :
    mxp acc v (ix2 r l) = max (acc (ix2 r l)) (max (ab (D (o + r.val) l.val)) (ab (D (o + 8 + r.val) l.val))) := by
  pointwise [mxp, h]
  simp only [← Nat.add_assoc]
  rfl

/-- The last pass's carried maximum over eight tiles. -/
theorem mx8_at (acc : FVec Ideal S8x128 .f32) (v0 v1 v2 v3 v4 v5 v6 v7 : FVec Ideal S16x128 .f32) (D : ℕ → ℕ → EReal)
    (h0 : ∀ (a : Fin 16) (l : Fin 128), v0 (ix2 a l) = D (0 + a.val) l.val) (h1 : ∀ (a : Fin 16) (l : Fin 128), v1 (ix2 a l) = D (16 + a.val) l.val) (h2 : ∀ (a : Fin 16) (l : Fin 128), v2 (ix2 a l) = D (32 + a.val) l.val) (h3 : ∀ (a : Fin 16) (l : Fin 128), v3 (ix2 a l) = D (48 + a.val) l.val) (h4 : ∀ (a : Fin 16) (l : Fin 128), v4 (ix2 a l) = D (64 + a.val) l.val) (h5 : ∀ (a : Fin 16) (l : Fin 128), v5 (ix2 a l) = D (80 + a.val) l.val) (h6 : ∀ (a : Fin 16) (l : Fin 128), v6 (ix2 a l) = D (96 + a.val) l.val) (h7 : ∀ (a : Fin 16) (l : Fin 128), v7 (ix2 a l) = D (112 + a.val) l.val) (r : Fin 8) (l : Fin 128) :
    mxp (mxp (mxp (mxp (mxp (mxp (mxp (mxp acc v0) v1) v2) v3) v4) v5) v6) v7 (ix2 r l) = maxTo (fun u => ab (D (8 * u + r.val) l.val)) (acc (ix2 r l)) 16 := by
  rw [← max16 (fun u => ab (D (8 * u + r.val) l.val))]
  rw [mxp_at _ v7 D 112 h7, mxp_at _ v6 D 96 h6, mxp_at _ v5 D 80 h5, mxp_at _ v4 D 64 h4, mxp_at _ v3 D 48 h3, mxp_at _ v2 D 32 h2, mxp_at _ v1 D 16 h1, mxp_at _ v0 D 0 h0]

end Cert.KernelIdeal.Pass

end
-- ==== Proof.PassInner.lean ====
/- The inner loops of the main kernel at exact arithmetic: what each carries after its trips, as sums over rows. -/
module

public import proofs.«01_k».proof.Proof.PassPay

@[expose] public section

set_option maxRecDepth 16384
set_option maxHeartbeats 2000000

noncomputable section

namespace Cert.KernelIdeal.Pass

open Cert.KernelIdeal Cert.KernelIdeal.Gen
open Idealize.ShloMosaic Idealize.ShloMosaic.TcCoe

theorem tripR2_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (t : Fin k0_t1_loop.trips) (v124 : BitVec 32) (X : BufTy.Contents (Elt Ideal) arg2.view.ty) (k : Fin k0_t2_loop.trips) (acc : FVec Ideal S8x128 .f32) (r : Fin 8) (l : Fin 128) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 X k acc (ix2 r l)
      = acc (ix2 r l) + ∑ u ∈ Finset.range 16, at3 (arg2.view.read (Elt Ideal) X) (128 * k.val + (8 * u + r.val)) (128 * t.val + l.val) := by
  unfold tripR_k0_t2 trip_k0_t2
  dsimp only
  exact pay2_at _ _ _ _ _ _ _ _ _ (fun s l => at3 (arg2.view.read (Elt Ideal) X) (128 * k.val + s) (128 * t.val + l)) (fun a l => (ld16b arg2.view X _ _ _ _ (k0_off1_eq t k 0 : k0_off1 t k 0#32 = _) a l).trans (congrArg₂ _ (Nat.add_assoc _ _ _) rfl)) (fun a l => (ld16b arg2.view X _ _ _ _ (k0_off1_eq t k 1 : k0_off1 t k 16#32 = _) a l).trans (congrArg₂ _ (Nat.add_assoc _ _ _) rfl)) (fun a l => (ld16b arg2.view X _ _ _ _ (k0_off1_eq t k 2 : k0_off1 t k 32#32 = _) a l).trans (congrArg₂ _ (Nat.add_assoc _ _ _) rfl)) (fun a l => (ld16b arg2.view X _ _ _ _ (k0_off1_eq t k 3 : k0_off1 t k 48#32 = _) a l).trans (congrArg₂ _ (Nat.add_assoc _ _ _) rfl)) (fun a l => (ld16b arg2.view X _ _ _ _ (k0_off1_eq t k 4 : k0_off1 t k 64#32 = _) a l).trans (congrArg₂ _ (Nat.add_assoc _ _ _) rfl)) (fun a l => (ld16b arg2.view X _ _ _ _ (k0_off1_eq t k 5 : k0_off1 t k 80#32 = _) a l).trans (congrArg₂ _ (Nat.add_assoc _ _ _) rfl)) (fun a l => (ld16b arg2.view X _ _ _ _ (k0_off1_eq t k 6 : k0_off1 t k 96#32 = _) a l).trans (congrArg₂ _ (Nat.add_assoc _ _ _) rfl)) (fun a l => (ld16b arg2.view X _ _ _ _ (k0_off1_eq t k 7 : k0_off1 t k 112#32 = _) a l).trans (congrArg₂ _ (Nat.add_assoc _ _ _) rfl)) r l

/-- The first pass after its trips: a column summed over the rows of one residue. -/
theorem st2_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (t : Fin k0_t1_loop.trips) (v124 : BitVec 32) (X : BufTy.Contents (Elt Ideal) arg2.view.ty) (init : FVec Ideal S8x128 .f32) (r : Fin 8) (l : Fin 128) (k : ℕ) (hk : k ≤ 8) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 X init k (ix2 r l)
      = init (ix2 r l) + ∑ u ∈ Finset.range (16 * k), at3 (arg2.view.read (Elt Ideal) X) (8 * u + r.val) (128 * t.val + l.val) := by
  induction k with
  | zero => rw [st_k0_t2_zero]; simp
  | succ k ih =>
    refine (congrFun (st_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 X init ⟨k, hk⟩) (ix2 r l)).trans ?_
    rw [tripR2_eq, ih (by omega), ← sum_next]
    refine congrArg _ (Finset.sum_congr rfl fun u _ => ?_)
    have e : 128 * k + (8 * u + r.val) = 8 * (16 * k + u) + r.val := by omega
    show _ = _
    simp only [e]

theorem tripR4_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (t : Fin k0_t3_loop.trips) (v124 : BitVec 32) (v126 : Vec Ideal S1x128 .f32) (X : BufTy.Contents (Elt Ideal) arg2.view.ty) (mu : ℕ → EReal) (hm : ∀ l : Fin 128, v126 (ix2 (0 : Fin 1) l) = mu (128 * t.val + l.val)) (k : Fin k0_t4_loop.trips) (acc : FVec Ideal S8x128 .f32) (r : Fin 8) (l : Fin 128) :
    tripR_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 X k acc (ix2 r l)
      = acc (ix2 r l) + ∑ u ∈ Finset.range 16, ((at3 (arg2.view.read (Elt Ideal) X) (128 * k.val + (8 * u + r.val)) (128 * t.val + l.val) - mu (128 * t.val + l.val)) * (at3 (arg2.view.read (Elt Ideal) X) (128 * k.val + (8 * u + r.val)) (128 * t.val + l.val) - mu (128 * t.val + l.val))) := by
  unfold tripR_k0_t4 trip_k0_t4
  dsimp only
  exact pay4_at v126 _ _ _ _ _ _ _ _ _ (fun l => mu (128 * t.val + l)) (fun s l => at3 (arg2.view.read (Elt Ideal) X) (128 * k.val + s) (128 * t.val + l)) hm (fun a l => (ld16b arg2.view X _ _ _ _ (k0_off4_eq t k 0 : k0_off4 t k 0#32 = _) a l).trans (congrArg₂ _ (Nat.add_assoc _ _ _) rfl)) (fun a l => (ld16b arg2.view X _ _ _ _ (k0_off4_eq t k 1 : k0_off4 t k 16#32 = _) a l).trans (congrArg₂ _ (Nat.add_assoc _ _ _) rfl)) (fun a l => (ld16b arg2.view X _ _ _ _ (k0_off4_eq t k 2 : k0_off4 t k 32#32 = _) a l).trans (congrArg₂ _ (Nat.add_assoc _ _ _) rfl)) (fun a l => (ld16b arg2.view X _ _ _ _ (k0_off4_eq t k 3 : k0_off4 t k 48#32 = _) a l).trans (congrArg₂ _ (Nat.add_assoc _ _ _) rfl)) (fun a l => (ld16b arg2.view X _ _ _ _ (k0_off4_eq t k 4 : k0_off4 t k 64#32 = _) a l).trans (congrArg₂ _ (Nat.add_assoc _ _ _) rfl)) (fun a l => (ld16b arg2.view X _ _ _ _ (k0_off4_eq t k 5 : k0_off4 t k 80#32 = _) a l).trans (congrArg₂ _ (Nat.add_assoc _ _ _) rfl)) (fun a l => (ld16b arg2.view X _ _ _ _ (k0_off4_eq t k 6 : k0_off4 t k 96#32 = _) a l).trans (congrArg₂ _ (Nat.add_assoc _ _ _) rfl)) (fun a l => (ld16b arg2.view X _ _ _ _ (k0_off4_eq t k 7 : k0_off4 t k 112#32 = _) a l).trans (congrArg₂ _ (Nat.add_assoc _ _ _) rfl)) r l

/-- The second pass after its trips: squared distances from the mean, summed over the rows of one residue. -/
theorem st4_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (t : Fin k0_t3_loop.trips) (v124 : BitVec 32) (v126 : Vec Ideal S1x128 .f32) (X : BufTy.Contents (Elt Ideal) arg2.view.ty) (mu : ℕ → EReal) (hm : ∀ l : Fin 128, v126 (ix2 (0 : Fin 1) l) = mu (128 * t.val + l.val)) (init : FVec Ideal S8x128 .f32) (r : Fin 8) (l : Fin 128) (k : ℕ) (hk : k ≤ 8) :
    st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 X init k (ix2 r l)
      = init (ix2 r l) + ∑ u ∈ Finset.range (16 * k), ((at3 (arg2.view.read (Elt Ideal) X) (8 * u + r.val) (128 * t.val + l.val) - mu (128 * t.val + l.val)) * (at3 (arg2.view.read (Elt Ideal) X) (8 * u + r.val) (128 * t.val + l.val) - mu (128 * t.val + l.val))) := by
  induction k with
  | zero => rw [st_k0_t4_zero]; simp
  | succ k ih =>
    refine (congrFun (st_k0_t4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 X init ⟨k, hk⟩) (ix2 r l)).trans ?_
    rw [tripR4_eq (mu := mu) (hm := hm), ih (by omega), ← sum_next]
    refine congrArg _ (Finset.sum_congr rfl fun u _ => ?_)
    have e : 128 * k + (8 * u + r.val) = 8 * (16 * k + u) + r.val := by omega
    show _ = _
    simp only [e]

/-- The gradient before the affine map at a row and a channel of the staged blocks. -/
def dhAt (mu g b : ℕ → EReal) (x y : S1x1024x1920.Idx → EReal) (s c : ℕ) : EReal := dhf (mu c) (g c) (b c) (at3 x s c) (at3 y s c)

theorem tripR6_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (v0 : FVec Ideal S8x128 .f32) (v23 : Vec Ideal S8x1920 .f32) (v25 : FVec Ideal S1920x128 .f32) (t : Fin k0_t5_loop.trips) (v124 : BitVec 32) (v126 v128 v130 : Vec Ideal S1x128 .f32) (X : BufTy.Contents (Elt Ideal) arg2.view.ty) (Y : BufTy.Contents (Elt Ideal) arg3.view.ty) (mu g b : ℕ → EReal) (hm : ∀ l : Fin 128, v126 (ix2 (0 : Fin 1) l) = mu (128 * t.val + l.val)) (hg : ∀ l : Fin 128, v128 (ix2 (0 : Fin 1) l) = g (128 * t.val + l.val)) (hb : ∀ l : Fin 128, v130 (ix2 (0 : Fin 1) l) = b (128 * t.val + l.val)) (k : Fin k0_t6_loop.trips) (acc : FVec Ideal S8x128 .f32 × FVec Ideal S8x128 .f32) (r : Fin 8) (l : Fin 128) :
    (tripR_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y k acc).1 (ix2 r l)
      = acc.1 (ix2 r l) + ∑ u ∈ Finset.range 16, (dhAt mu g b (arg2.view.read (Elt Ideal) X) (arg3.view.read (Elt Ideal) Y) (128 * k.val + (8 * u + r.val)) (128 * t.val + l.val))
    ∧ (tripR_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y k acc).2 (ix2 r l)
      = acc.2 (ix2 r l) + ∑ u ∈ Finset.range 16, (dhAt mu g b (arg2.view.read (Elt Ideal) X) (arg3.view.read (Elt Ideal) Y) (128 * k.val + (8 * u + r.val)) (128 * t.val + l.val)) * (at3 (arg2.view.read (Elt Ideal) X) (128 * k.val + (8 * u + r.val)) (128 * t.val + l.val) - mu (128 * t.val + l.val)) := by
  unfold tripR_k0_t6 trip_k0_t6
  dsimp only
  have h0 : ∀ (a : Fin 32) (l : Fin 128), k0_pay14 v126 v128 v130 (View.readAt (Elt Ideal) arg2.view (Rect.unit (s := S1x1024x1920) (k0_off9 t k 0#32) ![1, 32, 128] (by exact k0_off9_inb t k 0)).toLoadRect X) (View.readAt (Elt Ideal) arg3.view (Rect.unit (s := S1x1024x1920) (k0_off9 t k 0#32) ![1, 32, 128] (by exact k0_off9_inb t k 0)).toLoadRect Y) (ix2 a l) = dhAt mu g b (arg2.view.read (Elt Ideal) X) (arg3.view.read (Elt Ideal) Y) (128 * k.val + (0 + a.val)) (128 * t.val + l.val) := fun a l => by
    rw [pay14_at, hm, hg, hb, ld32b arg2.view X (k0_off9 t k 0#32) (128 * k.val + 0) (128 * t.val) _ (k0_off9_eq t k 0), ld32c arg3.view Y (k0_off9 t k 0#32) (128 * k.val + 0) (128 * t.val) _ (k0_off9_eq t k 0)]
    rw [Nat.add_assoc]
    rfl
  have h1 : ∀ (a : Fin 32) (l : Fin 128), k0_pay14 v126 v128 v130 (View.readAt (Elt Ideal) arg2.view (Rect.unit (s := S1x1024x1920) (k0_off9 t k 32#32) ![1, 32, 128] (by exact k0_off9_inb t k 1)).toLoadRect X) (View.readAt (Elt Ideal) arg3.view (Rect.unit (s := S1x1024x1920) (k0_off9 t k 32#32) ![1, 32, 128] (by exact k0_off9_inb t k 1)).toLoadRect Y) (ix2 a l) = dhAt mu g b (arg2.view.read (Elt Ideal) X) (arg3.view.read (Elt Ideal) Y) (128 * k.val + (32 + a.val)) (128 * t.val + l.val) := fun a l => by
    rw [pay14_at, hm, hg, hb, ld32b arg2.view X (k0_off9 t k 32#32) (128 * k.val + 32) (128 * t.val) _ (k0_off9_eq t k 1), ld32c arg3.view Y (k0_off9 t k 32#32) (128 * k.val + 32) (128 * t.val) _ (k0_off9_eq t k 1)]
    rw [Nat.add_assoc]
    rfl
  have h2 : ∀ (a : Fin 32) (l : Fin 128), k0_pay14 v126 v128 v130 (View.readAt (Elt Ideal) arg2.view (Rect.unit (s := S1x1024x1920) (k0_off9 t k 64#32) ![1, 32, 128] (by exact k0_off9_inb t k 2)).toLoadRect X) (View.readAt (Elt Ideal) arg3.view (Rect.unit (s := S1x1024x1920) (k0_off9 t k 64#32) ![1, 32, 128] (by exact k0_off9_inb t k 2)).toLoadRect Y) (ix2 a l) = dhAt mu g b (arg2.view.read (Elt Ideal) X) (arg3.view.read (Elt Ideal) Y) (128 * k.val + (64 + a.val)) (128 * t.val + l.val) := fun a l => by
    rw [pay14_at, hm, hg, hb, ld32b arg2.view X (k0_off9 t k 64#32) (128 * k.val + 64) (128 * t.val) _ (k0_off9_eq t k 2), ld32c arg3.view Y (k0_off9 t k 64#32) (128 * k.val + 64) (128 * t.val) _ (k0_off9_eq t k 2)]
    rw [Nat.add_assoc]
    rfl
  have h3 : ∀ (a : Fin 32) (l : Fin 128), k0_pay14 v126 v128 v130 (View.readAt (Elt Ideal) arg2.view (Rect.unit (s := S1x1024x1920) (k0_off9 t k 96#32) ![1, 32, 128] (by exact k0_off9_inb t k 3)).toLoadRect X) (View.readAt (Elt Ideal) arg3.view (Rect.unit (s := S1x1024x1920) (k0_off9 t k 96#32) ![1, 32, 128] (by exact k0_off9_inb t k 3)).toLoadRect Y) (ix2 a l) = dhAt mu g b (arg2.view.read (Elt Ideal) X) (arg3.view.read (Elt Ideal) Y) (128 * k.val + (96 + a.val)) (128 * t.val + l.val) := fun a l => by
    rw [pay14_at, hm, hg, hb, ld32b arg2.view X (k0_off9 t k 96#32) (128 * k.val + 96) (128 * t.val) _ (k0_off9_eq t k 3), ld32c arg3.view Y (k0_off9 t k 96#32) (128 * k.val + 96) (128 * t.val) _ (k0_off9_eq t k 3)]
    rw [Nat.add_assoc]
    rfl
  have e0 : ∀ (a : Fin 32) (l : Fin 128), k0_pay13 v126 (View.readAt (Elt Ideal) arg2.view (Rect.unit (s := S1x1024x1920) (k0_off9 t k 0#32) ![1, 32, 128] (by exact k0_off9_inb t k 0)).toLoadRect X) (ix2 a l) = at3 (arg2.view.read (Elt Ideal) X) (128 * k.val + (0 + a.val)) (128 * t.val + l.val) - mu (128 * t.val + l.val) := fun a l => by
    rw [pay13_at, hm, ld32b arg2.view X (k0_off9 t k 0#32) (128 * k.val + 0) (128 * t.val) _ (k0_off9_eq t k 0)]
    rw [Nat.add_assoc]
  have e1 : ∀ (a : Fin 32) (l : Fin 128), k0_pay13 v126 (View.readAt (Elt Ideal) arg2.view (Rect.unit (s := S1x1024x1920) (k0_off9 t k 32#32) ![1, 32, 128] (by exact k0_off9_inb t k 1)).toLoadRect X) (ix2 a l) = at3 (arg2.view.read (Elt Ideal) X) (128 * k.val + (32 + a.val)) (128 * t.val + l.val) - mu (128 * t.val + l.val) := fun a l => by
    rw [pay13_at, hm, ld32b arg2.view X (k0_off9 t k 32#32) (128 * k.val + 32) (128 * t.val) _ (k0_off9_eq t k 1)]
    rw [Nat.add_assoc]
  have e2 : ∀ (a : Fin 32) (l : Fin 128), k0_pay13 v126 (View.readAt (Elt Ideal) arg2.view (Rect.unit (s := S1x1024x1920) (k0_off9 t k 64#32) ![1, 32, 128] (by exact k0_off9_inb t k 2)).toLoadRect X) (ix2 a l) = at3 (arg2.view.read (Elt Ideal) X) (128 * k.val + (64 + a.val)) (128 * t.val + l.val) - mu (128 * t.val + l.val) := fun a l => by
    rw [pay13_at, hm, ld32b arg2.view X (k0_off9 t k 64#32) (128 * k.val + 64) (128 * t.val) _ (k0_off9_eq t k 2)]
    rw [Nat.add_assoc]
  have e3 : ∀ (a : Fin 32) (l : Fin 128), k0_pay13 v126 (View.readAt (Elt Ideal) arg2.view (Rect.unit (s := S1x1024x1920) (k0_off9 t k 96#32) ![1, 32, 128] (by exact k0_off9_inb t k 3)).toLoadRect X) (ix2 a l) = at3 (arg2.view.read (Elt Ideal) X) (128 * k.val + (96 + a.val)) (128 * t.val + l.val) - mu (128 * t.val + l.val) := fun a l => by
    rw [pay13_at, hm, ld32b arg2.view X (k0_off9 t k 96#32) (128 * k.val + 96) (128 * t.val) _ (k0_off9_eq t k 3)]
    rw [Nat.add_assoc]
  exact pay6_at v126 v128 v130 acc.1 acc.2 _ _ _ _ _ _ _ _ (fun s l => dhAt mu g b (arg2.view.read (Elt Ideal) X) (arg3.view.read (Elt Ideal) Y) (128 * k.val + s) (128 * t.val + l)) (fun s l => at3 (arg2.view.read (Elt Ideal) X) (128 * k.val + s) (128 * t.val + l) - mu (128 * t.val + l)) h0 e0 h1 e1 h2 e2 h3 e3 r l

theorem tripL6_rd (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (v0 : FVec Ideal S8x128 .f32) (v23 : Vec Ideal S8x1920 .f32) (v25 : FVec Ideal S1920x128 .f32) (t : Fin k0_t5_loop.trips) (v124 : BitVec 32) (v126 v128 v130 : Vec Ideal S1x128 .f32) (X : BufTy.Contents (Elt Ideal) arg2.view.ty) (Y : BufTy.Contents (Elt Ideal) arg3.view.ty) (mu g b : ℕ → EReal) (hm : ∀ l : Fin 128, v126 (ix2 (0 : Fin 1) l) = mu (128 * t.val + l.val)) (hg : ∀ l : Fin 128, v128 (ix2 (0 : Fin 1) l) = g (128 * t.val + l.val)) (hb : ∀ l : Fin 128, v130 (ix2 (0 : Fin 1) l) = b (128 * t.val + l.val)) (k : Fin k0_t6_loop.trips) (acc : FVec Ideal S8x128 .f32 × FVec Ideal S8x128 .f32)
    (f : arg8.view.ty.Contents (Elt Ideal)) (L : List (View.Piece (Elt Ideal) S1x1024x1920 .f32)) (R : Fin 1024 → Fin 1920 → EReal)
    (hL : ∀ (s : Fin 1024) (c : Fin 1920), arg8.view.read (Elt Ideal) (arg8.view.writes (Elt Ideal) f L) (ix3 0 s c)
      = if s.val < 128 * k.val ∧ 128 * t.val ≤ c.val ∧ c.val < 128 * t.val + 128 then (dhAt mu g b (arg2.view.read (Elt Ideal) X) (arg3.view.read (Elt Ideal) Y) s.val c.val) else R s c) (s : Fin 1024) (c' : Fin 1920) :
    arg8.view.read (Elt Ideal) (arg8.view.writes (Elt Ideal) f (tripL_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y k acc ++ L)) (ix3 0 s c')
      = if s.val < 128 * (k.val + 1) ∧ 128 * t.val ≤ c'.val ∧ c'.val < 128 * t.val + 128 then (dhAt mu g b (arg2.view.read (Elt Ideal) X) (arg3.view.read (Elt Ideal) Y) s.val c'.val) else R s c' := by
  unfold tripL_k0_t6 trip_k0_t6
  dsimp only
  have h0 : ∀ (a : Fin 32) (l : Fin 128), k0_pay14 v126 v128 v130 (View.readAt (Elt Ideal) arg2.view (Rect.unit (s := S1x1024x1920) (k0_off9 t k 0#32) ![1, 32, 128] (by exact k0_off9_inb t k 0)).toLoadRect X) (View.readAt (Elt Ideal) arg3.view (Rect.unit (s := S1x1024x1920) (k0_off9 t k 0#32) ![1, 32, 128] (by exact k0_off9_inb t k 0)).toLoadRect Y) (ix2 a l) = dhAt mu g b (arg2.view.read (Elt Ideal) X) (arg3.view.read (Elt Ideal) Y) (128 * k.val + (0 + a.val)) (128 * t.val + l.val) := fun a l => by
    rw [pay14_at, hm, hg, hb, ld32b arg2.view X (k0_off9 t k 0#32) (128 * k.val + 0) (128 * t.val) _ (k0_off9_eq t k 0), ld32c arg3.view Y (k0_off9 t k 0#32) (128 * k.val + 0) (128 * t.val) _ (k0_off9_eq t k 0)]
    rw [Nat.add_assoc]
    rfl
  have h1 : ∀ (a : Fin 32) (l : Fin 128), k0_pay14 v126 v128 v130 (View.readAt (Elt Ideal) arg2.view (Rect.unit (s := S1x1024x1920) (k0_off9 t k 32#32) ![1, 32, 128] (by exact k0_off9_inb t k 1)).toLoadRect X) (View.readAt (Elt Ideal) arg3.view (Rect.unit (s := S1x1024x1920) (k0_off9 t k 32#32) ![1, 32, 128] (by exact k0_off9_inb t k 1)).toLoadRect Y) (ix2 a l) = dhAt mu g b (arg2.view.read (Elt Ideal) X) (arg3.view.read (Elt Ideal) Y) (128 * k.val + (32 + a.val)) (128 * t.val + l.val) := fun a l => by
    rw [pay14_at, hm, hg, hb, ld32b arg2.view X (k0_off9 t k 32#32) (128 * k.val + 32) (128 * t.val) _ (k0_off9_eq t k 1), ld32c arg3.view Y (k0_off9 t k 32#32) (128 * k.val + 32) (128 * t.val) _ (k0_off9_eq t k 1)]
    rw [Nat.add_assoc]
    rfl
  have h2 : ∀ (a : Fin 32) (l : Fin 128), k0_pay14 v126 v128 v130 (View.readAt (Elt Ideal) arg2.view (Rect.unit (s := S1x1024x1920) (k0_off9 t k 64#32) ![1, 32, 128] (by exact k0_off9_inb t k 2)).toLoadRect X) (View.readAt (Elt Ideal) arg3.view (Rect.unit (s := S1x1024x1920) (k0_off9 t k 64#32) ![1, 32, 128] (by exact k0_off9_inb t k 2)).toLoadRect Y) (ix2 a l) = dhAt mu g b (arg2.view.read (Elt Ideal) X) (arg3.view.read (Elt Ideal) Y) (128 * k.val + (64 + a.val)) (128 * t.val + l.val) := fun a l => by
    rw [pay14_at, hm, hg, hb, ld32b arg2.view X (k0_off9 t k 64#32) (128 * k.val + 64) (128 * t.val) _ (k0_off9_eq t k 2), ld32c arg3.view Y (k0_off9 t k 64#32) (128 * k.val + 64) (128 * t.val) _ (k0_off9_eq t k 2)]
    rw [Nat.add_assoc]
    rfl
  have h3 : ∀ (a : Fin 32) (l : Fin 128), k0_pay14 v126 v128 v130 (View.readAt (Elt Ideal) arg2.view (Rect.unit (s := S1x1024x1920) (k0_off9 t k 96#32) ![1, 32, 128] (by exact k0_off9_inb t k 3)).toLoadRect X) (View.readAt (Elt Ideal) arg3.view (Rect.unit (s := S1x1024x1920) (k0_off9 t k 96#32) ![1, 32, 128] (by exact k0_off9_inb t k 3)).toLoadRect Y) (ix2 a l) = dhAt mu g b (arg2.view.read (Elt Ideal) X) (arg3.view.read (Elt Ideal) Y) (128 * k.val + (96 + a.val)) (128 * t.val + l.val) := fun a l => by
    rw [pay14_at, hm, hg, hb, ld32b arg2.view X (k0_off9 t k 96#32) (128 * k.val + 96) (128 * t.val) _ (k0_off9_eq t k 3), ld32c arg3.view Y (k0_off9 t k 96#32) (128 * k.val + 96) (128 * t.val) _ (k0_off9_eq t k 3)]
    rw [Nat.add_assoc]
    rfl
  exact rd_cons arg8.view f _ (128 * k.val + 96) (128 * t.val) _ _ _ (dhAt mu g b (arg2.view.read (Elt Ideal) X) (arg3.view.read (Elt Ideal) Y)) R (k0_off9_eq t k 3) (fun a l => (pay15_at v126 v128 v130 _ _ a l).trans ((h3 a l).trans (congrArg₂ _ (Nat.add_assoc _ _ _).symm rfl)))
    (rd_cons arg8.view f _ (128 * k.val + 64) (128 * t.val) _ _ _ (dhAt mu g b (arg2.view.read (Elt Ideal) X) (arg3.view.read (Elt Ideal) Y)) R (k0_off9_eq t k 2) (fun a l => (pay15_at v126 v128 v130 _ _ a l).trans ((h2 a l).trans (congrArg₂ _ (Nat.add_assoc _ _ _).symm rfl)))
    (rd_cons arg8.view f _ (128 * k.val + 32) (128 * t.val) _ _ _ (dhAt mu g b (arg2.view.read (Elt Ideal) X) (arg3.view.read (Elt Ideal) Y)) R (k0_off9_eq t k 1) (fun a l => (pay15_at v126 v128 v130 _ _ a l).trans ((h1 a l).trans (congrArg₂ _ (Nat.add_assoc _ _ _).symm rfl)))
    (rd_cons arg8.view f _ (128 * k.val + 0) (128 * t.val) _ _ _ (dhAt mu g b (arg2.view.read (Elt Ideal) X) (arg3.view.read (Elt Ideal) Y)) R (k0_off9_eq t k 0) (fun a l => (pay15_at v126 v128 v130 _ _ a l).trans ((h0 a l).trans (congrArg₂ _ (Nat.add_assoc _ _ _).symm rfl)))
    hL))) s c'

/-- The third pass after its trips: both carried sums, and what the block written so far reads. -/
theorem st6_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (v0 : FVec Ideal S8x128 .f32) (v23 : Vec Ideal S8x1920 .f32) (v25 : FVec Ideal S1920x128 .f32) (t : Fin k0_t5_loop.trips) (v124 : BitVec 32) (v126 v128 v130 : Vec Ideal S1x128 .f32) (X : BufTy.Contents (Elt Ideal) arg2.view.ty) (Y : BufTy.Contents (Elt Ideal) arg3.view.ty) (mu g b : ℕ → EReal) (hm : ∀ l : Fin 128, v126 (ix2 (0 : Fin 1) l) = mu (128 * t.val + l.val)) (hg : ∀ l : Fin 128, v128 (ix2 (0 : Fin 1) l) = g (128 * t.val + l.val)) (hb : ∀ l : Fin 128, v130 (ix2 (0 : Fin 1) l) = b (128 * t.val + l.val)) (init : FVec Ideal S8x128 .f32 × FVec Ideal S8x128 .f32) (f : arg8.view.ty.Contents (Elt Ideal)) (k : ℕ) (hk : k ≤ 8) :
    (∀ (r : Fin 8) (l : Fin 128), (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y init k).1.1 (ix2 r l)
      = init.1 (ix2 r l) + ∑ u ∈ Finset.range (16 * k), (dhAt mu g b (arg2.view.read (Elt Ideal) X) (arg3.view.read (Elt Ideal) Y) (8 * u + r.val) (128 * t.val + l.val)))
    ∧ (∀ (r : Fin 8) (l : Fin 128), (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y init k).1.2 (ix2 r l)
      = init.2 (ix2 r l) + ∑ u ∈ Finset.range (16 * k), (dhAt mu g b (arg2.view.read (Elt Ideal) X) (arg3.view.read (Elt Ideal) Y) (8 * u + r.val) (128 * t.val + l.val)) * (at3 (arg2.view.read (Elt Ideal) X) (8 * u + r.val) (128 * t.val + l.val) - mu (128 * t.val + l.val)))
    ∧ (∀ (s : Fin 1024) (c' : Fin 1920), arg8.view.read (Elt Ideal) (arg8.view.writes (Elt Ideal) f (st_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y init k).2) (ix3 0 s c')
      = if s.val < 128 * k ∧ 128 * t.val ≤ c'.val ∧ c'.val < 128 * t.val + 128 then (dhAt mu g b (arg2.view.read (Elt Ideal) X) (arg3.view.read (Elt Ideal) Y) s.val c'.val) else arg8.view.read (Elt Ideal) f (ix3 0 s c')) := by
  induction k with
  | zero =>
    refine ⟨fun r l => ?_, fun r l => ?_, fun s c' => ?_⟩
    · rw [st_k0_t6_zero]; simp
    · rw [st_k0_t6_zero]; simp
    · rw [if_neg (fun h => by omega)]; rfl
  | succ k ih =>
    obtain ⟨i1, i2, i3⟩ := ih (by omega)
    have hs := st_k0_t6_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y init ⟨k, hk⟩
    refine ⟨fun r l => ?_, fun r l => ?_, fun s c' => ?_⟩
    · refine (congrArg (fun z => z.1.1 (ix2 r l)) hs).trans ?_
      refine ((tripR6_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y mu g b hm hg hb ⟨k, hk⟩ _ r l).1).trans ?_
      refine (congrArg (· + _) (i1 r l)).trans ?_
      rw [← sum_next]
      refine congrArg _ (Finset.sum_congr rfl fun u _ => ?_)
      have e : 128 * k + (8 * u + r.val) = 8 * (16 * k + u) + r.val := by omega
      show _ = _
      simp only [e]
    · refine (congrArg (fun z => z.1.2 (ix2 r l)) hs).trans ?_
      refine ((tripR6_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y mu g b hm hg hb ⟨k, hk⟩ _ r l).2).trans ?_
      refine (congrArg (· + _) (i2 r l)).trans ?_
      rw [← sum_next]
      refine congrArg _ (Finset.sum_congr rfl fun u _ => ?_)
      have e : 128 * k + (8 * u + r.val) = 8 * (16 * k + u) + r.val := by omega
      show _ = _
      simp only [e]
    · refine (congrArg (fun z => arg8.view.read (Elt Ideal) (arg8.view.writes (Elt Ideal) f z.2) (ix3 0 s c')) hs).trans ?_
      exact tripL6_rd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 t v124 v126 v128 v130 X Y mu g b hm hg hb ⟨k, hk⟩ _ f _ _ i3 s c'

end Cert.KernelIdeal.Pass

end
-- ==== Proof.PassLast.lean ====
/- The last pass of the main kernel at exact arithmetic: the input gradient it stores and the running maximum it carries. -/
module

public import proofs.«01_k».proof.Proof.PassInner

@[expose] public section

set_option maxRecDepth 16384
set_option maxHeartbeats 2000000

noncomputable section

namespace Cert.KernelIdeal.Pass

open Cert.KernelIdeal Cert.KernelIdeal.Gen
open Idealize.ShloMosaic Idealize.ShloMosaic.TcCoe

/-- The input gradient at a row and a channel, from the values `d` of the third pass. -/
def dxAt (mu ga gb gc : ℕ → EReal) (x : S1x1024x1920.Idx → EReal) (d : ℕ → ℕ → EReal) (s c : ℕ) : EReal :=
  dxf (mu c) (ga c) (gb c) (gc c) (at3 x s c) (d s c)

theorem tripR8_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (t : Fin k0_t7_loop.trips) (v124 : BitVec 32) (v126 v128 v130 v132 : Vec Ideal S1x128 .f32) (X : BufTy.Contents (Elt Ideal) arg2.view.ty) (mu ga gb gc : ℕ → EReal) (hm : ∀ l : Fin 128, v126 (ix2 (0 : Fin 1) l) = mu (128 * t.val + l.val)) (ha : ∀ l : Fin 128, v128 (ix2 (0 : Fin 1) l) = ga (128 * t.val + l.val)) (hb : ∀ l : Fin 128, v130 (ix2 (0 : Fin 1) l) = gb (128 * t.val + l.val)) (hc : ∀ l : Fin 128, v132 (ix2 (0 : Fin 1) l) = gc (128 * t.val + l.val)) (k : Fin k0_t8_loop.trips) (acc : FVec Ideal S8x128 .f32) (f : arg8.view.ty.Contents (Elt Ideal))
    (d : ℕ → ℕ → EReal) (hd : ∀ s j : ℕ, s < 128 → j < 128 → at3 (arg8.view.read (Elt Ideal) f) (128 * k.val + s) (128 * t.val + j) = d (128 * k.val + s) (128 * t.val + j)) (r : Fin 8) (l : Fin 128) :
    tripR_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X k acc f (ix2 r l)
      = maxTo (fun u => ab (dxAt mu ga gb gc (arg2.view.read (Elt Ideal) X) d (128 * k.val + (8 * u + r.val)) (128 * t.val + l.val))) (acc (ix2 r l)) 16 := by
  unfold tripR_k0_t8 trip_k0_t8
  dsimp only
  have h0 : ∀ (a : Fin 16) (l : Fin 128), k0_pay7 v126 v128 v130 v132 (View.readAt (Elt Ideal) arg2.view (Rect.unit (s := S1x1024x1920) (k0_off14 t k 0#32) ![1, 16, 128] (by exact k0_off14_inb t k 0)).toLoadRect X) (View.readAt (Elt Ideal) arg8.view (Rect.unit (s := S1x1024x1920) (k0_off14 t k 0#32) ![1, 16, 128] (by exact k0_off14_inb t k 0)).toLoadRect f) (ix2 a l) = dxAt mu ga gb gc (arg2.view.read (Elt Ideal) X) d (128 * k.val + (0 + a.val)) (128 * t.val + l.val) := fun a l => by
    rw [pay7_at, hm, ha, hb, hc, ld16b arg2.view X (k0_off14 t k 0#32) (128 * k.val + 0) (128 * t.val) _ (k0_off14_eq t k 0), ld16f arg8.view f (k0_off14 t k 0#32) (128 * k.val + 0) (128 * t.val) _ (k0_off14_eq t k 0)]
    rw [Nat.add_assoc, hd _ _ (by omega) (by omega)]
    rfl
  have h1 : ∀ (a : Fin 16) (l : Fin 128), k0_pay7 v126 v128 v130 v132 (View.readAt (Elt Ideal) arg2.view (Rect.unit (s := S1x1024x1920) (k0_off14 t k 16#32) ![1, 16, 128] (by exact k0_off14_inb t k 1)).toLoadRect X) (View.readAt (Elt Ideal) arg8.view (Rect.unit (s := S1x1024x1920) (k0_off14 t k 16#32) ![1, 16, 128] (by exact k0_off14_inb t k 1)).toLoadRect f) (ix2 a l) = dxAt mu ga gb gc (arg2.view.read (Elt Ideal) X) d (128 * k.val + (16 + a.val)) (128 * t.val + l.val) := fun a l => by
    rw [pay7_at, hm, ha, hb, hc, ld16b arg2.view X (k0_off14 t k 16#32) (128 * k.val + 16) (128 * t.val) _ (k0_off14_eq t k 1), ld16f arg8.view f (k0_off14 t k 16#32) (128 * k.val + 16) (128 * t.val) _ (k0_off14_eq t k 1)]
    rw [Nat.add_assoc, hd _ _ (by omega) (by omega)]
    rfl
  have h2 : ∀ (a : Fin 16) (l : Fin 128), k0_pay7 v126 v128 v130 v132 (View.readAt (Elt Ideal) arg2.view (Rect.unit (s := S1x1024x1920) (k0_off14 t k 32#32) ![1, 16, 128] (by exact k0_off14_inb t k 2)).toLoadRect X) (View.readAt (Elt Ideal) arg8.view (Rect.unit (s := S1x1024x1920) (k0_off14 t k 32#32) ![1, 16, 128] (by exact k0_off14_inb t k 2)).toLoadRect f) (ix2 a l) = dxAt mu ga gb gc (arg2.view.read (Elt Ideal) X) d (128 * k.val + (32 + a.val)) (128 * t.val + l.val) := fun a l => by
    rw [pay7_at, hm, ha, hb, hc, ld16b arg2.view X (k0_off14 t k 32#32) (128 * k.val + 32) (128 * t.val) _ (k0_off14_eq t k 2), ld16f arg8.view f (k0_off14 t k 32#32) (128 * k.val + 32) (128 * t.val) _ (k0_off14_eq t k 2)]
    rw [Nat.add_assoc, hd _ _ (by omega) (by omega)]
    rfl
  have h3 : ∀ (a : Fin 16) (l : Fin 128), k0_pay7 v126 v128 v130 v132 (View.readAt (Elt Ideal) arg2.view (Rect.unit (s := S1x1024x1920) (k0_off14 t k 48#32) ![1, 16, 128] (by exact k0_off14_inb t k 3)).toLoadRect X) (View.readAt (Elt Ideal) arg8.view (Rect.unit (s := S1x1024x1920) (k0_off14 t k 48#32) ![1, 16, 128] (by exact k0_off14_inb t k 3)).toLoadRect f) (ix2 a l) = dxAt mu ga gb gc (arg2.view.read (Elt Ideal) X) d (128 * k.val + (48 + a.val)) (128 * t.val + l.val) := fun a l => by
    rw [pay7_at, hm, ha, hb, hc, ld16b arg2.view X (k0_off14 t k 48#32) (128 * k.val + 48) (128 * t.val) _ (k0_off14_eq t k 3), ld16f arg8.view f (k0_off14 t k 48#32) (128 * k.val + 48) (128 * t.val) _ (k0_off14_eq t k 3)]
    rw [Nat.add_assoc, hd _ _ (by omega) (by omega)]
    rfl
  have h4 : ∀ (a : Fin 16) (l : Fin 128), k0_pay7 v126 v128 v130 v132 (View.readAt (Elt Ideal) arg2.view (Rect.unit (s := S1x1024x1920) (k0_off14 t k 64#32) ![1, 16, 128] (by exact k0_off14_inb t k 4)).toLoadRect X) (View.readAt (Elt Ideal) arg8.view (Rect.unit (s := S1x1024x1920) (k0_off14 t k 64#32) ![1, 16, 128] (by exact k0_off14_inb t k 4)).toLoadRect f) (ix2 a l) = dxAt mu ga gb gc (arg2.view.read (Elt Ideal) X) d (128 * k.val + (64 + a.val)) (128 * t.val + l.val) := fun a l => by
    rw [pay7_at, hm, ha, hb, hc, ld16b arg2.view X (k0_off14 t k 64#32) (128 * k.val + 64) (128 * t.val) _ (k0_off14_eq t k 4), ld16f arg8.view f (k0_off14 t k 64#32) (128 * k.val + 64) (128 * t.val) _ (k0_off14_eq t k 4)]
    rw [Nat.add_assoc, hd _ _ (by omega) (by omega)]
    rfl
  have h5 : ∀ (a : Fin 16) (l : Fin 128), k0_pay7 v126 v128 v130 v132 (View.readAt (Elt Ideal) arg2.view (Rect.unit (s := S1x1024x1920) (k0_off14 t k 80#32) ![1, 16, 128] (by exact k0_off14_inb t k 5)).toLoadRect X) (View.readAt (Elt Ideal) arg8.view (Rect.unit (s := S1x1024x1920) (k0_off14 t k 80#32) ![1, 16, 128] (by exact k0_off14_inb t k 5)).toLoadRect f) (ix2 a l) = dxAt mu ga gb gc (arg2.view.read (Elt Ideal) X) d (128 * k.val + (80 + a.val)) (128 * t.val + l.val) := fun a l => by
    rw [pay7_at, hm, ha, hb, hc, ld16b arg2.view X (k0_off14 t k 80#32) (128 * k.val + 80) (128 * t.val) _ (k0_off14_eq t k 5), ld16f arg8.view f (k0_off14 t k 80#32) (128 * k.val + 80) (128 * t.val) _ (k0_off14_eq t k 5)]
    rw [Nat.add_assoc, hd _ _ (by omega) (by omega)]
    rfl
  have h6 : ∀ (a : Fin 16) (l : Fin 128), k0_pay7 v126 v128 v130 v132 (View.readAt (Elt Ideal) arg2.view (Rect.unit (s := S1x1024x1920) (k0_off14 t k 96#32) ![1, 16, 128] (by exact k0_off14_inb t k 6)).toLoadRect X) (View.readAt (Elt Ideal) arg8.view (Rect.unit (s := S1x1024x1920) (k0_off14 t k 96#32) ![1, 16, 128] (by exact k0_off14_inb t k 6)).toLoadRect f) (ix2 a l) = dxAt mu ga gb gc (arg2.view.read (Elt Ideal) X) d (128 * k.val + (96 + a.val)) (128 * t.val + l.val) := fun a l => by
    rw [pay7_at, hm, ha, hb, hc, ld16b arg2.view X (k0_off14 t k 96#32) (128 * k.val + 96) (128 * t.val) _ (k0_off14_eq t k 6), ld16f arg8.view f (k0_off14 t k 96#32) (128 * k.val + 96) (128 * t.val) _ (k0_off14_eq t k 6)]
    rw [Nat.add_assoc, hd _ _ (by omega) (by omega)]
    rfl
  have h7 : ∀ (a : Fin 16) (l : Fin 128), k0_pay7 v126 v128 v130 v132 (View.readAt (Elt Ideal) arg2.view (Rect.unit (s := S1x1024x1920) (k0_off14 t k 112#32) ![1, 16, 128] (by exact k0_off14_inb t k 7)).toLoadRect X) (View.readAt (Elt Ideal) arg8.view (Rect.unit (s := S1x1024x1920) (k0_off14 t k 112#32) ![1, 16, 128] (by exact k0_off14_inb t k 7)).toLoadRect f) (ix2 a l) = dxAt mu ga gb gc (arg2.view.read (Elt Ideal) X) d (128 * k.val + (112 + a.val)) (128 * t.val + l.val) := fun a l => by
    rw [pay7_at, hm, ha, hb, hc, ld16b arg2.view X (k0_off14 t k 112#32) (128 * k.val + 112) (128 * t.val) _ (k0_off14_eq t k 7), ld16f arg8.view f (k0_off14 t k 112#32) (128 * k.val + 112) (128 * t.val) _ (k0_off14_eq t k 7)]
    rw [Nat.add_assoc, hd _ _ (by omega) (by omega)]
    rfl
  exact mx8_at acc _ _ _ _ _ _ _ _ (fun s l => dxAt mu ga gb gc (arg2.view.read (Elt Ideal) X) d (128 * k.val + s) (128 * t.val + l)) h0 h1 h2 h3 h4 h5 h6 h7 r l

theorem tripL8_rd (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (t : Fin k0_t7_loop.trips) (v124 : BitVec 32) (v126 v128 v130 v132 : Vec Ideal S1x128 .f32) (X : BufTy.Contents (Elt Ideal) arg2.view.ty) (mu ga gb gc : ℕ → EReal) (hm : ∀ l : Fin 128, v126 (ix2 (0 : Fin 1) l) = mu (128 * t.val + l.val)) (ha : ∀ l : Fin 128, v128 (ix2 (0 : Fin 1) l) = ga (128 * t.val + l.val)) (hb : ∀ l : Fin 128, v130 (ix2 (0 : Fin 1) l) = gb (128 * t.val + l.val)) (hc : ∀ l : Fin 128, v132 (ix2 (0 : Fin 1) l) = gc (128 * t.val + l.val)) (k : Fin k0_t8_loop.trips) (acc : FVec Ideal S8x128 .f32) (f : arg8.view.ty.Contents (Elt Ideal))
    (d : ℕ → ℕ → EReal) (hd : ∀ s j : ℕ, s < 128 → j < 128 → at3 (arg8.view.read (Elt Ideal) f) (128 * k.val + s) (128 * t.val + j) = d (128 * k.val + s) (128 * t.val + j))
    (f0 : arg8.view.ty.Contents (Elt Ideal)) (L : List (View.Piece (Elt Ideal) S1x1024x1920 .f32)) (R : Fin 1024 → Fin 1920 → EReal)
    (hL : ∀ (s : Fin 1024) (c : Fin 1920), arg8.view.read (Elt Ideal) (arg8.view.writes (Elt Ideal) f0 L) (ix3 0 s c)
      = if s.val < 128 * k.val ∧ 128 * t.val ≤ c.val ∧ c.val < 128 * t.val + 128 then (dxAt mu ga gb gc (arg2.view.read (Elt Ideal) X) d s.val c.val) else R s c) (s : Fin 1024) (c' : Fin 1920) :
    arg8.view.read (Elt Ideal) (arg8.view.writes (Elt Ideal) f0 (tripL_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X k acc f ++ L)) (ix3 0 s c')
      = if s.val < 128 * (k.val + 1) ∧ 128 * t.val ≤ c'.val ∧ c'.val < 128 * t.val + 128 then (dxAt mu ga gb gc (arg2.view.read (Elt Ideal) X) d s.val c'.val) else R s c' := by
  unfold tripL_k0_t8 trip_k0_t8
  dsimp only
  have h0 : ∀ (a : Fin 16) (l : Fin 128), k0_pay7 v126 v128 v130 v132 (View.readAt (Elt Ideal) arg2.view (Rect.unit (s := S1x1024x1920) (k0_off14 t k 0#32) ![1, 16, 128] (by exact k0_off14_inb t k 0)).toLoadRect X) (View.readAt (Elt Ideal) arg8.view (Rect.unit (s := S1x1024x1920) (k0_off14 t k 0#32) ![1, 16, 128] (by exact k0_off14_inb t k 0)).toLoadRect f) (ix2 a l) = dxAt mu ga gb gc (arg2.view.read (Elt Ideal) X) d (128 * k.val + (0 + a.val)) (128 * t.val + l.val) := fun a l => by
    rw [pay7_at, hm, ha, hb, hc, ld16b arg2.view X (k0_off14 t k 0#32) (128 * k.val + 0) (128 * t.val) _ (k0_off14_eq t k 0), ld16f arg8.view f (k0_off14 t k 0#32) (128 * k.val + 0) (128 * t.val) _ (k0_off14_eq t k 0)]
    rw [Nat.add_assoc, hd _ _ (by omega) (by omega)]
    rfl
  have h1 : ∀ (a : Fin 16) (l : Fin 128), k0_pay7 v126 v128 v130 v132 (View.readAt (Elt Ideal) arg2.view (Rect.unit (s := S1x1024x1920) (k0_off14 t k 16#32) ![1, 16, 128] (by exact k0_off14_inb t k 1)).toLoadRect X) (View.readAt (Elt Ideal) arg8.view (Rect.unit (s := S1x1024x1920) (k0_off14 t k 16#32) ![1, 16, 128] (by exact k0_off14_inb t k 1)).toLoadRect f) (ix2 a l) = dxAt mu ga gb gc (arg2.view.read (Elt Ideal) X) d (128 * k.val + (16 + a.val)) (128 * t.val + l.val) := fun a l => by
    rw [pay7_at, hm, ha, hb, hc, ld16b arg2.view X (k0_off14 t k 16#32) (128 * k.val + 16) (128 * t.val) _ (k0_off14_eq t k 1), ld16f arg8.view f (k0_off14 t k 16#32) (128 * k.val + 16) (128 * t.val) _ (k0_off14_eq t k 1)]
    rw [Nat.add_assoc, hd _ _ (by omega) (by omega)]
    rfl
  have h2 : ∀ (a : Fin 16) (l : Fin 128), k0_pay7 v126 v128 v130 v132 (View.readAt (Elt Ideal) arg2.view (Rect.unit (s := S1x1024x1920) (k0_off14 t k 32#32) ![1, 16, 128] (by exact k0_off14_inb t k 2)).toLoadRect X) (View.readAt (Elt Ideal) arg8.view (Rect.unit (s := S1x1024x1920) (k0_off14 t k 32#32) ![1, 16, 128] (by exact k0_off14_inb t k 2)).toLoadRect f) (ix2 a l) = dxAt mu ga gb gc (arg2.view.read (Elt Ideal) X) d (128 * k.val + (32 + a.val)) (128 * t.val + l.val) := fun a l => by
    rw [pay7_at, hm, ha, hb, hc, ld16b arg2.view X (k0_off14 t k 32#32) (128 * k.val + 32) (128 * t.val) _ (k0_off14_eq t k 2), ld16f arg8.view f (k0_off14 t k 32#32) (128 * k.val + 32) (128 * t.val) _ (k0_off14_eq t k 2)]
    rw [Nat.add_assoc, hd _ _ (by omega) (by omega)]
    rfl
  have h3 : ∀ (a : Fin 16) (l : Fin 128), k0_pay7 v126 v128 v130 v132 (View.readAt (Elt Ideal) arg2.view (Rect.unit (s := S1x1024x1920) (k0_off14 t k 48#32) ![1, 16, 128] (by exact k0_off14_inb t k 3)).toLoadRect X) (View.readAt (Elt Ideal) arg8.view (Rect.unit (s := S1x1024x1920) (k0_off14 t k 48#32) ![1, 16, 128] (by exact k0_off14_inb t k 3)).toLoadRect f) (ix2 a l) = dxAt mu ga gb gc (arg2.view.read (Elt Ideal) X) d (128 * k.val + (48 + a.val)) (128 * t.val + l.val) := fun a l => by
    rw [pay7_at, hm, ha, hb, hc, ld16b arg2.view X (k0_off14 t k 48#32) (128 * k.val + 48) (128 * t.val) _ (k0_off14_eq t k 3), ld16f arg8.view f (k0_off14 t k 48#32) (128 * k.val + 48) (128 * t.val) _ (k0_off14_eq t k 3)]
    rw [Nat.add_assoc, hd _ _ (by omega) (by omega)]
    rfl
  have h4 : ∀ (a : Fin 16) (l : Fin 128), k0_pay7 v126 v128 v130 v132 (View.readAt (Elt Ideal) arg2.view (Rect.unit (s := S1x1024x1920) (k0_off14 t k 64#32) ![1, 16, 128] (by exact k0_off14_inb t k 4)).toLoadRect X) (View.readAt (Elt Ideal) arg8.view (Rect.unit (s := S1x1024x1920) (k0_off14 t k 64#32) ![1, 16, 128] (by exact k0_off14_inb t k 4)).toLoadRect f) (ix2 a l) = dxAt mu ga gb gc (arg2.view.read (Elt Ideal) X) d (128 * k.val + (64 + a.val)) (128 * t.val + l.val) := fun a l => by
    rw [pay7_at, hm, ha, hb, hc, ld16b arg2.view X (k0_off14 t k 64#32) (128 * k.val + 64) (128 * t.val) _ (k0_off14_eq t k 4), ld16f arg8.view f (k0_off14 t k 64#32) (128 * k.val + 64) (128 * t.val) _ (k0_off14_eq t k 4)]
    rw [Nat.add_assoc, hd _ _ (by omega) (by omega)]
    rfl
  have h5 : ∀ (a : Fin 16) (l : Fin 128), k0_pay7 v126 v128 v130 v132 (View.readAt (Elt Ideal) arg2.view (Rect.unit (s := S1x1024x1920) (k0_off14 t k 80#32) ![1, 16, 128] (by exact k0_off14_inb t k 5)).toLoadRect X) (View.readAt (Elt Ideal) arg8.view (Rect.unit (s := S1x1024x1920) (k0_off14 t k 80#32) ![1, 16, 128] (by exact k0_off14_inb t k 5)).toLoadRect f) (ix2 a l) = dxAt mu ga gb gc (arg2.view.read (Elt Ideal) X) d (128 * k.val + (80 + a.val)) (128 * t.val + l.val) := fun a l => by
    rw [pay7_at, hm, ha, hb, hc, ld16b arg2.view X (k0_off14 t k 80#32) (128 * k.val + 80) (128 * t.val) _ (k0_off14_eq t k 5), ld16f arg8.view f (k0_off14 t k 80#32) (128 * k.val + 80) (128 * t.val) _ (k0_off14_eq t k 5)]
    rw [Nat.add_assoc, hd _ _ (by omega) (by omega)]
    rfl
  have h6 : ∀ (a : Fin 16) (l : Fin 128), k0_pay7 v126 v128 v130 v132 (View.readAt (Elt Ideal) arg2.view (Rect.unit (s := S1x1024x1920) (k0_off14 t k 96#32) ![1, 16, 128] (by exact k0_off14_inb t k 6)).toLoadRect X) (View.readAt (Elt Ideal) arg8.view (Rect.unit (s := S1x1024x1920) (k0_off14 t k 96#32) ![1, 16, 128] (by exact k0_off14_inb t k 6)).toLoadRect f) (ix2 a l) = dxAt mu ga gb gc (arg2.view.read (Elt Ideal) X) d (128 * k.val + (96 + a.val)) (128 * t.val + l.val) := fun a l => by
    rw [pay7_at, hm, ha, hb, hc, ld16b arg2.view X (k0_off14 t k 96#32) (128 * k.val + 96) (128 * t.val) _ (k0_off14_eq t k 6), ld16f arg8.view f (k0_off14 t k 96#32) (128 * k.val + 96) (128 * t.val) _ (k0_off14_eq t k 6)]
    rw [Nat.add_assoc, hd _ _ (by omega) (by omega)]
    rfl
  have h7 : ∀ (a : Fin 16) (l : Fin 128), k0_pay7 v126 v128 v130 v132 (View.readAt (Elt Ideal) arg2.view (Rect.unit (s := S1x1024x1920) (k0_off14 t k 112#32) ![1, 16, 128] (by exact k0_off14_inb t k 7)).toLoadRect X) (View.readAt (Elt Ideal) arg8.view (Rect.unit (s := S1x1024x1920) (k0_off14 t k 112#32) ![1, 16, 128] (by exact k0_off14_inb t k 7)).toLoadRect f) (ix2 a l) = dxAt mu ga gb gc (arg2.view.read (Elt Ideal) X) d (128 * k.val + (112 + a.val)) (128 * t.val + l.val) := fun a l => by
    rw [pay7_at, hm, ha, hb, hc, ld16b arg2.view X (k0_off14 t k 112#32) (128 * k.val + 112) (128 * t.val) _ (k0_off14_eq t k 7), ld16f arg8.view f (k0_off14 t k 112#32) (128 * k.val + 112) (128 * t.val) _ (k0_off14_eq t k 7)]
    rw [Nat.add_assoc, hd _ _ (by omega) (by omega)]
    rfl
  exact rd_cons arg8.view f0 _ (128 * k.val + 112) (128 * t.val) _ _ _ (dxAt mu ga gb gc (arg2.view.read (Elt Ideal) X) d) R (k0_off14_eq t k 7) (fun a l => (pay8_at v126 v128 v130 v132 _ _ a l).trans ((h7 a l).trans (congrArg₂ _ (Nat.add_assoc _ _ _).symm rfl)))
    (rd_cons arg8.view f0 _ (128 * k.val + 96) (128 * t.val) _ _ _ (dxAt mu ga gb gc (arg2.view.read (Elt Ideal) X) d) R (k0_off14_eq t k 6) (fun a l => (pay8_at v126 v128 v130 v132 _ _ a l).trans ((h6 a l).trans (congrArg₂ _ (Nat.add_assoc _ _ _).symm rfl)))
    (rd_cons arg8.view f0 _ (128 * k.val + 80) (128 * t.val) _ _ _ (dxAt mu ga gb gc (arg2.view.read (Elt Ideal) X) d) R (k0_off14_eq t k 5) (fun a l => (pay8_at v126 v128 v130 v132 _ _ a l).trans ((h5 a l).trans (congrArg₂ _ (Nat.add_assoc _ _ _).symm rfl)))
    (rd_cons arg8.view f0 _ (128 * k.val + 64) (128 * t.val) _ _ _ (dxAt mu ga gb gc (arg2.view.read (Elt Ideal) X) d) R (k0_off14_eq t k 4) (fun a l => (pay8_at v126 v128 v130 v132 _ _ a l).trans ((h4 a l).trans (congrArg₂ _ (Nat.add_assoc _ _ _).symm rfl)))
    (rd_cons arg8.view f0 _ (128 * k.val + 48) (128 * t.val) _ _ _ (dxAt mu ga gb gc (arg2.view.read (Elt Ideal) X) d) R (k0_off14_eq t k 3) (fun a l => (pay8_at v126 v128 v130 v132 _ _ a l).trans ((h3 a l).trans (congrArg₂ _ (Nat.add_assoc _ _ _).symm rfl)))
    (rd_cons arg8.view f0 _ (128 * k.val + 32) (128 * t.val) _ _ _ (dxAt mu ga gb gc (arg2.view.read (Elt Ideal) X) d) R (k0_off14_eq t k 2) (fun a l => (pay8_at v126 v128 v130 v132 _ _ a l).trans ((h2 a l).trans (congrArg₂ _ (Nat.add_assoc _ _ _).symm rfl)))
    (rd_cons arg8.view f0 _ (128 * k.val + 16) (128 * t.val) _ _ _ (dxAt mu ga gb gc (arg2.view.read (Elt Ideal) X) d) R (k0_off14_eq t k 1) (fun a l => (pay8_at v126 v128 v130 v132 _ _ a l).trans ((h1 a l).trans (congrArg₂ _ (Nat.add_assoc _ _ _).symm rfl)))
    (rd_cons arg8.view f0 _ (128 * k.val + 0) (128 * t.val) _ _ _ (dxAt mu ga gb gc (arg2.view.read (Elt Ideal) X) d) R (k0_off14_eq t k 0) (fun a l => (pay8_at v126 v128 v130 v132 _ _ a l).trans ((h0 a l).trans (congrArg₂ _ (Nat.add_assoc _ _ _).symm rfl)))    hL))))))) s c'

/-- The last pass after its trips: the carried maximum, and what the block written so far reads. -/
theorem st8_eq (𝒱 : Variants) (c : Dev nD) (bd : Option 𝒱.V) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (t : Fin k0_t7_loop.trips) (v124 : BitVec 32) (v126 v128 v130 v132 : Vec Ideal S1x128 .f32) (X : BufTy.Contents (Elt Ideal) arg2.view.ty) (mu ga gb gc : ℕ → EReal) (hm : ∀ l : Fin 128, v126 (ix2 (0 : Fin 1) l) = mu (128 * t.val + l.val)) (ha : ∀ l : Fin 128, v128 (ix2 (0 : Fin 1) l) = ga (128 * t.val + l.val)) (hb : ∀ l : Fin 128, v130 (ix2 (0 : Fin 1) l) = gb (128 * t.val + l.val)) (hc : ∀ l : Fin 128, v132 (ix2 (0 : Fin 1) l) = gc (128 * t.val + l.val)) (G : arg8.view.ty.Contents (Elt Ideal)) (init : FVec Ideal S8x128 .f32) (k : ℕ) (hk : k ≤ 8) :
    (∀ (r : Fin 8) (l : Fin 128), (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X G init k).1 (ix2 r l)
      = maxTo (fun u => ab (dxAt mu ga gb gc (arg2.view.read (Elt Ideal) X) (at3 (arg8.view.read (Elt Ideal) G)) (8 * u + r.val) (128 * t.val + l.val))) (init (ix2 r l)) (16 * k))
    ∧ (∀ (s : Fin 1024) (c' : Fin 1920), arg8.view.read (Elt Ideal) (arg8.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X G init k).2) (ix3 0 s c')
      = if s.val < 128 * k ∧ 128 * t.val ≤ c'.val ∧ c'.val < 128 * t.val + 128 then (dxAt mu ga gb gc (arg2.view.read (Elt Ideal) X) (at3 (arg8.view.read (Elt Ideal) G)) s.val c'.val) else arg8.view.read (Elt Ideal) G (ix3 0 s c')) := by
  induction k with
  | zero =>
    refine ⟨fun r l => ?_, fun s c' => ?_⟩
    · rw [st_k0_t8_zero]; rfl
    · rw [if_neg (fun h => by omega)]; rfl
  | succ k ih =>
    obtain ⟨i1, i3⟩ := ih (by omega)
    have hs := st_k0_t8_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X G init ⟨k, hk⟩
    have ht : t.val < 15 := Nat.lt_of_lt_of_le t.isLt k0_t7_abs.2.1
    have hd : ∀ s j : ℕ, s < 128 → j < 128 → at3 (arg8.view.read (Elt Ideal) (arg8.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X G init k).2)) (128 * k + s) (128 * t.val + j)
        = at3 (arg8.view.read (Elt Ideal) G) (128 * k + s) (128 * t.val + j) := fun s j h1 h2 => by
      have g1 : 128 * k + s < 1024 := by omega
      have g2 : 128 * t.val + j < 1920 := by omega
      rw [at3_of _ _ _ g1 g2, at3_of _ _ _ g1 g2, i3]
      exact if_neg (fun h => by have := h.1; simp only at this; omega)
    refine ⟨fun r l => ?_, fun s c' => ?_⟩
    · refine (congrArg (fun z => z.1 (ix2 r l)) hs).trans ?_
      refine (tripR8_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X mu ga gb gc hm ha hb hc ⟨k, hk⟩ _ _ (at3 (arg8.view.read (Elt Ideal) G)) hd r l).trans ?_
      refine (congrArg (fun z => maxTo _ z 16) (i1 r l)).trans ?_
      rw [show 16 * (k + 1) = 16 * k + 16 by omega, ← maxTo_add]
      refine congrArg (fun g => maxTo g _ 16) (funext fun u => ?_)
      have e : 128 * k + (8 * u + r.val) = 8 * (16 * k + u) + r.val := by omega
      show _ = _
      simp only [e]
    · refine (congrArg (fun z => arg8.view.read (Elt Ideal) (arg8.view.writes (Elt Ideal) G z.2) (ix3 0 s c')) hs).trans ?_
      exact tripL8_rd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 t v124 v126 v128 v130 v132 X mu ga gb gc hm ha hb hc ⟨k, hk⟩ _ _ (at3 (arg8.view.read (Elt Ideal) G)) hd G _ _ i3 s c'

end Cert.KernelIdeal.Pass

end
-- ==== Proof.PassLoops.lean ====
/- The kernel's outer loops at exact arithmetic: what each buffer a loop writes reads, column block by column block. -/
module

public import proofs.«01_k».proof.Proof.PassLast
public import Idealize.ShloMosaic.Lib.Exec
public import Idealize.ShloMosaic.Lib.Tactic
public import Idealize.ShloMosaic.Lib.Pipeline.Kit

@[expose] public section

set_option warn.classDefReducibility false
set_option maxRecDepth 8192
set_option maxHeartbeats 4000000

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the frame kit. -/
local notation "𝕄G" => MT nD τ sig Unit (Elt Ideal) ℕ (UR sig nD τ) ℕ

/-- The sum of a column over the rows of one residue class modulo eight. -/
def col8 (g : ℕ → ℕ → EReal) (r c : ℕ) : EReal := ∑ u ∈ Finset.range 128, g (8 * u + r) c

/-- The same sum, from a starting block. -/
def col8z (v : FVec Ideal S8x128 .f32) (g : ℕ → ℕ → EReal) (r c : ℕ) : EReal :=
  v (ix2 ⟨r % 8, Nat.mod_lt _ (by decide)⟩ ⟨c % 128, Nat.mod_lt _ (by decide)⟩) + col8 g r c

theorem col8z_at (v : FVec Ideal S8x128 .f32) (g : ℕ → ℕ → EReal) (k : ℕ) (r : Fin 8) (l : Fin 128) :
    v (ix2 r l) + col8 g r.val (128 * k + l.val) = col8z v g r.val (128 * k + l.val) := by
  unfold col8z
  refine congrArg (· + _) (congrArg v (congrArg₂ ix2 (Fin.ext ?_) (Fin.ext ?_)))
  · exact (Nat.mod_eq_of_lt r.isLt).symm
  · show l.val = (128 * k + l.val) % 128
    omega

/-- The squared distance from the mean. -/
def sqAt (mu : ℕ → EReal) (x : S1x1024x1920.Idx → EReal) (s c : ℕ) : EReal := (at3 x s c - mu c) * (at3 x s c - mu c)

/-- A gradient times the distance from the mean. -/
def mulX (g : ℕ → ℕ → EReal) (mu : ℕ → EReal) (x : S1x1024x1920.Idx → EReal) (s c : ℕ) : EReal := g s c * (at3 x s c - mu c)

/-- The running maximum over the first column blocks, in one row residue and one lane. -/
def mx7 (D : ℕ → ℕ → EReal) (a : EReal) (r l : ℕ) : ℕ → EReal
  | 0 => a
  | k + 1 => maxTo (fun u => ab (D (8 * u + r) (128 * k + l))) (mx7 D a r l k) 128

@[simp] theorem mx7_zero (D : ℕ → ℕ → EReal) (a : EReal) (r l : ℕ) : mx7 D a r l 0 = a := rfl

theorem pay56_at (x : S8x128.Idx) : k0_pay56 (F := Ideal) x = 0 := by
  pointwise [k0_pay56]

theorem pay61_at (v : FVec Ideal S8x128 .f32) (r : Fin 8) (l : Fin 128) : k0_pay61 v (ix2 r l) = v (ix2 r l) := by
  pointwise [k0_pay61]

theorem pay64_at (v : FVec Ideal S8x128 .f32) (r : Fin 8) (l : Fin 128) : k0_pay64 v (ix2 r l) = v (ix2 r l) := by
  pointwise [k0_pay64]

theorem pay74_at (v : FVec Ideal S8x128 .f32) (r : Fin 8) (l : Fin 128) : k0_pay74 v (ix2 r l) = v (ix2 r l) := by
  pointwise [k0_pay74]

theorem pay75_at (v : FVec Ideal S8x128 .f32) (r : Fin 8) (l : Fin 128) : k0_pay75 v (ix2 r l) = v (ix2 r l) := by
  pointwise [k0_pay75]

theorem maxTo_congr (g h : ℕ → EReal) (a : EReal) (n : ℕ) (H : ∀ u < n, g u = h u) : maxTo g a n = maxTo h a n := by
  induction n with
  | zero => rfl
  | succ n ih =>
    show max (maxTo g a n) (g n) = max (maxTo h a n) (h n)
    rw [ih fun u hu => H u (by omega), H n (by omega)]

theorem trips2 : k0_t2_loop.trips = 8 := by decide +kernel
theorem trips4 : k0_t4_loop.trips = 8 := by decide +kernel
theorem trips6 : k0_t6_loop.trips = 8 := by decide +kernel
theorem trips8 : k0_t8_loop.trips = 8 := by decide +kernel

/-- The first pass (sums of the activations): column block by column block into the scratch. -/
@[sl_loop] def loopInv_k0_t1 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (X_arg2 : BufTy.Contents (Elt Ideal) arg2.view.ty) :
    Gen.LoopInvTy_k0_t1 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  where
  inv k _ := iprop((arg2.view.loc (c : Thread nD τ) ↦[arg2.view.set]{fullShare} X_arg2) ∗ (∃ f, (arg12.view.loc (c : Thread nD τ) ↦[arg12.view.set]{fullShare} f) ∗ ⌜∀ (r : Fin 8) (c : Fin 1920), c.val < 128 * k → arg12.view.read (Elt Ideal) f (ix2 r c) = col8 (at3 (arg2.view.read (Elt Ideal) X_arg2)) r.val c.val⌝))
  step k acc := by
    unfold k0_t1_body
    iintro ⟨HR_arg2, ⟨%f_arg12, HW_arg12, %hf⟩⟩
    sl_exec
    sl_step
    isplitl [HR_arg2]
    · iexact HR_arg2
    iexists _
    isplitl [HW_arg12]
    · iexact HW_arg12
    ipureintro
    intro r c' hc
    refine rd8_cons arg12.view f_arg12 _ k.val _ _ (col8 (at3 (arg2.view.read (Elt Ideal) X_arg2))) (k0_off2_eq k) (fun r l => ?_) hf r c' hc
    refine (pay61_at _ r l).trans ((st2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k _ X_arg2 _ r l k0_t2_loop.trips (le_of_eq trips2)).trans ?_)
    rw [pay56_at, zero_add, trips2]
    rfl

/-- The second pass (sums of squared deviations). -/
@[sl_loop] def loopInv_k0_t3 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (X_arg2 : BufTy.Contents (Elt Ideal) arg2.view.ty) (X_arg15 : BufTy.Contents (Elt Ideal) arg15.view.ty) :
    Gen.LoopInvTy_k0_t3 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  where
  inv k _ := iprop((arg2.view.loc (c : Thread nD τ) ↦[arg2.view.set]{fullShare} X_arg2) ∗ (arg15.view.loc (c : Thread nD τ) ↦[arg15.view.set]{fullShare} X_arg15) ∗ (∃ f, (arg12.view.loc (c : Thread nD τ) ↦[arg12.view.set]{fullShare} f) ∗ ⌜∀ (r : Fin 8) (c : Fin 1920), c.val < 128 * k → arg12.view.read (Elt Ideal) f (ix2 r c) = col8 (sqAt (at8 (arg15.view.read (Elt Ideal) X_arg15) 0) (arg2.view.read (Elt Ideal) X_arg2)) r.val c.val⌝))
  step k acc := by
    unfold k0_t3_body
    iintro ⟨HR_arg2, HR_arg15, ⟨%f_arg12, HW_arg12, %hf⟩⟩
    sl_exec
    sl_step
    isplitl [HR_arg2]
    · iexact HR_arg2
    isplitl [HR_arg15]
    · iexact HR_arg15
    iexists _
    isplitl [HW_arg12]
    · iexact HW_arg12
    ipureintro
    intro r c' hc
    refine rd8_cons arg12.view f_arg12 _ k.val _ _ (col8 (sqAt (at8 (arg15.view.read (Elt Ideal) X_arg15) 0) (arg2.view.read (Elt Ideal) X_arg2))) (k0_off5_eq k) (fun r l => ?_) hf r c' hc
    refine (pay64_at _ r l).trans ((st4_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k _ _ X_arg2 (at8 (arg15.view.read (Elt Ideal) X_arg15) 0) (fun l => ldrow arg15.view X_arg15 _ _ _ (k0_off3_inb k) (k0_off3_eq k) l) _ r l k0_t4_loop.trips (le_of_eq trips4)).trans ?_)
    rw [pay56_at, zero_add, trips4]
    rfl

/-- The third pass: the gradients before the affine map into the output block, the column sums into two scratch arrays. -/
@[sl_loop] def loopInv_k0_t5 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (v0 : FVec Ideal S8x128 .f32) (v23 : Vec Ideal S8x1920 .f32) (v25 : FVec Ideal S1920x128 .f32) (X_arg2 : BufTy.Contents (Elt Ideal) arg2.view.ty) (X_arg3 : BufTy.Contents (Elt Ideal) arg3.view.ty) (X_arg15 : BufTy.Contents (Elt Ideal) arg15.view.ty) :
    Gen.LoopInvTy_k0_t5 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 where
  inv k _ := iprop((arg2.view.loc (c : Thread nD τ) ↦[arg2.view.set]{fullShare} X_arg2) ∗ (arg3.view.loc (c : Thread nD τ) ↦[arg3.view.set]{fullShare} X_arg3) ∗ (arg15.view.loc (c : Thread nD τ) ↦[arg15.view.set]{fullShare} X_arg15) ∗ (∃ f, (arg8.view.loc (c : Thread nD τ) ↦[arg8.view.set]{fullShare} f) ∗ ⌜∀ (s : Fin 1024) (c : Fin 1920), c.val < 128 * k → arg8.view.read (Elt Ideal) f (ix3 0 s c) = (dhAt (at8 (arg15.view.read (Elt Ideal) X_arg15) 0) (at8 (arg15.view.read (Elt Ideal) X_arg15) 1) (at8 (arg15.view.read (Elt Ideal) X_arg15) 2) (arg2.view.read (Elt Ideal) X_arg2) (arg3.view.read (Elt Ideal) X_arg3)) s.val c.val⌝)
    ∗ (∃ f, (arg13.view.loc (c : Thread nD τ) ↦[arg13.view.set]{fullShare} f) ∗ ⌜∀ (r : Fin 8) (c : Fin 1920), c.val < 128 * k → arg13.view.read (Elt Ideal) f (ix2 r c) = col8z v0 (dhAt (at8 (arg15.view.read (Elt Ideal) X_arg15) 0) (at8 (arg15.view.read (Elt Ideal) X_arg15) 1) (at8 (arg15.view.read (Elt Ideal) X_arg15) 2) (arg2.view.read (Elt Ideal) X_arg2) (arg3.view.read (Elt Ideal) X_arg3)) r.val c.val⌝) ∗ (∃ f, (arg14.view.loc (c : Thread nD τ) ↦[arg14.view.set]{fullShare} f) ∗ ⌜∀ (r : Fin 8) (c : Fin 1920), c.val < 128 * k → arg14.view.read (Elt Ideal) f (ix2 r c) = col8z v0 (mulX (dhAt (at8 (arg15.view.read (Elt Ideal) X_arg15) 0) (at8 (arg15.view.read (Elt Ideal) X_arg15) 1) (at8 (arg15.view.read (Elt Ideal) X_arg15) 2) (arg2.view.read (Elt Ideal) X_arg2) (arg3.view.read (Elt Ideal) X_arg3)) (at8 (arg15.view.read (Elt Ideal) X_arg15) 0) (arg2.view.read (Elt Ideal) X_arg2)) r.val c.val⌝))
  step k acc := by
    unfold k0_t5_body
    iintro ⟨HR_arg2, HR_arg3, HR_arg15, ⟨%f_arg8, HW_arg8, %hf8⟩, ⟨%f_arg13, HW_arg13, %hf13⟩, ⟨%f_arg14, HW_arg14, %hf14⟩⟩
    sl_exec
    sl_step
    have hs := fun (init : FVec Ideal S8x128 .f32 × FVec Ideal S8x128 .f32) (f : arg8.view.ty.Contents (Elt Ideal)) (v124 : BitVec 32) => st6_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v23 v25 k v124 _ _ _ X_arg2 X_arg3 (at8 (arg15.view.read (Elt Ideal) X_arg15) 0) (at8 (arg15.view.read (Elt Ideal) X_arg15) 1) (at8 (arg15.view.read (Elt Ideal) X_arg15) 2) (fun l => ldrow arg15.view X_arg15 _ _ _ (k0_off6_inb k) (k0_off6_eq k) l) (fun l => ldrow arg15.view X_arg15 _ _ _ (k0_off7_inb k) (k0_off7_eq k) l) (fun l => ldrow arg15.view X_arg15 _ _ _ (k0_off8_inb k) (k0_off8_eq k) l) init f k0_t6_loop.trips (le_of_eq trips6)
    isplitl [HR_arg2]
    · iexact HR_arg2
    isplitl [HR_arg3]
    · iexact HR_arg3
    isplitl [HR_arg15]
    · iexact HR_arg15
    isplitl [HW_arg8]
    · iexists _
      isplitl [HW_arg8]
      · iexact HW_arg8
      ipureintro
      intro s c' hc
      refine ((hs _ _ _).2.2 s c').trans ?_
      rw [trips6]
      by_cases h1 : 128 * k.val ≤ c'.val
      · exact if_pos ⟨s.isLt, h1, by omega⟩
      · exact (if_neg (fun h => h1 h.2.1)).trans (hf8 s c' (by omega))
    isplitl [HW_arg13]
    · iexists _
      isplitl [HW_arg13]
      · iexact HW_arg13
      ipureintro
      intro r c' hc
      refine rd8_cons arg13.view f_arg13 _ k.val _ _ (col8z v0 (dhAt (at8 (arg15.view.read (Elt Ideal) X_arg15) 0) (at8 (arg15.view.read (Elt Ideal) X_arg15) 1) (at8 (arg15.view.read (Elt Ideal) X_arg15) 2) (arg2.view.read (Elt Ideal) X_arg2) (arg3.view.read (Elt Ideal) X_arg3))) (k0_off10_eq k) (fun r l => ?_) hf13 r c' hc
      refine (pay74_at _ r l).trans (((hs _ f_arg8 _).1 r l).trans ?_)
      rw [trips6]
      exact col8z_at v0 (dhAt (at8 (arg15.view.read (Elt Ideal) X_arg15) 0) (at8 (arg15.view.read (Elt Ideal) X_arg15) 1) (at8 (arg15.view.read (Elt Ideal) X_arg15) 2) (arg2.view.read (Elt Ideal) X_arg2) (arg3.view.read (Elt Ideal) X_arg3)) k.val r l
    iexists _
    isplitl [HW_arg14]
    · iexact HW_arg14
    ipureintro
    intro r c' hc
    refine rd8_cons arg14.view f_arg14 _ k.val _ _ (col8z v0 (mulX (dhAt (at8 (arg15.view.read (Elt Ideal) X_arg15) 0) (at8 (arg15.view.read (Elt Ideal) X_arg15) 1) (at8 (arg15.view.read (Elt Ideal) X_arg15) 2) (arg2.view.read (Elt Ideal) X_arg2) (arg3.view.read (Elt Ideal) X_arg3)) (at8 (arg15.view.read (Elt Ideal) X_arg15) 0) (arg2.view.read (Elt Ideal) X_arg2))) (k0_off10_eq k) (fun r l => ?_) hf14 r c' hc
    refine (pay75_at _ r l).trans (((hs _ f_arg8 _).2.1 r l).trans ?_)
    rw [trips6]
    exact col8z_at v0 (mulX (dhAt (at8 (arg15.view.read (Elt Ideal) X_arg15) 0) (at8 (arg15.view.read (Elt Ideal) X_arg15) 1) (at8 (arg15.view.read (Elt Ideal) X_arg15) 2) (arg2.view.read (Elt Ideal) X_arg2) (arg3.view.read (Elt Ideal) X_arg3)) (at8 (arg15.view.read (Elt Ideal) X_arg15) 0) (arg2.view.read (Elt Ideal) X_arg2)) k.val r l

/-- The last pass: the output block in place, and the running largest magnitude. -/
@[sl_loop] def loopInv_k0_t7 (𝒱 : Variants) (c : Dev nD) (bd : Option 𝒱.V) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (X_arg2 : BufTy.Contents (Elt Ideal) arg2.view.ty) (X_arg15 : BufTy.Contents (Elt Ideal) arg15.view.ty) (X_arg16 : BufTy.Contents (Elt Ideal) arg16.view.ty) (X_arg8 : BufTy.Contents (Elt Ideal) arg8.view.ty) (init : FVec Ideal S8x128 .f32) :
    Gen.LoopInvTy_k0_t7 (F := Ideal) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 init where
  inv k acc := iprop((arg2.view.loc (c : Thread nD τ) ↦[arg2.view.set]{fullShare} X_arg2) ∗ (arg15.view.loc (c : Thread nD τ) ↦[arg15.view.set]{fullShare} X_arg15) ∗ (arg16.view.loc (c : Thread nD τ) ↦[arg16.view.set]{fullShare} X_arg16) ∗ (∃ f, (arg8.view.loc (c : Thread nD τ) ↦[arg8.view.set]{fullShare} f) ∗ ⌜∀ (s : Fin 1024) (c : Fin 1920), arg8.view.read (Elt Ideal) f (ix3 0 s c) = if c.val < 128 * k then (dxAt (at8 (arg15.view.read (Elt Ideal) X_arg15) 0) (at8 (arg16.view.read (Elt Ideal) X_arg16) 0) (at8 (arg16.view.read (Elt Ideal) X_arg16) 1) (at8 (arg16.view.read (Elt Ideal) X_arg16) 2) (arg2.view.read (Elt Ideal) X_arg2) (at3 (arg8.view.read (Elt Ideal) X_arg8))) s.val c.val else arg8.view.read (Elt Ideal) X_arg8 (ix3 0 s c)⌝)
    ∗ ⌜∀ (r : Fin 8) (l : Fin 128), acc (ix2 r l) = mx7 (dxAt (at8 (arg15.view.read (Elt Ideal) X_arg15) 0) (at8 (arg16.view.read (Elt Ideal) X_arg16) 0) (at8 (arg16.view.read (Elt Ideal) X_arg16) 1) (at8 (arg16.view.read (Elt Ideal) X_arg16) 2) (arg2.view.read (Elt Ideal) X_arg2) (at3 (arg8.view.read (Elt Ideal) X_arg8))) (init (ix2 r l)) r.val l.val k⌝)
  step k acc := by
    unfold k0_t7_body
    iintro ⟨HR_arg2, HR_arg15, HR_arg16, ⟨%f_arg8, HW_arg8, %hf8⟩, %hacc⟩
    sl_exec
    sl_step
    have hs := fun (v124 : BitVec 32) => st8_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k v124 _ _ _ _ X_arg2 (at8 (arg15.view.read (Elt Ideal) X_arg15) 0) (at8 (arg16.view.read (Elt Ideal) X_arg16) 0) (at8 (arg16.view.read (Elt Ideal) X_arg16) 1) (at8 (arg16.view.read (Elt Ideal) X_arg16) 2) (fun l => ldrow arg15.view X_arg15 _ _ _ (k0_off11_inb k) (k0_off11_eq k) l) (fun l => ldrow arg16.view X_arg16 _ _ _ (k0_off11_inb k) (k0_off11_eq k) l) (fun l => ldrow arg16.view X_arg16 _ _ _ (k0_off12_inb k) (k0_off12_eq k) l) (fun l => ldrow arg16.view X_arg16 _ _ _ (k0_off13_inb k) (k0_off13_eq k) l) f_arg8 acc k0_t8_loop.trips (le_of_eq trips8)
    have hk : k.val < 15 := Nat.lt_of_lt_of_le k.isLt k0_t7_abs.2.1
    have e : ∀ s c : ℕ, s < 1024 → c < 1920 → 128 * k.val ≤ c → at3 (arg8.view.read (Elt Ideal) f_arg8) s c = at3 (arg8.view.read (Elt Ideal) X_arg8) s c := fun s c h1 h2 h3 => by
      rw [at3_of _ _ _ h1 h2, at3_of _ _ _ h1 h2, hf8]
      exact if_neg (by show ¬ c < _; omega)
    isplitl [HR_arg2]
    · iexact HR_arg2
    isplitl [HR_arg15]
    · iexact HR_arg15
    isplitl [HR_arg16]
    · iexact HR_arg16
    isplitl [HW_arg8]
    · iexists _
      isplitl [HW_arg8]
      · iexact HW_arg8
      ipureintro
      intro s c'
      refine ((hs _).2 s c').trans ?_
      rw [trips8]
      by_cases h1 : 128 * k.val ≤ c'.val
      · by_cases h2 : c'.val < 128 * k.val + 128
        · refine (if_pos ⟨s.isLt, h1, h2⟩).trans ((?_ : _ = _).trans (if_pos (by omega)).symm)
          exact congrArg (dxf _ _ _ _ _) (e _ _ s.isLt c'.isLt h1)
        · refine (if_neg (fun h => h2 h.2.2)).trans ((hf8 s c').trans ?_)
          rw [if_neg (by omega), if_neg (by omega)]
      · refine (if_neg (fun h => h1 h.2.1)).trans ((hf8 s c').trans ?_)
        rw [if_pos (by omega), if_pos (by omega)]
    ipureintro
    intro r l
    refine ((hs _).1 r l).trans ?_
    rw [trips8, hacc]
    show maxTo _ _ 128 = maxTo _ _ 128
    refine maxTo_congr _ _ _ _ fun u hu => congrArg ab ?_
    exact congrArg (dxf _ _ _ _ _) (e _ _ (by omega) (by omega) (by omega))

end Cert.KernelIdeal.Pass

end
-- ==== Proof.PassBody.lean ====
/- The body of the main kernel at exact arithmetic: what it leaves in its four output blocks, from its input blocks
   and from what it finds in the three that accumulate over the grid. -/
module

public import proofs.«01_k».proof.Proof.PassLoops
public import Idealize.ShloMosaic.Lib.VecWindow
public import proofs.«01_k».proof.Proof.Gen.KernelIdeal.Frame
public import Idealize.ShloMosaic.Lib.Claim

@[expose] public section

set_option maxRecDepth 16384
set_option maxHeartbeats 4000000

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- An eight-row array from its entries. -/
def vec8 (g : ℕ → ℕ → EReal) : Vec Ideal S8x1920 .f32 := fun j => g (j 0).val (j 1).val

/-- The entry of a one-row array in channel `c` (zero outside). -/
def at1 (w : S1x1920.Idx → EReal) (c : ℕ) : EReal := if h : c < 1920 then w (ix2 0 ⟨c, h⟩) else 0

section Values

variable (ds : EReal) (x2 : Vec Ideal S1x1024x1920 .bf16) (x3 : Vec Ideal S1x1024x1920 .fp8e5m2) (x4 x5 : Vec Ideal S1x1920 .f32) (x6 : Vec Ideal S1920x128 .f32) (x7 : Vec Ideal S128x1920 .f32)

/-- The mean row. -/
def mrow : FVec Ideal S1x1920 .f32 := k0_pay62 (vec8 (col8 (at3 x2))) x6 x7
/-- The column sums of squared distances, by row residue. -/
def sq8 : Vec Ideal S8x1920 .f32 := vec8 (col8 (sqAt (at1 (mrow x2 x6 x7)) x2))
/-- The row of reciprocal deviations. -/
def rrow : FVec Ideal S1x1920 .f32 := k0_pay66 (sq8 x2 x6 x7) (k0_pay65 x6) x7
/-- Reciprocal deviation times gain. -/
def grow : FVec Ideal S1x1920 .f32 := k0_pay68 (sq8 x2 x6 x7) (k0_pay65 x6) x7 x4
/-- The gradients before the affine map, without the scale of the codes. -/
def DH : ℕ → ℕ → EReal := dhAt (at1 (mrow x2 x6 x7)) (at1 (grow x2 x4 x6 x7)) (at1 (k0_pay69 x5)) x2 x3
/-- Their column sums, with the scale, by row residue. -/
def dbs : FVec Ideal S8x1920 .f32 := k0_pay76 ds (vec8 (col8z k0_pay56 (DH x2 x3 x4 x5 x6 x7)))
/-- The column sums of their products with the distances from the mean, with the scale. -/
def dgs : FVec Ideal S8x1920 .f32 := k0_pay77 ds (vec8 (col8z k0_pay56 (mulX (DH x2 x3 x4 x5 x6 x7) (at1 (mrow x2 x6 x7)) x2)))
/-- The reciprocal deviations on eight rows. -/
def r8 : FVec Ideal S8x1920 .f32 := k0_pay78 (sq8 x2 x6 x7) (k0_pay65 x6) x7
/-- The mean of gradient times gain. -/
def mgrow : FVec Ideal S1x1920 .f32 := k0_pay82 (k0_pay67 x4) (dbs ds x2 x3 x4 x5 x6 x7) x6 x7
def arow : FVec Ideal S1x1920 .f32 := k0_pay1 (rrow x2 x6 x7) (k0_pay67 x4) ds
def brow : FVec Ideal S1x1920 .f32 := k0_pay2 (rrow x2 x6 x7) (k0_pay83 x7) (k0_pay84 (k0_pay67 x4) (dgs ds x2 x3 x4 x5 x6 x7) (r8 x2 x6 x7) x6) (constant S8x1920 .f32 0x00000000#32)
def crow : FVec Ideal S1x1920 .f32 := k0_pay3 (rrow x2 x6 x7) (mgrow ds x2 x3 x4 x5 x6 x7)
/-- The input gradients. -/
def DX : ℕ → ℕ → EReal := dxAt (at1 (mrow x2 x6 x7)) (at1 (arow ds x2 x4 x6 x7)) (at1 (brow ds x2 x3 x4 x5 x6 x7)) (at1 (crow ds x2 x3 x4 x5 x6 x7)) x2 (DH x2 x3 x4 x5 x6 x7)
/-- The block of input gradients. -/
def out8 : Vec Ideal S1x1024x1920 .f32 := fun j => DX ds x2 x3 x4 x5 x6 x7 (j 1).val (j 2).val
/-- The running maximum, from `d`. -/
def out9 (d : Vec Ideal S8x128 .f32) : Vec Ideal S8x128 .f32 := fun j => mx7 (DX ds x2 x3 x4 x5 x6 x7) (d j) (j 0).val (j 1).val 15
/-- The running column sums for the gain, from `d`. -/
def out10 (d : Vec Ideal S8x1920 .f32) : Vec Ideal S8x1920 .f32 := k0_pay81 (dgs ds x2 x3 x4 x5 x6 x7) (r8 x2 x6 x7) d
/-- The running column sums for the offset, from `d`. -/
def out11 (d : Vec Ideal S8x1920 .f32) : Vec Ideal S8x1920 .f32 := k0_pay80 (dbs ds x2 x3 x4 x5 x6 x7) d

end Values

/-- Whether a grid point is the first. -/
def isFirst (i : grid0.Coords) : Prop :=
  Scalar.cmpi .ne (Scalar.extui (Scalar.cmpi .eq (BitVec.ofNat 32 (i 0).val) 0#32) : BitVec 32) 0#32 = 1#1

instance (i : grid0.Coords) : Decidable (isFirst i) := by unfold isFirst; infer_instance

theorem vec8_of (h : S8x1920.Idx → EReal) (g : ℕ → ℕ → EReal) (n : ℕ) (hn : n = 15) (H : ∀ (r : Fin 8) (c : Fin 1920), c.val < 128 * n → h (ix2 r c) = g r.val c.val) :
    h = vec8 g := by
  funext j
  subst hn
  exact (congrArg h (eq_ix2 j)).trans (H (j 0) (j 1) (by have := (j 1).isLt; exact this))

section Rows

variable {κ : Kind} {sp : Space} (v : View sig κ sp S8x1920 .f32) (f : v.ty.Contents (Elt Ideal))

theorem row_hit (off : Fin 2 → ℕ) (k : ℕ) (hk : k < 8) (inb : ∀ a, off a + S1x1920.size a ≤ S8x1920.size a) (w : (Rect.unit (s := S8x1920) off S1x1920.size inb).shape.Idx → Elt Ideal .f32)
    (L : List (View.Piece (Elt Ideal) S8x1920 .f32)) (h : off = ![k, 0]) :
    at8 (v.read (Elt Ideal) (v.writes (Elt Ideal) f (⟨Rect.unit (s := S8x1920) off S1x1920.size inb, w⟩ :: L))) k = at1 w := by
  funext c
  unfold at8 at1
  by_cases hc : c < 1920
  · rw [dif_pos ⟨hk, hc⟩, dif_pos hc]
    refine View.read_writes_cons_unit_of_mem v f inb w L _ (ix2 0 ⟨c, hc⟩) h ?_
    intro a
    fin_cases a
    · rfl
    · show c = 0 + c
      omega
  · rw [dif_neg (fun h => hc h.2), dif_neg hc]

theorem row_miss (off : Fin 2 → ℕ) (k k' : ℕ) (inb : ∀ a, off a + S1x1920.size a ≤ S8x1920.size a) (w : (Rect.unit (s := S8x1920) off S1x1920.size inb).shape.Idx → Elt Ideal .f32)
    (L : List (View.Piece (Elt Ideal) S8x1920 .f32)) (h : off = ![k', 0]) (hk : k ≠ k') :
    at8 (v.read (Elt Ideal) (v.writes (Elt Ideal) f (⟨Rect.unit (s := S8x1920) off S1x1920.size inb, w⟩ :: L))) k = at8 (v.read (Elt Ideal) (v.writes (Elt Ideal) f L)) k := by
  funext c
  unfold at8
  by_cases hc : k < 8 ∧ c < 1920
  · rw [dif_pos hc, dif_pos hc]
    refine View.read_writes_cons_unit_of_not_mem v f inb w L _ h 0 ?_
    show k < k' ∨ k' + 1 ≤ k
    omega
  · rw [dif_neg hc, dif_neg hc]

variable (i0 : ∀ a, (![0, 0] : Fin 2 → ℕ) a + (![1, 1920] : Fin 2 → ℕ) a ≤ S8x1920.size a) (i1 : ∀ a, (![1, 0] : Fin 2 → ℕ) a + (![1, 1920] : Fin 2 → ℕ) a ≤ S8x1920.size a) (i2 : ∀ a, (![2, 0] : Fin 2 → ℕ) a + (![1, 1920] : Fin 2 → ℕ) a ≤ S8x1920.size a)
  (w0 w1 w2 : S1x1920.Idx → Elt Ideal .f32)

theorem rows1_0 : at8 (v.read (Elt Ideal) (v.writes (Elt Ideal) f [⟨Rect.unit (s := S8x1920) ![0, 0] ![1, 1920] i0, w0⟩])) 0 = at1 w0 :=
  row_hit v f _ 0 (by decide) i0 w0 [] rfl

theorem rows3_0 : at8 (v.read (Elt Ideal) (v.writes (Elt Ideal) f [⟨Rect.unit (s := S8x1920) ![2, 0] ![1, 1920] i2, w2⟩, ⟨Rect.unit (s := S8x1920) ![1, 0] ![1, 1920] i1, w1⟩, ⟨Rect.unit (s := S8x1920) ![0, 0] ![1, 1920] i0, w0⟩])) 0 = at1 w0 :=
  (row_miss v f _ 0 2 i2 w2 _ rfl (by decide)).trans ((row_miss v f _ 0 1 i1 w1 _ rfl (by decide)).trans (rows1_0 v f i0 w0))

theorem rows3_1 : at8 (v.read (Elt Ideal) (v.writes (Elt Ideal) f [⟨Rect.unit (s := S8x1920) ![2, 0] ![1, 1920] i2, w2⟩, ⟨Rect.unit (s := S8x1920) ![1, 0] ![1, 1920] i1, w1⟩, ⟨Rect.unit (s := S8x1920) ![0, 0] ![1, 1920] i0, w0⟩])) 1 = at1 w1 :=
  (row_miss v f _ 1 2 i2 w2 _ rfl (by decide)).trans (row_hit v f _ 1 (by decide) i1 w1 _ rfl)

theorem rows3_2 : at8 (v.read (Elt Ideal) (v.writes (Elt Ideal) f [⟨Rect.unit (s := S8x1920) ![2, 0] ![1, 1920] i2, w2⟩, ⟨Rect.unit (s := S8x1920) ![1, 0] ![1, 1920] i1, w1⟩, ⟨Rect.unit (s := S8x1920) ![0, 0] ![1, 1920] i0, w0⟩])) 2 = at1 w2 :=
  row_hit v f _ 2 (by decide) i2 w2 _ rfl

end Rows

theorem ra8 {κ : Kind} {sp : Space} (v : View sig κ sp S8x1920 .f32) (f : v.ty.Contents (Elt Ideal)) (inb : ∀ a, (![0, 0] : Fin 2 → ℕ) a + (![8, 1920] : Fin 2 → ℕ) a ≤ S8x1920.size a) :
    v.readAt (Elt Ideal) (Rect.unit (s := S8x1920) ![0, 0] ![8, 1920] inb).toLoadRect f = v.read (Elt Ideal) f :=
  View.readAt_full v f inb

theorem ra1 {κ : Kind} {sp : Space} (v : View sig κ sp S1x1920 .f32) (f : v.ty.Contents (Elt Ideal)) (inb : ∀ a, (![0, 0] : Fin 2 → ℕ) a + (![1, 1920] : Fin 2 → ℕ) a ≤ S1x1920.size a) :
    v.readAt (Elt Ideal) (Rect.unit (s := S1x1920) ![0, 0] ![1, 1920] inb).toLoadRect f = v.read (Elt Ideal) f :=
  View.readAt_full v f inb

theorem raE {κ : Kind} {sp : Space} (v : View sig κ sp S1920x128 .f32) (f : v.ty.Contents (Elt Ideal)) (inb : ∀ a, (![0, 0] : Fin 2 → ℕ) a + (![1920, 128] : Fin 2 → ℕ) a ≤ S1920x128.size a) :
    v.readAt (Elt Ideal) (Rect.unit (s := S1920x128) ![0, 0] ![1920, 128] inb).toLoadRect f = v.read (Elt Ideal) f :=
  View.readAt_full v f inb

theorem raT {κ : Kind} {sp : Space} (v : View sig κ sp S128x1920 .f32) (f : v.ty.Contents (Elt Ideal)) (inb : ∀ a, (![0, 0] : Fin 2 → ℕ) a + (![128, 1920] : Fin 2 → ℕ) a ≤ S128x1920.size a) :
    v.readAt (Elt Ideal) (Rect.unit (s := S128x1920) ![0, 0] ![128, 1920] inb).toLoadRect f = v.read (Elt Ideal) f :=
  View.readAt_full v f inb

theorem raM {κ : Kind} {sp : Space} (v : View sig κ sp S8x128 .f32) (f : v.ty.Contents (Elt Ideal)) (inb : ∀ a, (![0, 0] : Fin 2 → ℕ) a + (![8, 128] : Fin 2 → ℕ) a ≤ S8x128.size a) :
    v.readAt (Elt Ideal) (Rect.unit (s := S8x128) ![0, 0] ![8, 128] inb).toLoadRect f = v.read (Elt Ideal) f :=
  View.readAt_full v f inb

theorem cg2 {α β γ : Type} (f : α → β → γ) {a a' : α} {b b' : β} (ha : a = a') (hb : b = b') : f a b = f a' b' := by rw [ha, hb]
theorem cg3 {α β γ δ : Type} (f : α → β → γ → δ) {a a' : α} {b b' : β} {c c' : γ} (ha : a = a') (hb : b = b') (hc : c = c') : f a b c = f a' b' c' := by rw [ha, hb, hc]
theorem cg4 {α β γ δ ε : Type} (f : α → β → γ → δ → ε) {a a' : α} {b b' : β} {c c' : γ} {d d' : δ} (ha : a = a') (hb : b = b') (hc : c = c') (hd : d = d') : f a b c d = f a' b' c' d' := by rw [ha, hb, hc, hd]

theorem eq_ix3_zero (j : S1x1024x1920.Idx) : j = ix3 0 (j 1) (j 2) := by
  funext a
  fin_cases a
  · exact Subsingleton.elim (α := Fin 1) _ _
  · rfl
  · rfl

theorem mx7_congr (D D' : ℕ → ℕ → EReal) (a : EReal) (r l n m : ℕ) (hr : r < 8) (hl : l < 128) (hn : n = m) (H : ∀ s c : ℕ, s < 1024 → c < 1920 → D s c = D' s c) (hm : m ≤ 15 := by decide) :
    mx7 D a r l n = mx7 D' a r l m := by
  subst hn
  induction n with
  | zero => rfl
  | succ n ih =>
    show maxTo _ (mx7 D a r l n) 128 = maxTo _ (mx7 D' a r l n) 128
    rw [ih (by omega)]
    exact maxTo_congr _ _ _ _ fun u hu => congrArg ab (H _ _ (by omega) (by omega))

theorem pay4_id (v : Vec Ideal S8x128 .f32) : k0_pay4 v = v := by
  funext j
  have h : ∀ (r : Fin 8) (l : Fin 128), k0_pay4 v (ix2 r l) = v (ix2 r l) := fun r l => by pointwise [k0_pay4]
  rw [eq_ix2 j]
  exact h _ _

theorem rdif {κ : Kind} {sp : Space} {s : Shape} (v : View sig κ sp s .f32) (f : v.ty.Contents (Elt Ideal)) {off off' : Fin s.rank → ℕ} (P : Prop) [Decidable P] (inb : ∀ a, off a + s.size a ≤ s.size a) (inb' : ∀ a, off' a + s.size a ≤ s.size a) (w : s.Idx → Elt Ideal .f32) :
    v.readAt (Elt Ideal) (Rect.unit off' s.size inb').toLoadRect (if h : P then v.writes (Elt Ideal) f [⟨Rect.unit off s.size inb, w⟩] else f) = if P then w else v.read (Elt Ideal) f := by
  refine (View.readAt_full v _ inb').trans ?_
  by_cases h : P
  · rw [dif_pos h, if_pos h]
    exact View.read_writes_full v f inb w []
  · rw [dif_neg h, if_neg h]

theorem trips1 : k0_t1_loop.trips = 15 := by decide +kernel
theorem trips3 : k0_t3_loop.trips = 15 := by decide +kernel
theorem trips5 : k0_t5_loop.trips = 15 := by decide +kernel
theorem trips7 : k0_t7_loop.trips = 15 := by decide +kernel

/-- What the body needs: the inputs and the accumulating outputs at their contents, the rest at some contents. -/
abbrev needs (c : Dev nD) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (x1 : Vec Ideal S1x1 .f32) (x2 : Vec Ideal S1x1024x1920 .bf16) (x3 : Vec Ideal S1x1024x1920 .fp8e5m2) (x4 : Vec Ideal S1x1920 .f32) (x5 : Vec Ideal S1x1920 .f32) (x6 : Vec Ideal S1920x128 .f32) (x7 : Vec Ideal S128x1920 .f32)
    (o8 : sProp 𝕄) (d9 : Vec Ideal S8x128 .f32) (d10 d11 : Vec Ideal S8x1920 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ o8 ∗ owns (c : Thread nD τ) arg9 fullShare d9 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d))

/-- The body runs, and leaves the four outputs at the values above. -/
theorem sound_kernel (c : Dev nD) (E : Set ℕ) (i : grid0.Coords) (arg1 : Memref sig .tc .smem S1x1 .f32) (harg1 : arg1.IsWhole) (arg2 : Memref sig .tc .vmem S1x1024x1920 .bf16) (harg2 : arg2.IsWhole) (arg3 : Memref sig .tc .vmem S1x1024x1920 .fp8e5m2) (harg3 : arg3.IsWhole) (arg4 : Memref sig .tc .vmem S1x1920 .f32) (harg4 : arg4.IsWhole) (arg5 : Memref sig .tc .vmem S1x1920 .f32) (harg5 : arg5.IsWhole) (arg6 : Memref sig .tc .vmem S1920x128 .f32) (harg6 : arg6.IsWhole) (arg7 : Memref sig .tc .vmem S128x1920 .f32) (harg7 : arg7.IsWhole) (arg8 : Memref sig .tc .vmem S1x1024x1920 .f32) (harg8 : arg8.IsWhole) (arg9 : Memref sig .tc .vmem S8x128 .f32) (harg9 : arg9.IsWhole) (arg10 : Memref sig .tc .vmem S8x1920 .f32) (harg10 : arg10.IsWhole) (arg11 : Memref sig .tc .vmem S8x1920 .f32) (harg11 : arg11.IsWhole) (arg12 : Memref sig .tc .vmem S8x1920 .f32) (harg12 : arg12.IsWhole) (arg13 : Memref sig .tc .vmem S8x1920 .f32) (harg13 : arg13.IsWhole) (arg14 : Memref sig .tc .vmem S8x1920 .f32) (harg14 : arg14.IsWhole) (arg15 : Memref sig .tc .vmem S8x1920 .f32) (harg15 : arg15.IsWhole) (arg16 : Memref sig .tc .vmem S8x1920 .f32) (harg16 : arg16.IsWhole) (x1 : Vec Ideal S1x1 .f32) (x2 : Vec Ideal S1x1024x1920 .bf16) (x3 : Vec Ideal S1x1024x1920 .fp8e5m2) (x4 : Vec Ideal S1x1920 .f32) (x5 : Vec Ideal S1x1920 .f32) (x6 : Vec Ideal S1920x128 .f32) (x7 : Vec Ideal S128x1920 .f32)
    (d9 : Vec Ideal S8x128 .f32) (d10 d11 : Vec Ideal S8x1920 .f32) (K : PUnit → sProp 𝕄) :
    iprop(needs c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 (iprop(∃ d, owns (c : Thread nD τ) arg8 fullShare d)) d9 d10 d11
        ∗ (needs c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 x6 x7 (owns (c : Thread nD τ) arg8 fullShare (out8 (x1 (ix2 0 0)) x2 x3 x4 x5 x6 x7))
            (out9 (x1 (ix2 0 0)) x2 x3 x4 x5 x6 x7 (if isFirst i then k0_pay57 (F := Ideal) else d9)) (out10 (x1 (ix2 0 0)) x2 x3 x4 x5 x6 x7 (if isFirst i then k0_pay58 (F := Ideal) else d10)) (out11 (x1 (ix2 0 0)) x2 x3 x4 x5 x6 x7 (if isFirst i then k0_pay59 (F := Ideal) else d11)) -∗ K ⟨⟩))
      ⊢ wp frame (wpE (defs₀ (F := Ideal)) Variants.none c none) E (cc0_gn_silu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gn_silu_bwd_eq_skeleton]; unfold cc0_gn_silu_bwd_skel
  unfold needs owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩⟩, Hk⟩
  subst hf1
  subst hf2
  subst hf3
  subst hf4
  subst hf5
  subst hf6
  subst hf7
  subst hf9
  subst hf10
  subst hf11
  sl_exec
  have e0 : arg12.view.read (Elt Ideal) fL0 = vec8 (col8 (at3 (arg2.view.read (Elt Ideal) f2))) := vec8_of _ _ _ trips1 hL2
  simp only [ra8, ra1, raE, raT, rows1_0, rows3_0, rows3_1, rows3_2, e0] at hL6 hL11 hL13 hL15
  have e1 : sound_kernel.sl.r c arg12 fL1 = sq8 (arg2.view.read (Elt Ideal) f2) (arg6.view.read (Elt Ideal) f6) (arg7.view.read (Elt Ideal) f7) := (View.readAt_full ..).trans (vec8_of _ _ _ trips3 hL6)
  have e2 : sound_kernel.sl.r_1 c arg6 f6 = k0_pay65 (arg6.view.read (Elt Ideal) f6) := congrArg k0_pay65 (View.readAt_full ..)
  have e3 : sound_kernel.sl.r_2 c arg1 f1 = (arg1.view.read (Elt Ideal) f1) (ix2 0 0) := (congrFun (View.readAt_full ..) _).trans (congrArg (arg1.view.read (Elt Ideal) f1) (by funext a; fin_cases a <;> rfl))
  have e5 : sound_kernel.sl.r_4 c arg4 f4 = k0_pay67 (arg4.view.read (Elt Ideal) f4) := congrArg k0_pay67 (View.readAt_full ..)
  simp only [e1, e2] at hL11 hL13 hL15
  have eD : ∀ (s : Fin 1024) (c : Fin 1920), arg8.view.read (Elt Ideal) fL2 (ix3 0 s c) = DH (arg2.view.read (Elt Ideal) f2) (arg3.view.read (Elt Ideal) f3) (arg4.view.read (Elt Ideal) f4) (arg5.view.read (Elt Ideal) f5) (arg6.view.read (Elt Ideal) f6) (arg7.view.read (Elt Ideal) f7) s.val c.val := fun s c => hL11 s c (by have := c.isLt; have e : k0_t5_loop.trips = 15 := trips5; show c.val < 128 * k0_t5_loop.trips; omega)
  have e13 : arg13.view.read (Elt Ideal) fL3 = vec8 (col8z k0_pay56 (DH (arg2.view.read (Elt Ideal) f2) (arg3.view.read (Elt Ideal) f3) (arg4.view.read (Elt Ideal) f4) (arg5.view.read (Elt Ideal) f5) (arg6.view.read (Elt Ideal) f6) (arg7.view.read (Elt Ideal) f7))) := vec8_of _ _ _ trips5 hL13
  have e14 : arg14.view.read (Elt Ideal) fL4 = vec8 (col8z k0_pay56 (mulX (DH (arg2.view.read (Elt Ideal) f2) (arg3.view.read (Elt Ideal) f3) (arg4.view.read (Elt Ideal) f4) (arg5.view.read (Elt Ideal) f5) (arg6.view.read (Elt Ideal) f6) (arg7.view.read (Elt Ideal) f7)) (at1 (mrow (arg2.view.read (Elt Ideal) f2) (arg6.view.read (Elt Ideal) f6) (arg7.view.read (Elt Ideal) f7))) (arg2.view.read (Elt Ideal) f2))) := vec8_of _ _ _ trips5 hL15
  clear hL2 hL6 hL11 hL13 hL15
  ihave H := (Entails.rfl : iprop(∃ g, (arg15.view.loc (c : Thread nD τ) ↦[arg15.view.set]{fullShare} g) ∗ ⌜at8 (arg15.view.read (Elt Ideal) g) 0 = at1 (mrow (arg2.view.read (Elt Ideal) f2) (arg6.view.read (Elt Ideal) f6) (arg7.view.read (Elt Ideal) f7))⌝) ⊢ _) $$ [H15]
  · iexists _
    isplitl [H15]
    · iexact H15
    ipureintro
    exact (rows3_0 ..).trans (congrArg at1 (by simp only [ra8, raE, raT, e0]; rfl))
  icases H with ⟨%g15, H15, %h15⟩
  ihave H := (Entails.rfl : iprop(∃ g, (arg16.view.loc (c : Thread nD τ) ↦[arg16.view.set]{fullShare} g) ∗ ⌜at8 (arg16.view.read (Elt Ideal) g) 0 = at1 (arow ((arg1.view.read (Elt Ideal) f1) (ix2 0 0)) (arg2.view.read (Elt Ideal) f2) (arg4.view.read (Elt Ideal) f4) (arg6.view.read (Elt Ideal) f6) (arg7.view.read (Elt Ideal) f7)) ∧ at8 (arg16.view.read (Elt Ideal) g) 1 = at1 (brow ((arg1.view.read (Elt Ideal) f1) (ix2 0 0)) (arg2.view.read (Elt Ideal) f2) (arg3.view.read (Elt Ideal) f3) (arg4.view.read (Elt Ideal) f4) (arg5.view.read (Elt Ideal) f5) (arg6.view.read (Elt Ideal) f6) (arg7.view.read (Elt Ideal) f7)) ∧ at8 (arg16.view.read (Elt Ideal) g) 2 = at1 (crow ((arg1.view.read (Elt Ideal) f1) (ix2 0 0)) (arg2.view.read (Elt Ideal) f2) (arg3.view.read (Elt Ideal) f3) (arg4.view.read (Elt Ideal) f4) (arg5.view.read (Elt Ideal) f5) (arg6.view.read (Elt Ideal) f6) (arg7.view.read (Elt Ideal) f7))⌝) ⊢ _) $$ [H16]
  · iexists _
    isplitl [H16]
    · iexact H16
    ipureintro
    refine ⟨(rows3_0 ..).trans (congrArg at1 (cg3 k0_pay1 ?_ e5 e3)), (rows3_1 ..).trans (congrArg at1 (cg4 k0_pay2 ?_ (congrArg k0_pay83 (View.readAt_full ..)) (cg4 k0_pay84 e5 (cg2 k0_pay77 e3 ((View.readAt_full ..).trans e14)) (cg3 k0_pay78 e1 e2 (View.readAt_full ..)) (View.readAt_full ..)) rfl)), (rows3_2 ..).trans (congrArg at1 (cg2 k0_pay3 ?_ (cg4 k0_pay82 e5 (cg2 k0_pay76 e3 ((View.readAt_full ..).trans e13)) (View.readAt_full ..) (View.readAt_full ..))))⟩
    all_goals exact cg3 k0_pay66 e1 e2 (View.readAt_full ..)
  icases H with ⟨%g16, H16, %h16⟩
  have h0 : ∀ (s : Fin 1024) (c : Fin 1920), arg8.view.read (Elt Ideal) fL2 (ix3 0 s c) = if c.val < 128 * 0 then dxAt (at8 (arg15.view.read (Elt Ideal) g15) 0) (at8 (arg16.view.read (Elt Ideal) g16) 0) (at8 (arg16.view.read (Elt Ideal) g16) 1) (at8 (arg16.view.read (Elt Ideal) g16) 2) (arg2.view.read (Elt Ideal) f2) (at3 (arg8.view.read (Elt Ideal) fL2)) s.val c.val else arg8.view.read (Elt Ideal) fL2 (ix3 0 s c) := by
    intro s c
    simp
  let L7 := loopInv_k0_t7 Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 f2 g15 g16 fL2 (k0_pay4 (sound_kernel.sl.v118 c i arg9 f9))
  sl_exec
  sl_step
  have eX : ∀ s c : ℕ, s < 1024 → c < 1920 → dxAt (at8 (arg15.view.read (Elt Ideal) g15) 0) (at8 (arg16.view.read (Elt Ideal) g16) 0) (at8 (arg16.view.read (Elt Ideal) g16) 1) (at8 (arg16.view.read (Elt Ideal) g16) 2) (arg2.view.read (Elt Ideal) f2) (at3 (arg8.view.read (Elt Ideal) fL2)) s c = DX ((arg1.view.read (Elt Ideal) f1) (ix2 0 0)) (arg2.view.read (Elt Ideal) f2) (arg3.view.read (Elt Ideal) f3) (arg4.view.read (Elt Ideal) f4) (arg5.view.read (Elt Ideal) f5) (arg6.view.read (Elt Ideal) f6) (arg7.view.read (Elt Ideal) f7) s c := by
    intro s c hs hc
    rw [h15, h16.1, h16.2.1, h16.2.2]
    exact congrArg (dxf _ _ _ _ _) ((at3_of _ _ _ hs hc).trans (eD ⟨s, hs⟩ ⟨c, hc⟩))
  have e8 : arg8.view.read (Elt Ideal) fL0 = out8 ((arg1.view.read (Elt Ideal) f1) (ix2 0 0)) (arg2.view.read (Elt Ideal) f2) (arg3.view.read (Elt Ideal) f3) (arg4.view.read (Elt Ideal) f4) (arg5.view.read (Elt Ideal) f5) (arg6.view.read (Elt Ideal) f6) (arg7.view.read (Elt Ideal) f7) := by
    funext j
    refine ((congrArg _ (eq_ix3_zero j)).trans (hL4 (j 1) (j 2))).trans ?_
    rw [if_pos]
    · exact eX _ _ (j 1).isLt (j 2).isLt
    · have h1 : (j 2).val < 1920 := (j 2).isLt
      have e : k0_t7_loop.trips = 15 := trips7
      show (j 2).val < 128 * k0_t7_loop.trips
      omega
  have e9 : k0_pay4 (sound_kernel.sl.v118 c i arg9 f9) = if isFirst i then k0_pay57 (F := Ideal) else arg9.view.read (Elt Ideal) f9 :=
    (pay4_id _).trans (rdif arg9.view f9 _ _ _ _)
  rw [e9] at hL5
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact e8
  isplitl [H9]
  · iexists _; isplitr
    swap; · iexact H9
    ipureintro
    refine (View.read_writes_full ..).trans ?_
    funext j
    refine ((congrArg _ (eq_ix2 j)).trans (hL5 (j 0) (j 1))).trans ?_
    refine (mx7_congr _ _ _ _ _ _ 15 (j 0).isLt (j 1).isLt trips7 eX).trans ?_
    unfold out9
    rw [← eq_ix2 j]
  isplitl [H10]
  · iexists _; isplitr
    swap; · iexact H10
    ipureintro
    exact (View.read_writes_full ..).trans (cg3 k0_pay81 (cg2 k0_pay77 e3 ((View.readAt_full ..).trans e14)) (cg3 k0_pay78 e1 e2 (View.readAt_full ..)) (rdif arg10.view f10 _ _ _ _))
  isplitl [H11]
  · iexists _; isplitr
    swap; · iexact H11
    ipureintro
    exact (View.read_writes_full ..).trans (cg2 k0_pay80 (cg2 k0_pay76 e3 ((View.readAt_full ..).trans e13)) (rdif arg11.view f11 _ _ _ _))
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl

end Cert.KernelIdeal.Pass

end
-- ==== Proof.Spec.lean ====
/- The mathematics both programs compute, for one sample: group normalisation's statistics, the gate's derivative, the
   two column sums and the gradient, over the extended reals. Rows `s` and channels `c` are plain numbers; channel `c`
   belongs to group `c / 60`. -/
module

public import Idealize.ShloMosaic.Lib.Pointwise

@[expose] public section

noncomputable section

namespace Cert.Gn

open Idealize.ShloMosaic

/-- One over the number of elements of a group. -/
def cN : EReal := ((1 / 61440 : ℝ) : EReal)

/-- The small number added to the variance. -/
def eps : EReal := Ideal.ofBits .f32 0x3727C5AC#32

/-- A sum over the rows. -/
def rsum (f : ℕ → ℕ → EReal) (c : ℕ) : EReal := ∑ s : Fin 1024, f s c

/-- A sum over a group's channels. -/
def csum (f : ℕ → EReal) (q : ℕ) : EReal := ∑ k : Fin 60, f (q * 60 + k)

/-- A group's mean over rows and channels. -/
def gmean (f : ℕ → ℕ → EReal) (q : ℕ) : EReal := csum (rsum f) q * cN

variable (X Y : ℕ → ℕ → EReal) (gm bt : ℕ → EReal) (ds : EReal)

/-- The deviation from the group's mean. -/
def dev (s c : ℕ) : EReal := X s c - gmean X (c / 60)

/-- The reciprocal standard deviation of a group. -/
def rstd (q : ℕ) : EReal := Ideal.rsqrt (gmean (fun s c => dev X s c * dev X s c) q + eps)

/-- The normalised, scaled and shifted value. -/
def pre (s c : ℕ) : EReal := dev X s c * rstd X (c / 60) * gm c + bt c

/-- The gradient at the normalised value. -/
def dh (s c : ℕ) : EReal :=
  Y s c * ds * Ideal.logistic (pre X gm bt s c) * (1 + pre X gm bt s c * (1 - Ideal.logistic (pre X gm bt s c)))

/-- The sample's part of the gradient of `beta`, -/
def db (c : ℕ) : EReal := rsum (dh X Y gm bt ds) c

/-- and of `gamma`. -/
def dg (c : ℕ) : EReal := rsum (fun s c => dh X Y gm bt ds s c * (dev X s c * rstd X (c / 60))) c

/-- The group's mean of the gradient at the normalised input, -/
def mg (q : ℕ) : EReal := csum (fun c => db X Y gm bt ds c * gm c) q * cN

/-- and of its product with the normalised input. -/
def mgx (q : ℕ) : EReal := csum (fun c => dg X Y gm bt ds c * gm c) q * cN

/-- The gradient at the input. -/
def dx (s c : ℕ) : EReal :=
  rstd X (c / 60) * (dh X Y gm bt ds s c * gm c - mg X Y gm bt ds (c / 60) - dev X s c * rstd X (c / 60) * mgx X Y gm bt ds (c / 60))

/-- Channel `k` of group `q` is in group `q`. -/
theorem ch_div (q : ℕ) (k : Fin 60) : (q * 60 + (k : ℕ)) / 60 = q := by have := k.isLt; omega

theorem csum_congr {f g : ℕ → EReal} {q : ℕ} (h : ∀ k : Fin 60, f (q * 60 + k) = g (q * 60 + k)) : csum f q = csum g q :=
  Finset.sum_congr rfl fun k _ => h k

theorem rsum_congr {f g : ℕ → ℕ → EReal} {c : ℕ} (h : ∀ s : Fin 1024, f s c = g s c) : rsum f c = rsum g c :=
  Finset.sum_congr rfl fun s _ => h s

/-- Rows first or channels first. -/
theorem csum_rsum (f : ℕ → ℕ → EReal) (q : ℕ) : csum (rsum f) q = ∑ s : Fin 1024, ∑ k : Fin 60, f s (q * 60 + k) :=
  Finset.sum_comm

/-- Dividing by the number of elements is multiplying by its reciprocal. -/
theorem div_count (x : EReal) : Ideal.div x (Ideal.ofBits .f32 0x47700000#32) = x * cN := by
  have h : Ideal.ofBits .f32 0x47700000#32 = ((61440 : ℝ) : EReal) := by
    simp [Ideal.ofBits, Ideal.ieee, -EReal.coe_mul] <;> norm_num
  rw [h, Ideal.div_coe (by norm_num)]; rfl

/-- The small number is a positive real. -/
theorem eps_real : ∃ r : ℝ, 0 < r ∧ eps = (r : EReal) := by
  refine ⟨_, ?_, show eps = ((10995116 / 2 ^ 40 : ℝ) : EReal) from ?_⟩
  · norm_num
  · unfold eps
    simp [Ideal.ofBits, Ideal.ieee, -EReal.coe_mul] <;> norm_num

/-- The constant `1`, -/
theorem one_f32 : Ideal.ofBits .f32 0x3F800000#32 = 1 := by
  simp [Ideal.ofBits, Ideal.ieee, -EReal.coe_mul] <;> norm_num

/-- the constant `-inf`, -/
theorem bot_f32 : Ideal.ofBits .f32 0xFF800000#32 = ⊥ := by
  simp [Ideal.ofBits, Ideal.ieee, -EReal.coe_mul] <;> norm_num

/-- and the constant `inf`. -/
theorem top_f32 : Ideal.ofBits .f32 0x7F800000#32 = ⊤ := by
  simp [Ideal.ofBits, Ideal.ieee, -EReal.coe_mul] <;> norm_num

end Cert.Gn

end
-- ==== Proof.Algebra.lean ====
/- The algebra of the extended reals that the value claim takes: what is a real, what is a nonnegative real, and which
   sums a nonnegative real factor may be moved through. -/
module

public import proofs.«01_k».proof.Proof.Spec

@[expose] public section

noncomputable section

namespace Cert.Gn

open Idealize.ShloMosaic

/-- A real number, -/
def Re (x : EReal) : Prop := ∃ r : ℝ, x = (r : EReal)

/-- and a real number that is not negative. -/
def NN (x : EReal) : Prop := ∃ r : ℝ, 0 ≤ r ∧ x = (r : EReal)

theorem NN.re {x : EReal} (h : NN x) : Re x := h.imp fun _ h => h.2
theorem NN.nonneg {x : EReal} (h : NN x) : 0 ≤ x := by obtain ⟨r, h0, rfl⟩ := h; exact_mod_cast h0
theorem NN.ne_top {x : EReal} (h : NN x) : x ≠ ⊤ := by obtain ⟨r, h0, rfl⟩ := h; exact EReal.coe_ne_top _
theorem Re.add {x y : EReal} (h : Re x) (h' : Re y) : Re (x + y) := by
  obtain ⟨r, rfl⟩ := h; obtain ⟨s, rfl⟩ := h'; exact ⟨r + s, (EReal.coe_add _ _).symm⟩
theorem Re.sub {x y : EReal} (h : Re x) (h' : Re y) : Re (x - y) := by
  obtain ⟨r, rfl⟩ := h; obtain ⟨s, rfl⟩ := h'; exact ⟨r - s, (EReal.coe_sub _ _).symm⟩
theorem Re.mul {x y : EReal} (h : Re x) (h' : Re y) : Re (x * y) := by
  obtain ⟨r, rfl⟩ := h; obtain ⟨s, rfl⟩ := h'; exact ⟨r * s, (EReal.coe_mul _ _).symm⟩
theorem NN.add {x y : EReal} (h : NN x) (h' : NN y) : NN (x + y) := by
  obtain ⟨r, hr, rfl⟩ := h; obtain ⟨s, hs, rfl⟩ := h'; exact ⟨r + s, add_nonneg hr hs, (EReal.coe_add _ _).symm⟩
theorem NN.mul {x y : EReal} (h : NN x) (h' : NN y) : NN (x * y) := by
  obtain ⟨r, hr, rfl⟩ := h; obtain ⟨s, hs, rfl⟩ := h'; exact ⟨r * s, mul_nonneg hr hs, (EReal.coe_mul _ _).symm⟩
theorem Re.sq {x : EReal} (h : Re x) : NN (x * x) := by
  obtain ⟨r, rfl⟩ := h; exact ⟨r * r, mul_self_nonneg r, (EReal.coe_mul _ _).symm⟩
theorem NN.zero : NN 0 := ⟨0, le_refl _, rfl⟩

theorem Re.sum {ι : Type} (s : Finset ι) {f : ι → EReal} (h : ∀ i, Re (f i)) : Re (∑ i ∈ s, f i) := by
  classical
  induction s using Finset.induction_on with
  | empty => exact NN.zero.re
  | insert a s ha ih => rw [Finset.sum_insert ha]; exact (h a).add ih

theorem NN.sum {ι : Type} (s : Finset ι) {f : ι → EReal} (h : ∀ i, NN (f i)) : NN (∑ i ∈ s, f i) := by
  classical
  induction s using Finset.induction_on with
  | empty => exact NN.zero
  | insert a s ha ih => rw [Finset.sum_insert ha]; exact (h a).add ih

theorem NN.add_mul {a : EReal} (h : NN a) (x y : EReal) : (x + y) * a = x * a + y * a :=
  EReal.right_distrib_of_nonneg_of_ne_top h.nonneg h.ne_top x y

/-- A nonnegative real factor moves into a sum. -/
theorem NN.sum_mul {a : EReal} (h : NN a) {ι : Type} (s : Finset ι) (f : ι → EReal) : (∑ i ∈ s, f i) * a = ∑ i ∈ s, f i * a := by
  classical
  induction s using Finset.induction_on with
  | empty => rw [Finset.sum_empty, Finset.sum_empty, zero_mul]
  | insert b s hb ih => rw [Finset.sum_insert hb, Finset.sum_insert hb, h.add_mul, ih]

/-! ## The statistics -/

theorem cN_nn : NN cN := ⟨1 / 61440, by norm_num, rfl⟩

variable {X Y : ℕ → ℕ → EReal} {gm bt : ℕ → EReal} {ds : EReal}

theorem gmean_re (h : ∀ s c, Re (X s c)) (q : ℕ) : Re (gmean X q) :=
  (Re.sum _ fun _ => Re.sum _ fun _ => h _ _).mul cN_nn.re

theorem gmean_nn (h : ∀ s c, NN (X s c)) (q : ℕ) : NN (gmean X q) :=
  (NN.sum _ fun _ => NN.sum _ fun _ => h _ _).mul cN_nn

theorem dev_re (h : ∀ s c, Re (X s c)) (s c : ℕ) : Re (dev X s c) := (h s c).sub (gmean_re h _)

theorem rstd_nn (h : ∀ s c, Re (X s c)) (q : ℕ) : NN (rstd X q) := by
  obtain ⟨v, hv, e⟩ := gmean_nn (X := fun s c => dev X s c * dev X s c) (fun s c => (dev_re h s c).sq) q
  obtain ⟨p, hp, e'⟩ := eps_real
  have hvp : 0 < v + p := by linarith
  rw [rstd, e, e', ← EReal.coe_add, Ideal.rsqrt_coe, if_neg (not_lt.mpr hvp.le), if_neg hvp.ne']
  exact ⟨_, inv_nonneg.mpr (Real.sqrt_nonneg _), rfl⟩

theorem pre_re (h : ∀ s c, Re (X s c)) (hg : ∀ c, NN (gm c)) (hb : ∀ c, Re (bt c)) (s c : ℕ) : Re (pre X gm bt s c) :=
  (((dev_re h s c).mul (rstd_nn h _).re).mul (hg c).re).add (hb c)

/-- The gate's derivative, in the two ways of writing it. -/
theorem gate_eq {h : EReal} (hh : Re h) :
    Ideal.logistic h * ((1 + h) - h * Ideal.logistic h) = Ideal.logistic h * (1 + h * (1 - Ideal.logistic h)) := by
  obtain ⟨r, rfl⟩ := hh
  rw [Ideal.logistic_coe, ← EReal.coe_one]
  simp only [← EReal.coe_add, ← EReal.coe_sub, ← EReal.coe_mul]
  congr 1; ring

/-- The gradient at the input, as one product plus a row plus one product. -/
theorem dx_split {r g d y u s mg mgx : EReal} (hr : NN r) (hds : NN s) :
    (y * u * (r * g * s) + (0 - r) * mg) + d * ((0 - r * r) * mgx)
      = r * (y * s * u * g - mg - d * r * mgx) := by
  rw [sub_eq_add_neg, sub_eq_add_neg, sub_eq_add_neg, sub_eq_add_neg, zero_add, zero_add, mul_comm r (_ + _), hr.add_mul, hr.add_mul]
  simp only [neg_mul, mul_neg]
  congr 1
  · congr 1
    · ac_rfl
    · rw [mul_comm]
  · congr 1; ac_rfl

end Cert.Gn

end
-- ==== Proof.PassValue.lean ====
/- The kernel's blocks at exact arithmetic, element by element: the mathematics of `Spec.lean`, for the sample of the
   point. The two one-hot matrices make the products with them sums over a group's channels. -/
module

public import proofs.«01_k».proof.Proof.PassBody
public import proofs.«01_k».proof.Proof.Algebra

@[expose] public section

set_option maxRecDepth 16384
set_option maxHeartbeats 4000000

noncomputable section

namespace Cert.KernelIdeal.Pass

open Cert.KernelIdeal Cert.KernelIdeal.Gen Cert.Gn
open Idealize.ShloMosaic Idealize.ShloMosaic.TcCoe Idealize.ShloMosaic.Tactic

/-- The constant the kernel multiplies its means by. -/
theorem named_inv : (Named.named (F := Ideal) κ "inv_n" 0x37888889#32 : Ideal .f32) = cN := rfl

/-! ## Sums -/

/-- A sum over the channels of one group, picked out of all channels. -/
theorem sum_pick (f : ℕ → EReal) (q : ℕ) (hq : q < 32) :
    (∑ c : Fin 1920, f c * (if (c : ℕ) / 60 = q then (1 : EReal) else 0)) = csum f q := by
  have e : (∑ c : Fin 1920, f c * (if (c : ℕ) / 60 = q then (1 : EReal) else 0))
      = ∑ p : Fin 32 × Fin 60, f (p.2 + 60 * p.1) * (if ((p.1 : ℕ) = q) then (1 : EReal) else 0) := by
    refine (Fintype.sum_equiv (finProdFinEquiv (m := 32) (n := 60)) _ _ fun p => ?_).symm
    have h : ((finProdFinEquiv p : Fin (32 * 60)) : ℕ) = p.2 + 60 * p.1 := rfl
    have h2 : ((p.2 : ℕ) + 60 * p.1) / 60 = p.1 := by have := p.2.isLt; omega
    show _ = f ((finProdFinEquiv p : Fin (32 * 60)) : ℕ) * (if ((finProdFinEquiv p : Fin (32 * 60)) : ℕ) / 60 = q then (1 : EReal) else 0)
    rw [h, h2]
  rw [e, Fintype.sum_prod_type, Finset.sum_eq_single (⟨q, hq⟩ : Fin 32)]
  · refine Finset.sum_congr rfl fun k _ => ?_
    rw [if_pos rfl, mul_one, add_comm, mul_comm 60]
  · intro b _ hb
    refine Finset.sum_eq_zero fun k _ => ?_
    rw [if_neg fun h => hb (Fin.ext h), mul_zero]
  · intro h; exact absurd (Finset.mem_univ _) h

/-- A sum over the rows, by row residue. -/
theorem sum_col8 (g : ℕ → ℕ → EReal) (c : ℕ) : (∑ r : Fin 8, col8 g r c) = rsum g c := by
  unfold col8 rsum
  simp only [Finset.sum_range]
  rw [Finset.sum_comm, ← Fintype.sum_prod_type' (f := fun (u : Fin 128) (r : Fin 8) => g (8 * u + r) c)]
  refine Fintype.sum_equiv (finProdFinEquiv (m := 128) (n := 8)) _ _ fun p => ?_
  show _ = g ((finProdFinEquiv p : Fin (128 * 8)) : ℕ) c
  rw [show ((finProdFinEquiv p : Fin (128 * 8)) : ℕ) = p.2 + 8 * p.1 from rfl, add_comm]

theorem col8_congr {f g : ℕ → ℕ → EReal} {c : ℕ} (h : ∀ s, s < 1024 → f s c = g s c) (r : Fin 8) : col8 f r c = col8 g r c :=
  Finset.sum_congr rfl fun u hu => h _ (by have := Finset.mem_range.mp hu; have := r.isLt; omega)

theorem vec8_at (g : ℕ → ℕ → EReal) (r : Fin 8) (c : Fin 1920) : vec8 g (ix2 r c) = g r c := rfl

theorem at1_fin (w : S1x1920.Idx → EReal) (c : Fin 1920) : at1 w c = w (ix2 0 c) := dif_pos c.isLt

/-! ## The payloads -/

variable {ds : EReal} {x2 : Vec Ideal S1x1024x1920 .bf16} {x3 : Vec Ideal S1x1024x1920 .fp8e5m2} {x4 x5 : Vec Ideal S1x1920 .f32} {x6 : Vec Ideal S1920x128 .f32} {x7 : Vec Ideal S128x1920 .f32}
variable (hE : ∀ (c : Fin 1920) (l : Fin 128), x6 (ix2 c l) = if (c : ℕ) / 60 = l then (1 : EReal) else 0)
variable (hT : ∀ (l : Fin 128) (c : Fin 1920), x7 (ix2 l c) = if (c : ℕ) / 60 = l then (1 : EReal) else 0)

include hE hT in
/-- The two products with the one-hot matrices: a group's sum at each of its channels. -/
theorem group_sum (f : ℕ → EReal) (c : Fin 1920) :
    (∑ l : Fin 128, (∑ c' : Fin 1920, f c' * x6 (ix2 c' l)) * x7 (ix2 l c)) = csum f ((c : ℕ) / 60) := by
  have hq : (c : ℕ) / 60 < 32 := by have := c.isLt; omega
  rw [Finset.sum_eq_single (⟨(c : ℕ) / 60, by omega⟩ : Fin 128)]
  · rw [hT, if_pos rfl, mul_one]
    simp only [hE]
    exact sum_pick f _ hq
  · intro l _ hl
    rw [hT, if_neg fun h => hl (Fin.ext h.symm), mul_zero]
  · intro h; exact absurd (Finset.mem_univ _) h

include hE hT in
/-- A mean over a group, of column sums kept on eight rows. -/
theorem mean_row (v : Vec Ideal S8x1920 .f32) (f : ℕ → ℕ → EReal) (hv : ∀ c : Fin 1920, (∑ r : Fin 8, v (ix2 r c)) = rsum f c) (c : Fin 1920) :
    (∑ l : Fin 128, (∑ c' : Fin 1920, (∑ r : Fin 8, v (ix2 r c')) * x6 (ix2 c' l)) * x7 (ix2 l c)) * cN = gmean f ((c : ℕ) / 60) := by
  simp only [hv]
  rw [group_sum hE hT]; rfl

include hE hT in
theorem mrow_at (c : Fin 1920) : mrow x2 x6 x7 (ix2 0 c) = gmean (at3 x2) ((c : ℕ) / 60) := by
  rw [mrow]
  pointwise [k0_pay62]
  rw [named_inv]
  exact mean_row hE hT _ _ (fun c => sum_col8 _ _) c

include hE hT in
theorem dev_eq (s : ℕ) (c : Fin 1920) : at3 x2 s c - at1 (mrow x2 x6 x7) c = dev (at3 x2) s c := by
  rw [at1_fin, mrow_at hE hT]; rfl

include hE hT in
theorem rrow_at (c : Fin 1920) : rrow x2 x6 x7 (ix2 0 c) = rstd (at3 x2) ((c : ℕ) / 60) := by
  rw [rrow]
  pointwise [k0_pay66, k0_pay65]
  rw [named_inv, mean_row hE hT _ (fun s c => dev (at3 x2) s c * dev (at3 x2) s c) (fun c => ?_) c]
  · rfl
  · refine (sum_col8 _ _).trans (rsum_congr fun s => ?_)
    have h := dev_eq (x2 := x2) hE hT s c
    exact congrArg₂ (· * ·) h h

include hE hT in
theorem grow_at (c : Fin 1920) : grow x2 x4 x6 x7 (ix2 0 c) = rstd (at3 x2) ((c : ℕ) / 60) * at1 x4 c := by
  rw [grow, at1_fin]
  pointwise [k0_pay68, k0_pay67]
  exact congrArg (· * _) (rrow_at hE hT c)

theorem bet_at (c : Fin 1920) : at1 (k0_pay69 x5) c = at1 x5 c := by
  rw [at1_fin, at1_fin]
  pointwise [k0_pay69]

include hE hT in
theorem r8_at (r : Fin 8) (c : Fin 1920) : r8 x2 x6 x7 (ix2 r c) = rstd (at3 x2) ((c : ℕ) / 60) := by
  rw [r8]
  pointwise [k0_pay78]
  exact rrow_at hE hT c

variable (hX : ∀ s c, Re (at3 x2 s c)) (hg : ∀ c, NN (at1 x4 c)) (hb : ∀ c, Re (at1 x5 c)) (hd : NN ds)

include hE hT hX hg hb in
/-- The gradient at the normalised value, without the scale of the codes. -/
theorem DH_at (s : ℕ) (c : Fin 1920) : DH x2 x3 x4 x5 x6 x7 s c
    = at3 x3 s c * (Ideal.logistic (pre (at3 x2) (at1 x4) (at1 x5) s c) * (1 + pre (at3 x2) (at1 x4) (at1 x5) s c * (1 - Ideal.logistic (pre (at3 x2) (at1 x4) (at1 x5) s c)))) := by
  have hp : (at3 x2 s c - at1 (mrow x2 x6 x7) c) * at1 (grow x2 x4 x6 x7) c + at1 (k0_pay69 x5) c = pre (at3 x2) (at1 x4) (at1 x5) s c := by
    rw [dev_eq hE hT, at1_fin (grow x2 x4 x6 x7), grow_at hE hT, bet_at, ← mul_assoc]; rfl
  rw [DH, dhAt, dhf, hp, gate_eq (pre_re hX hg hb s c)]

include hE hT hX hg hb in
theorem DH_scaled (s : ℕ) (c : Fin 1920) : DH x2 x3 x4 x5 x6 x7 s c * ds = dh (at3 x2) (at3 x3) (at1 x4) (at1 x5) ds s c := by
  rw [DH_at hE hT hX hg hb, dh]; ac_rfl

/-- A scale moved into the column sums. -/
theorem col8_mul {a : EReal} (h : NN a) (g : ℕ → ℕ → EReal) (r c : ℕ) : col8 g r c * a = col8 (fun s c => g s c * a) r c :=
  h.sum_mul _ _

theorem col8z_zero (g : ℕ → ℕ → EReal) (r c : ℕ) : col8z k0_pay56 g r c = col8 g r c := by
  rw [col8z, pay56_at, zero_add]

include hE hT hX hg hb hd in
theorem dbs_at (r : Fin 8) (c : Fin 1920) : dbs ds x2 x3 x4 x5 x6 x7 (ix2 r c) = col8 (dh (at3 x2) (at3 x3) (at1 x4) (at1 x5) ds) r c := by
  rw [dbs]
  pointwise [k0_pay76]
  rw [vec8_at, col8z_zero, col8_mul hd]
  exact col8_congr (fun s _ => DH_scaled hE hT hX hg hb s c) r

include hE hT hX hg hb hd in
theorem dgs_at (r : Fin 8) (c : Fin 1920) : dgs ds x2 x3 x4 x5 x6 x7 (ix2 r c) * r8 x2 x6 x7 (ix2 r c)
    = col8 (fun s c => dh (at3 x2) (at3 x3) (at1 x4) (at1 x5) ds s c * (dev (at3 x2) s c * rstd (at3 x2) (c / 60))) r c := by
  rw [dgs, r8_at hE hT]
  pointwise [k0_pay77]
  rw [vec8_at, col8z_zero, mul_assoc, col8_mul (hd.mul (rstd_nn hX _))]
  refine col8_congr (fun s _ => ?_) r
  rw [mulX, dev_eq hE hT, ← DH_scaled hE hT hX hg hb]; ac_rfl

include hE hT hX hg hb hd in
theorem mgrow_at (c : Fin 1920) : mgrow ds x2 x3 x4 x5 x6 x7 (ix2 0 c) = mg (at3 x2) (at3 x3) (at1 x4) (at1 x5) ds ((c : ℕ) / 60) := by
  rw [mgrow]
  pointwise [k0_pay82, k0_pay67]
  rw [named_inv]
  have h : ∀ c : Fin 1920, (∑ r : Fin 8, dbs ds x2 x3 x4 x5 x6 x7 (ix2 r c) * x4 (ix2 0 c)) = db (at3 x2) (at3 x3) (at1 x4) (at1 x5) ds c * at1 x4 c := fun c => by
    rw [← at1_fin x4 c, ← (hg c).sum_mul]
    simp only [dbs_at hE hT hX hg hb hd]
    rw [sum_col8]; rfl
  simp only [h]
  rw [group_sum hE hT (fun c => db (at3 x2) (at3 x3) (at1 x4) (at1 x5) ds c * at1 x4 c)]; rfl

include hE hT in
theorem arow_at (c : Fin 1920) : arow ds x2 x4 x6 x7 (ix2 0 c) = rstd (at3 x2) ((c : ℕ) / 60) * at1 x4 c * ds := by
  rw [arow, at1_fin]
  pointwise [k0_pay1, k0_pay67]
  rw [rrow_at hE hT]

include hE hT hX hg hb hd in
theorem brow_at (c : Fin 1920) : brow ds x2 x3 x4 x5 x6 x7 (ix2 0 c)
    = (0 - rstd (at3 x2) ((c : ℕ) / 60) * rstd (at3 x2) ((c : ℕ) / 60)) * mgx (at3 x2) (at3 x3) (at1 x4) (at1 x5) ds ((c : ℕ) / 60) := by
  rw [brow]
  pointwise [k0_pay2, k0_pay83, k0_pay84, k0_pay67, k0_pay79]
  rw [named_inv, rrow_at hE hT]
  have h : ∀ c : Fin 1920, (∑ r : Fin 8, dgs ds x2 x3 x4 x5 x6 x7 (ix2 r c) * r8 x2 x6 x7 (ix2 r c) * x4 (ix2 0 c)) = dg (at3 x2) (at3 x3) (at1 x4) (at1 x5) ds c * at1 x4 c := fun c => by
    rw [← at1_fin x4 c, ← (hg c).sum_mul]
    simp only [dgs_at hE hT hX hg hb hd]
    rw [sum_col8]; rfl
  simp only [h]
  rw [group_sum hE hT (fun c => dg (at3 x2) (at3 x3) (at1 x4) (at1 x5) ds c * at1 x4 c)]
  rfl

include hE hT hX hg hb hd in
theorem crow_at (c : Fin 1920) : crow ds x2 x3 x4 x5 x6 x7 (ix2 0 c)
    = (0 - rstd (at3 x2) ((c : ℕ) / 60)) * mg (at3 x2) (at3 x3) (at1 x4) (at1 x5) ds ((c : ℕ) / 60) := by
  rw [crow]
  pointwise [k0_pay3]
  rw [rrow_at hE hT, mgrow_at hE hT hX hg hb hd]

include hE hT hX hg hb hd in
/-- The gradient at the input. -/
theorem DX_at (s : ℕ) (c : Fin 1920) : DX ds x2 x3 x4 x5 x6 x7 s c = dx (at3 x2) (at3 x3) (at1 x4) (at1 x5) ds s c := by
  rw [DX, dxAt, dxf, at1_fin (arow ds x2 x4 x6 x7), at1_fin (brow ds x2 x3 x4 x5 x6 x7), at1_fin (crow ds x2 x3 x4 x5 x6 x7), arow_at hE hT,
    brow_at hE hT hX hg hb hd, crow_at hE hT hX hg hb hd, dev_eq hE hT, DH_at hE hT hX hg hb, dx_split (rstd_nn hX _) hd, dx, dh, mul_assoc (_ * ds) (Ideal.logistic _)]

end Cert.KernelIdeal.Pass

end
-- ==== Proof.PassInput.lean ====
/- The blocks the kernel's grid points read, off the arguments: a sample of `x` and of the codes, the whole gain and
   offset, the scale, and the two one-hot matrices the host lines build. -/
module

public import proofs.«01_k».proof.Proof.PassBody
public import proofs.«01_k».proof.Proof.Gen.KernelIdeal.Frame
public import Idealize.ShloMosaic.Lib.Pipeline.ValueKit
public import Idealize.ShloMosaic.Lib.Claim

@[expose] public section

set_option maxRecDepth 16384
set_option maxHeartbeats 4000000

noncomputable section

namespace Cert.KernelIdeal.Pass

open Cert.KernelIdeal Cert.KernelIdeal.Gen
open Idealize.ShloMosaic Idealize.ShloMosaic.TcCoe Idealize.ShloMosaic.Tactic

/-- An array of samples at natural indices, zero outside. -/
def cut3 (v : S16x1024x1920.Idx → EReal) (t s c : ℕ) : EReal :=
  if h : t < 16 ∧ s < 1024 ∧ c < 1920 then v (ix3 ⟨t, h.1⟩ ⟨s, h.2.1⟩ ⟨c, h.2.2⟩) else 0

/-- A vector over the channels at natural indices, zero outside. -/
def cut1 (v : S1920.Idx → EReal) (c : ℕ) : EReal := if h : c < 1920 then v (ix1 ⟨c, h⟩) else 0

/-- Where each window's block stands at a point. -/
theorem idx : ∀ t : Fin cfg0.N, win0_0.index t = ![0, 0] ∧ win0_1.index t = ![t.val, 0, 0] ∧ win0_2.index t = ![t.val, 0, 0] ∧ win0_3.index t = ![0, 0]
    ∧ win0_4.index t = ![0, 0] ∧ win0_5.index t = ![0, 0] ∧ win0_6.index t = ![0, 0] ∧ win0_7.index t = ![t.val, 0, 0] := by decide +kernel

variable (m : (ℓ : Loc nD τ sig) → Buf (Elt Ideal) ℓ) (c : Dev nD)

/-- The entry contents, one stretch of host lines at a time. -/
theorem V_stages (b : Ref sig .tc) : V m c b = StableHlo.after hostOps0_2 (StableHlo.after hostOps0_1 (StableHlo.after hostOps0 (fun b => m (c, b)))) (Proc.devRef .tc b) := by
  unfold V V0
  simp only [List.flatten_cons, List.flatten_nil, List.append_nil, StableHlo.after_append]

section Stages

variable (W : Valuation τ sig (Elt Ideal))

theorem stage_v0 : StableHlo.after hostOps0 W (Proc.devRef (τ := τ) .tc main_v0) = (iotaInDim S1920x128 32 0 : IVec S1920x128 32) := by
  after_results

theorem stage_c : StableHlo.after hostOps0 W (Proc.devRef (τ := τ) .tc main_c) = (constantI S_ 32 60#32 : IVec S_ 32) := by
  after_results

/-- A quotient by a word, rounded down, as the host lines compute it. -/
def floorDiv (n : IVec S1920x128 32) (d : IVec S_ 32) : IVec S1920x128 32 :=
  let d' : IVec S1920x128 32 := broadcastInDim S1920x128 ![] bcast_S_S1920x128 d
  select (andi (cmpi .ne (signi n) (broadcastInDim S1920x128 ![] bcast_S_S1920x128 (signi d)))
      (cmpi .ne (Host.remsi n d') (broadcastInDim S1920x128 ![] bcast_S_S1920x128 (constantI S_ 32 0#32))))
    (subi (Host.divsi n d') (broadcastInDim S1920x128 ![] bcast_S_S1920x128 (constantI S_ 32 1#32))) (Host.divsi n d')

theorem stage_v1 : StableHlo.after hostOps0_1 W (Proc.devRef (τ := τ) .tc main_v1) = floorDiv (W (Proc.devRef .tc main_v0)) (W (Proc.devRef .tc main_c)) := by
  after_results
  rfl

/-- The one-hot matrix of a table of group numbers. -/
def oneHot (n : IVec S1920x128 32) : FVec Ideal S1920x128 .f32 := uitofp .f32 (cmpi .eq n (iotaInDim S1920x128 32 1))

theorem stage_v4 : StableHlo.after hostOps0_2 W (Proc.devRef (τ := τ) .tc main_v4) = oneHot (W (Proc.devRef .tc main_v1)) := by
  after_results
  rfl

theorem stage_v8 : StableHlo.after hostOps0_2 W (Proc.devRef (τ := τ) .tc main_v8) = transpose S128x1920 [1, 0] (oneHot (W (Proc.devRef .tc main_v1))) transposes_S1920x128_S128x1920_1_0 := by
  after_results
  rfl

theorem stage_v5 : StableHlo.after hostOps0_2 W (Proc.devRef (τ := τ) .tc main_v5) = shapeCast S1x1 (W (Proc.devRef .tc main_arg4) : FVec Ideal S_ .f32) shapeCasts_S_S1x1 := by
  after_results
  rfl

theorem stage_v6 : StableHlo.after hostOps0_2 W (Proc.devRef (τ := τ) .tc main_v6) = shapeCast S1x1920 (W (Proc.devRef .tc main_arg1) : FVec Ideal S1920 .f32) shapeCasts_S1920_S1x1920 := by
  after_results
  rfl

theorem stage_v7 : StableHlo.after hostOps0_2 W (Proc.devRef (τ := τ) .tc main_v7) = shapeCast S1x1920 (W (Proc.devRef .tc main_arg2) : FVec Ideal S1920 .f32) shapeCasts_S1920_S1x1920 := by
  after_results
  rfl

theorem keep_1 : StableHlo.after hostOps0_1 (StableHlo.after hostOps0 W) (Proc.devRef (τ := τ) .tc main_arg1) = W (Proc.devRef .tc main_arg1) := by
  after_results
theorem keep_2 : StableHlo.after hostOps0_1 (StableHlo.after hostOps0 W) (Proc.devRef (τ := τ) .tc main_arg2) = W (Proc.devRef .tc main_arg2) := by
  after_results
theorem keep_4 : StableHlo.after hostOps0_1 (StableHlo.after hostOps0 W) (Proc.devRef (τ := τ) .tc main_arg4) = W (Proc.devRef .tc main_arg4) := by
  after_results

end Stages

theorem div60 : ∀ a : Fin 1920, Scalar.select
      (IntOp.andi
        (IntOp.cmpi CmpIPredicate.ne
          (if BitVec.ofNat 32 (a : ℕ) = 0 then (0 : BitVec 32) else if (BitVec.ofNat 32 (a : ℕ)).msb = true then -1 else 1)
          (if 60#32 = 0 then 0 else if (60#32).msb = true then -1 else 1))
        (IntOp.cmpi CmpIPredicate.ne (IntOp.remsi ArithUnit.host (BitVec.ofNat 32 (a : ℕ)) 60#32) 0#32))
      (IntOp.subi (IntOp.divsi ArithUnit.host (BitVec.ofNat 32 (a : ℕ)) 60#32) 1#32)
      (IntOp.divsi ArithUnit.host (BitVec.ofNat 32 (a : ℕ)) 60#32) =
    BitVec.ofNat 32 ((a : ℕ) / 60) := by
  decide +kernel

theorem floorDiv_at (a : Fin 1920) (l : Fin 128) : floorDiv (iotaInDim S1920x128 32 0) (constantI S_ 32 60#32) (ix2 a l) = BitVec.ofNat 32 ((a : ℕ) / 60) := by
  unfold floorDiv
  pointwise
  exact div60 a

theorem word_at (q l : ℕ) (hq : q < 128) (hl : l < 128) :
    (FloatOps.uitofp FTy.f32 (IntOp.cmpi CmpIPredicate.eq (BitVec.ofNat 32 q) (BitVec.ofNat 32 l)) : Ideal .f32) =
    if q = l then (1 : EReal) else 0 := by
  by_cases h : q = l
  · subst h
    rw [if_pos rfl]
    have : IntOp.cmpi CmpIPredicate.eq (BitVec.ofNat 32 q) (BitVec.ofNat 32 q) = 1#1 := by simp [IntOp.cmpi]
    rw [this]
    simp [FloatOps.uitofp]
  · rw [if_neg h]
    have : IntOp.cmpi CmpIPredicate.eq (BitVec.ofNat 32 q) (BitVec.ofNat 32 l) = 0#1 := by
      have hne : ¬ (BitVec.ofNat 32 q = BitVec.ofNat 32 l) := fun h2 => by
        have := congrArg BitVec.toNat h2
        simp at this
        omega
      show BitVec.ofBool (BitVec.ofNat 32 q == BitVec.ofNat 32 l) = 0#1
      rw [beq_eq_false_iff_ne.mpr hne]; rfl
    rw [this]
    simp [FloatOps.uitofp]

theorem oneHot_at (n : IVec S1920x128 32) (a : Fin 1920) (l : Fin 128) (q : ℕ) (hq : q < 128) (h : n (ix2 a l) = BitVec.ofNat 32 q) :
    oneHot n (ix2 a l) = if q = l then (1 : EReal) else 0 := by
  unfold oneHot
  pointwise [h]
  exact word_at q l hq l.isLt

/-- The first one-hot matrix: whether a channel lies in a group. -/
theorem E_word (a : Fin 1920) (l : Fin 128) : V m c main_v4 (ix2 a l) = if (a : ℕ) / 60 = l then (1 : EReal) else 0 := by
  rw [V_stages, stage_v4, stage_v1, stage_v0, stage_c]
  exact oneHot_at _ a l _ (by have := a.isLt; omega) (floorDiv_at a l)

theorem turn_at (M : FVec Ideal S1920x128 .f32) (l : Fin 128) (a : Fin 1920) :
    transpose S128x1920 [1, 0] M transposes_S1920x128_S128x1920_1_0 (ix2 l a) = M (ix2 a l) := by
  pointwise

/-- The second one-hot matrix, the first turned. -/
theorem T_word (l : Fin 128) (a : Fin 1920) : V m c main_v8 (ix2 l a) = if (a : ℕ) / 60 = l then (1 : EReal) else 0 := by
  rw [V_stages, stage_v8, stage_v1, stage_v0, stage_c]
  refine (turn_at _ l a).trans ?_
  exact oneHot_at _ a l _ (by have := a.isLt; omega) (floorDiv_at a l)

theorem E_block (t : Fin cfg0.N) (a : Fin 1920) (l : Fin 128) : (iblk m c 5 t : Vec Ideal S1920x128 .f32) (ix2 a l) = if (a : ℕ) / 60 = l then (1 : EReal) else 0 := by
  refine Eq.trans ?_ (E_word m c a l)
  blk_point [iblk, idx t]

theorem T_block (t : Fin cfg0.N) (l : Fin 128) (a : Fin 1920) : (iblk m c 6 t : Vec Ideal S128x1920 .f32) (ix2 l a) = if (a : ℕ) / 60 = l then (1 : EReal) else 0 := by
  refine Eq.trans ?_ (T_word m c l a)
  blk_point [iblk, idx t]

theorem x_block (t : Fin cfg0.N) : at3 (iblk m c 1 t : Vec Ideal S1x1024x1920 .bf16) = cut3 (m ((c : Thread nD τ).loc main_arg0)) t := by
  have hN : cfg0.N = 16 := N_0
  have ht : t.val < 16 := hN ▸ t.isLt
  funext s k
  unfold at3 cut3
  by_cases h : s < 1024 ∧ k < 1920
  · rw [dif_pos h, dif_pos ⟨ht, h⟩]
    blk_point [iblk, V, idx t]
  · rw [dif_neg h, dif_neg fun h' => h h'.2]

theorem y_block (t : Fin cfg0.N) : at3 (iblk m c 2 t : Vec Ideal S1x1024x1920 .fp8e5m2) = cut3 (m ((c : Thread nD τ).loc main_arg3)) t := by
  have hN : cfg0.N = 16 := N_0
  have ht : t.val < 16 := hN ▸ t.isLt
  funext s k
  unfold at3 cut3
  by_cases h : s < 1024 ∧ k < 1920
  · rw [dif_pos h, dif_pos ⟨ht, h⟩]
    blk_point [iblk, V, idx t]
  · rw [dif_neg h, dif_neg fun h' => h h'.2]

theorem g_block (t : Fin cfg0.N) : at1 (iblk m c 3 t : Vec Ideal S1x1920 .f32) = cut1 (m ((c : Thread nD τ).loc main_arg1)) := by
  funext k
  unfold at1 cut1
  by_cases h : k < 1920
  · rw [dif_pos h, dif_pos h]
    have e : (iblk m c 3 t : Vec Ideal S1x1920 .f32) (ix2 0 ⟨k, h⟩) = V m c main_v6 (ix2 0 ⟨k, h⟩) := by blk_point [iblk, idx t]
    rw [e, V_stages, stage_v6, keep_1]
    pointwise
  · rw [dif_neg h, dif_neg h]

theorem b_block (t : Fin cfg0.N) : at1 (iblk m c 4 t : Vec Ideal S1x1920 .f32) = cut1 (m ((c : Thread nD τ).loc main_arg2)) := by
  funext k
  unfold at1 cut1
  by_cases h : k < 1920
  · rw [dif_pos h, dif_pos h]
    have e : (iblk m c 4 t : Vec Ideal S1x1920 .f32) (ix2 0 ⟨k, h⟩) = V m c main_v7 (ix2 0 ⟨k, h⟩) := by blk_point [iblk, idx t]
    rw [e, V_stages, stage_v7, keep_2]
    pointwise
  · rw [dif_neg h, dif_neg h]

theorem d_block (t : Fin cfg0.N) : (iblk m c 0 t : Vec Ideal S1x1 .f32) (ix2 0 0) = (m ((c : Thread nD τ).loc main_arg4) : S_.Idx → EReal) ix0 := by
  have e : (iblk m c 0 t : Vec Ideal S1x1 .f32) (ix2 0 0) = V m c main_v5 (ix2 0 0) := by blk_point [iblk, idx t]
  rw [e, V_stages, stage_v5, keep_4]
  pointwise

end Cert.KernelIdeal.Pass

end
-- ==== Proof.PassRun.lean ====
/- The run of the main kernel at exact arithmetic: what its four result arrays end holding. -/
module

public import proofs.«01_k».proof.Proof.PassBody
public import Idealize.ShloMosaic.Lib.VecWindow
public import proofs.«01_k».proof.Proof.Gen.KernelIdeal.Frame
public import Idealize.ShloMosaic.Lib.Claim

@[expose] public section

set_option maxRecDepth 16384
set_option maxHeartbeats 4000000

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the accumulating block 8 holds after point `n`. -/
def acc9 (c : Dev nD) : (n : ℕ) → n < cfg0.N → Vec Ideal S8x128 .f32
  | 0, h => out9 ((iblk m c 0 ⟨0, h⟩ : Vec Ideal S1x1 .f32) (ix2 0 0)) (iblk m c 1 ⟨0, h⟩) (iblk m c 2 ⟨0, h⟩) (iblk m c 3 ⟨0, h⟩) (iblk m c 4 ⟨0, h⟩) (iblk m c 5 ⟨0, h⟩) (iblk m c 6 ⟨0, h⟩) (k0_pay57 (F := Ideal))
  | n + 1, h => out9 ((iblk m c 0 ⟨n + 1, h⟩ : Vec Ideal S1x1 .f32) (ix2 0 0)) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (acc9 c n (Nat.lt_of_succ_lt h))

/-- What the accumulating block 9 holds after point `n`. -/
def acc10 (c : Dev nD) : (n : ℕ) → n < cfg0.N → Vec Ideal S8x1920 .f32
  | 0, h => out10 ((iblk m c 0 ⟨0, h⟩ : Vec Ideal S1x1 .f32) (ix2 0 0)) (iblk m c 1 ⟨0, h⟩) (iblk m c 2 ⟨0, h⟩) (iblk m c 3 ⟨0, h⟩) (iblk m c 4 ⟨0, h⟩) (iblk m c 5 ⟨0, h⟩) (iblk m c 6 ⟨0, h⟩) (k0_pay58 (F := Ideal))
  | n + 1, h => out10 ((iblk m c 0 ⟨n + 1, h⟩ : Vec Ideal S1x1 .f32) (ix2 0 0)) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (acc10 c n (Nat.lt_of_succ_lt h))

/-- What the accumulating block 10 holds after point `n`. -/
def acc11 (c : Dev nD) : (n : ℕ) → n < cfg0.N → Vec Ideal S8x1920 .f32
  | 0, h => out11 ((iblk m c 0 ⟨0, h⟩ : Vec Ideal S1x1 .f32) (ix2 0 0)) (iblk m c 1 ⟨0, h⟩) (iblk m c 2 ⟨0, h⟩) (iblk m c 3 ⟨0, h⟩) (iblk m c 4 ⟨0, h⟩) (iblk m c 5 ⟨0, h⟩) (iblk m c 6 ⟨0, h⟩) (k0_pay59 (F := Ideal))
  | n + 1, h => out11 ((iblk m c 0 ⟨n + 1, h⟩ : Vec Ideal S1x1 .f32) (ix2 0 0)) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (acc11 c n (Nat.lt_of_succ_lt h))

/-- The proof data: an input's buffer at its block, an output's at what the body leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out8 ((iblk m c 0 t : Vec Ideal S1x1 .f32) (ix2 0 0)) (iblk m c 1 t) (iblk m c 2 t) (iblk m c 3 t) (iblk m c 4 t) (iblk m c 5 t) (iblk m c 6 t)
    | ⟨8, _⟩ => acc9 m c t.val t.isLt
    | ⟨9, _⟩ => acc10 m c t.val t.isLt
    | ⟨10, _⟩ => acc11 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

theorem after_7 (c : Dev nD) (t : Fin cfg0.N) : (dats m 0 c).after 7 t = out8 ((iblk m c 0 t : Vec Ideal S1x1 .f32) (ix2 0 0)) (iblk m c 1 t) (iblk m c 2 t) (iblk m c 3 t) (iblk m c 4 t) (iblk m c 5 t) (iblk m c 6 t) := by dsimp only [dats]
theorem after_8 (c : Dev nD) (t : Fin cfg0.N) : (dats m 0 c).after 8 t = acc9 m c t.val t.isLt := by dsimp only [dats]
theorem after_9 (c : Dev nD) (t : Fin cfg0.N) : (dats m 0 c).after 9 t = acc10 m c t.val t.isLt := by dsimp only [dats]
theorem after_10 (c : Dev nD) (t : Fin cfg0.N) : (dats m 0 c).after 10 t = acc11 m c t.val t.isLt := by dsimp only [dats]

theorem isFirst_iff : ∀ t : Fin grid0.N, isFirst (grid0.coords t) ↔ t.val = 0 := by decide +kernel

theorem step9 (c : Dev nD) (t : Fin cfg0.N) (d) :
    out9 ((iblk m c 0 t : Vec Ideal S1x1 .f32) (ix2 0 0)) (iblk m c 1 t) (iblk m c 2 t) (iblk m c 3 t) (iblk m c 4 t) (iblk m c 5 t) (iblk m c 6 t) (if isFirst (grid0.coords t) then k0_pay57 (F := Ideal) else (dats m 0 c).before 8 t d) = acc9 m c t.val t.isLt := by
  obtain ⟨n, hn⟩ := t
  cases n with
  | zero =>
    rw [if_pos ((isFirst_iff _).mpr rfl)]
    rfl
  | succ n =>
    have hN : cfg0.N = 16 := N_0
    rw [if_neg (fun h => absurd ((isFirst_iff _).mp h) (Nat.succ_ne_zero n)),
      (dats m 0 c).before_out_kept 8 rfl ⟨n + 1, hn⟩ (Nat.succ_ne_zero n) (Bool.eq_false_iff.mpr fun h => by
        have := (flush0_8 _).mp h
        dsimp only at this
        omega) (fun _ => rfl) (fun _ _ => rfl) d, after_8]
    rfl

theorem step10 (c : Dev nD) (t : Fin cfg0.N) (d) :
    out10 ((iblk m c 0 t : Vec Ideal S1x1 .f32) (ix2 0 0)) (iblk m c 1 t) (iblk m c 2 t) (iblk m c 3 t) (iblk m c 4 t) (iblk m c 5 t) (iblk m c 6 t) (if isFirst (grid0.coords t) then k0_pay58 (F := Ideal) else (dats m 0 c).before 9 t d) = acc10 m c t.val t.isLt := by
  obtain ⟨n, hn⟩ := t
  cases n with
  | zero =>
    rw [if_pos ((isFirst_iff _).mpr rfl)]
    rfl
  | succ n =>
    have hN : cfg0.N = 16 := N_0
    rw [if_neg (fun h => absurd ((isFirst_iff _).mp h) (Nat.succ_ne_zero n)),
      (dats m 0 c).before_out_kept 9 rfl ⟨n + 1, hn⟩ (Nat.succ_ne_zero n) (Bool.eq_false_iff.mpr fun h => by
        have := (flush0_9 _).mp h
        dsimp only at this
        omega) (fun _ => rfl) (fun _ _ => rfl) d, after_9]
    rfl

theorem step11 (c : Dev nD) (t : Fin cfg0.N) (d) :
    out11 ((iblk m c 0 t : Vec Ideal S1x1 .f32) (ix2 0 0)) (iblk m c 1 t) (iblk m c 2 t) (iblk m c 3 t) (iblk m c 4 t) (iblk m c 5 t) (iblk m c 6 t) (if isFirst (grid0.coords t) then k0_pay59 (F := Ideal) else (dats m 0 c).before 10 t d) = acc11 m c t.val t.isLt := by
  obtain ⟨n, hn⟩ := t
  cases n with
  | zero =>
    rw [if_pos ((isFirst_iff _).mpr rfl)]
    rfl
  | succ n =>
    have hN : cfg0.N = 16 := N_0
    rw [if_neg (fun h => absurd ((isFirst_iff _).mp h) (Nat.succ_ne_zero n)),
      (dats m 0 c).before_out_kept 10 rfl ⟨n + 1, hn⟩ (Nat.succ_ne_zero n) (Bool.eq_false_iff.mpr fun h => by
        have := (flush0_10 _).mp h
        dsimp only at this
        omega) (fun _ => rfl) (fun _ _ => rfl) d, after_10]
    rfl

/-- What the body is called with at a point, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after_0, after_1, after_2, after_3, after_4, after_5, after_6, after_7, after_8, after_9, after_10]
  unfold Pipeline.ΦA
  rw [scopedRest0_eq]
  iintro ⟨⟨⟨⟨%g0, S0⟩, ⟨%g1, S1⟩, ⟨%g2, S2⟩, ⟨%g3, S3⟩, ⟨%g4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 8 t d8) ((dats m 0 c).before 9 t d9) ((dats m 0 c).before 10 t d10) _)
  isplitl [H0 H1 H2 H3 H4 H5 H6 H7 H8 H9 H10 S0 S1 S2 S3 S4]
  · unfold needs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [S0]; · iexists g0; rw [owns_whole]; iexact S0
    isplitl [S1]; · iexists g1; rw [owns_whole]; iexact S1
    isplitl [S2]; · iexists g2; rw [owns_whole]; iexact S2
    isplitl [S3]; · iexists g3; rw [owns_whole]; iexact S3
    iexists g4; rw [owns_whole]; iexact S4
  · unfold needs
    rw [step9, step10, step11]
    simp only [owns_whole]
    iintro ⟨H0, H1, H2, H3, H4, H5, H6, H7, H8, H9, H10, ⟨%e0, S0⟩, ⟨%e1, S1⟩, ⟨%e2, S2⟩, ⟨%e3, S3⟩, ⟨%e4, S4⟩⟩
    isplitl [S0 S1 S2 S3 S4 Hp]
    · isplitl [S0 S1 S2 S3 S4]
      · isplitl [S0]; · iexists _; iexact S0
        isplitl [S1]; · iexists _; iexact S1
        isplitl [S2]; · iexists _; iexact S2
        isplitl [S3]; · iexists _; iexact S3
        iexists _; iexact S4
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every array ends at what the proof data says, every other buffer at what the later lines compute. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) 0 launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Pass

end
-- ==== Proof.PassSum.lean ====
/- What the kernel's accumulators hold after a grid point: the largest magnitude and the column sums so far. -/
module

public import proofs.«01_k».proof.Proof.PassValue
public import proofs.«01_k».proof.Proof.PassInput
public import proofs.«01_k».proof.Proof.PassRun

@[expose] public section

set_option maxRecDepth 16384
set_option maxHeartbeats 4000000

noncomputable section

namespace Cert.KernelIdeal.Pass

open Cert.KernelIdeal Cert.KernelIdeal.Gen Cert.Gn
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-- The samples of `x`, -/
def Xf : ℕ → ℕ → ℕ → EReal := cut3 (m ((c : Thread nD τ).loc main_arg0))
/-- of the codes, -/
def Yf : ℕ → ℕ → ℕ → EReal := cut3 (m ((c : Thread nD τ).loc main_arg3))
/-- the gain, -/
def Gf : ℕ → EReal := cut1 (m ((c : Thread nD τ).loc main_arg1))
/-- the offset -/
def Bf : ℕ → EReal := cut1 (m ((c : Thread nD τ).loc main_arg2))
/-- and the scale. -/
def Df : EReal := (m ((c : Thread nD τ).loc main_arg4) : S_.Idx → EReal) ix0

/-- What the mathematics asks of the inputs. -/
structure Good : Prop where
  hX : ∀ t s k, Re (Xf m c t s k)
  hg : ∀ k, NN (Gf m c k)
  hb : ∀ k, Re (Bf m c k)
  hd : NN (Df m c)

variable {m c} (h : Good m c)

include h in
theorem DX_block (t : Fin cfg0.N) (s : ℕ) (k : Fin 1920) :
    DX ((iblk m c 0 t : Vec Ideal S1x1 .f32) (ix2 0 0)) (iblk m c 1 t) (iblk m c 2 t) (iblk m c 3 t) (iblk m c 4 t) (iblk m c 5 t) (iblk m c 6 t) s k
      = dx (Xf m c t) (Yf m c t) (Gf m c) (Bf m c) (Df m c) s k := by
  have e := DX_at (ds := (iblk m c 0 t : Vec Ideal S1x1 .f32) (ix2 0 0)) (x2 := iblk m c 1 t) (x3 := iblk m c 2 t) (x4 := iblk m c 3 t) (x5 := iblk m c 4 t)
    (E_block m c t) (T_block m c t) (fun s k => by rw [x_block]; exact h.hX t s k) (fun k => by rw [g_block]; exact h.hg k)
    (fun k => by rw [b_block]; exact h.hb k) (by rw [d_block]; exact h.hd) s k
  rw [e, x_block, y_block, g_block, b_block, d_block]; rfl

include h in
theorem dbs_block (t : Fin cfg0.N) (k : Fin 1920) :
    (∑ r : Fin 8, dbs ((iblk m c 0 t : Vec Ideal S1x1 .f32) (ix2 0 0)) (iblk m c 1 t) (iblk m c 2 t) (iblk m c 3 t) (iblk m c 4 t) (iblk m c 5 t) (iblk m c 6 t) (ix2 r k))
      = db (Xf m c t) (Yf m c t) (Gf m c) (Bf m c) (Df m c) k := by
  have e := fun r => dbs_at (ds := (iblk m c 0 t : Vec Ideal S1x1 .f32) (ix2 0 0)) (x2 := iblk m c 1 t) (x3 := iblk m c 2 t) (x4 := iblk m c 3 t) (x5 := iblk m c 4 t)
    (E_block m c t) (T_block m c t) (fun s k => by rw [x_block]; exact h.hX t s k) (fun k => by rw [g_block]; exact h.hg k)
    (fun k => by rw [b_block]; exact h.hb k) (by rw [d_block]; exact h.hd) r k
  simp only [e]
  rw [sum_col8, x_block, y_block, g_block, b_block, d_block]; rfl

include h in
theorem dgs_block (t : Fin cfg0.N) (k : Fin 1920) :
    (∑ r : Fin 8, dgs ((iblk m c 0 t : Vec Ideal S1x1 .f32) (ix2 0 0)) (iblk m c 1 t) (iblk m c 2 t) (iblk m c 3 t) (iblk m c 4 t) (iblk m c 5 t) (iblk m c 6 t) (ix2 r k)
        * r8 (iblk m c 1 t) (iblk m c 5 t) (iblk m c 6 t) (ix2 r k))
      = dg (Xf m c t) (Yf m c t) (Gf m c) (Bf m c) (Df m c) k := by
  have e := fun r => dgs_at (ds := (iblk m c 0 t : Vec Ideal S1x1 .f32) (ix2 0 0)) (x2 := iblk m c 1 t) (x3 := iblk m c 2 t) (x4 := iblk m c 3 t) (x5 := iblk m c 4 t)
    (E_block m c t) (T_block m c t) (fun s k => by rw [x_block]; exact h.hX t s k) (fun k => by rw [g_block]; exact h.hg k)
    (fun k => by rw [b_block]; exact h.hb k) (by rw [d_block]; exact h.hd) r k
  simp only [e]
  rw [sum_col8, x_block, y_block, g_block, b_block, d_block]; rfl

/-! ## The column sums -/

theorem pay80_at (v d : Vec Ideal S8x1920 .f32) (r : Fin 8) (k : Fin 1920) : k0_pay80 v d (ix2 r k) = d (ix2 r k) + v (ix2 r k) := by
  pointwise [k0_pay80]

theorem pay81_at (p q d : Vec Ideal S8x1920 .f32) (r : Fin 8) (k : Fin 1920) : k0_pay81 p q d (ix2 r k) = d (ix2 r k) + p (ix2 r k) * q (ix2 r k) := by
  pointwise [k0_pay81, k0_pay79]

theorem pay58_at (x : S8x1920.Idx) : k0_pay58 (F := Ideal) x = 0 := by
  pointwise [k0_pay58]

theorem pay59_at (x : S8x1920.Idx) : k0_pay59 (F := Ideal) x = 0 := by
  pointwise [k0_pay59]

theorem pay57_at (x : S8x128.Idx) : k0_pay57 (F := Ideal) x = 0 := by
  pointwise [k0_pay57]

include h in
theorem acc11_sum (k : Fin 1920) : ∀ (n : ℕ) (hn : n < cfg0.N), (∑ r : Fin 8, acc11 m c n hn (ix2 r k))
    = ∑ t ∈ Finset.range (n + 1), db (Xf m c t) (Yf m c t) (Gf m c) (Bf m c) (Df m c) k
  | 0, hn => by
    simp only [acc11, out11, pay80_at, pay59_at, zero_add, Finset.sum_range_one]
    exact dbs_block h ⟨0, hn⟩ k
  | n + 1, hn => by
    rw [Finset.sum_range_succ, ← acc11_sum k n (Nat.lt_of_succ_lt hn)]
    simp only [acc11, out11, pay80_at, Finset.sum_add_distrib]
    exact congrArg (_ + ·) (dbs_block h ⟨n + 1, hn⟩ k)

include h in
theorem acc10_sum (k : Fin 1920) : ∀ (n : ℕ) (hn : n < cfg0.N), (∑ r : Fin 8, acc10 m c n hn (ix2 r k))
    = ∑ t ∈ Finset.range (n + 1), dg (Xf m c t) (Yf m c t) (Gf m c) (Bf m c) (Df m c) k
  | 0, hn => by
    simp only [acc10, out10, pay81_at, pay58_at, zero_add, Finset.sum_range_one]
    exact dgs_block h ⟨0, hn⟩ k
  | n + 1, hn => by
    rw [Finset.sum_range_succ, ← acc10_sum k n (Nat.lt_of_succ_lt hn)]
    simp only [acc10, out10, pay81_at, Finset.sum_add_distrib]
    exact congrArg (_ + ·) (dgs_block h ⟨n + 1, hn⟩ k)

/-! ## The largest magnitude -/

theorem maxTo_le (g : ℕ → EReal) (a z : EReal) (n : ℕ) : maxTo g a n ≤ z ↔ a ≤ z ∧ ∀ u, u < n → g u ≤ z := by
  induction n with
  | zero => exact ⟨fun h => ⟨h, fun u hu => absurd hu (Nat.not_lt_zero u)⟩, fun h => h.1⟩
  | succ n ih =>
    rw [maxTo, max_le_iff, ih]
    refine ⟨fun h => ⟨h.1.1, fun u hu => ?_⟩, fun h => ⟨⟨h.1, fun u hu => h.2 u (by omega)⟩, h.2 n (by omega)⟩⟩
    rcases Nat.lt_succ_iff_lt_or_eq.mp hu with h' | rfl
    · exact h.1.2 u h'
    · exact h.2

theorem mx7_le (D : ℕ → ℕ → EReal) (a z : EReal) (r l n : ℕ) :
    mx7 D a r l n ≤ z ↔ a ≤ z ∧ ∀ k, k < n → ∀ u, u < 128 → ab (D (8 * u + r) (128 * k + l)) ≤ z := by
  induction n with
  | zero => exact ⟨fun h => ⟨h, fun u hu => absurd hu (Nat.not_lt_zero u)⟩, fun h => h.1⟩
  | succ n ih =>
    rw [mx7, maxTo_le, ih]
    refine ⟨fun h => ⟨h.1.1, fun k hk => ?_⟩, fun h => ⟨⟨h.1, fun k hk => h.2 k (by omega)⟩, h.2 n (by omega)⟩⟩
    rcases Nat.lt_succ_iff_lt_or_eq.mp hk with h' | rfl
    · exact h.1.2 k h'
    · exact h.2

/-- A lane's elements are below `z` at a sample. -/
def Below (r : Fin 8) (l : Fin 128) (z : EReal) (t : ℕ) : Prop :=
  ∀ k, k < 15 → ∀ u, u < 128 → ab (dx (Xf m c t) (Yf m c t) (Gf m c) (Bf m c) (Df m c) (8 * u + r) (128 * k + l)) ≤ z

include h in
theorem out9_le (t : Fin cfg0.N) (d : Vec Ideal S8x128 .f32) (r : Fin 8) (l : Fin 128) (z : EReal) :
    out9 ((iblk m c 0 t : Vec Ideal S1x1 .f32) (ix2 0 0)) (iblk m c 1 t) (iblk m c 2 t) (iblk m c 3 t) (iblk m c 4 t) (iblk m c 5 t) (iblk m c 6 t) d (ix2 r l) ≤ z
      ↔ d (ix2 r l) ≤ z ∧ Below (m := m) (c := c) r l z t := by
  refine (mx7_le _ _ _ _ _ _).trans (and_congr_right fun _ => ?_)
  refine forall_congr' fun k => forall_congr' fun hk => forall_congr' fun u => forall_congr' fun hu => ?_
  have e := DX_block h t (8 * u + r) ⟨128 * k + l, by have := l.isLt; omega⟩
  exact iff_of_eq (congrArg (fun v => ab v ≤ z) e)

include h in
theorem acc9_le (r : Fin 8) (l : Fin 128) (z : EReal) : ∀ (n : ℕ) (hn : n < cfg0.N), acc9 m c n hn (ix2 r l) ≤ z
    ↔ 0 ≤ z ∧ ∀ t, t < n + 1 → Below (m := m) (c := c) r l z t
  | 0, hn => by
    rw [acc9]
    refine (out9_le h ⟨0, hn⟩ _ r l z).trans ?_
    rw [pay57_at]
    refine and_congr_right fun _ => Iff.intro (fun h t ht => ?_) (fun h => h 0 (Nat.zero_lt_one))
    have e : t = 0 := by omega
    rw [e]; exact h
  | n + 1, hn => by
    rw [acc9]
    refine (out9_le h ⟨n + 1, hn⟩ _ r l z).trans ?_
    rw [acc9_le r l z n (Nat.lt_of_succ_lt hn), and_assoc]
    refine and_congr_right fun _ => Iff.intro (fun h t ht => ?_) (fun h => And.intro (fun t ht => h t (by omega)) (h (n + 1) (by omega)))
    rcases Nat.lt_succ_iff_lt_or_eq.mp ht with h' | rfl
    · exact h.1 t h'
    · exact h.2

end Cert.KernelIdeal.Pass

end
-- ==== Proof.PassFinal.lean ====
/- The run of the kernel, read: its four results. -/
module

public import proofs.«01_k».proof.Proof.PassSum

@[expose] public section

set_option maxRecDepth 16384
set_option maxHeartbeats 4000000

noncomputable section

namespace Cert.KernelIdeal.Pass

open Cert.KernelIdeal Cert.KernelIdeal.Gen Cert.Gn
open Idealize.ShloMosaic Idealize.ShloMosaic.TcCoe Idealize.ShloMosaic.Tactic Idealize.SL.Sem
open Idealize.ShloMosaic.Pipeline (Dat)

/-! ## The arrays -/

/-- The gradient at the input, of the arguments. -/
def dxArr (m : (ℓ : Loc nD τ sig) → Buf (Elt Ideal) ℓ) (c : Dev nD) : S16x1024x1920.Idx → EReal :=
  fun i => dx (Xf m c (i 0).val) (Yf m c (i 0).val) (Gf m c) (Bf m c) (Df m c) (i 1).val (i 2).val

/-- Where sample `t`'s block stands. -/
theorem place (t : Fin cfg0.N) (f : S16x1024x1920.Idx → EReal) (y : S1x1024x1920.Idx) :
    f (ix3 ⟨t.val, (show cfg0.N = 16 from N_0) ▸ t.isLt⟩ (y 1) (y 2)) = f ((win0_7.blk t).view.emb y) := by
  have h0 : y 0 = (0 : Fin 1) := Fin.eq_zero _
  blk_point [idx t, h0]

section Arrays

variable {m : (ℓ : Loc nD τ sig) → Buf (Elt Ideal) ℓ} {c : Dev nD} (h : Good m c)

include h in
theorem arr_7 : (dats m 0 c).arrAt 7 cfg0.N = dxArr m c := by
  refine (dats m 0 c).arrAt_eq_of_covers 7 _ (by decide +kernel) fun t hf y => ?_
  blk_simp [idx t]
  rw [after_7]
  have hN : cfg0.N = 16 := N_0
  have e : ∀ y : S1x1024x1920.Idx, out8 ((iblk m c 0 t : Vec Ideal S1x1 .f32) (ix2 0 0)) (iblk m c 1 t) (iblk m c 2 t) (iblk m c 3 t) (iblk m c 4 t) (iblk m c 5 t) (iblk m c 6 t) y
      = dxArr m c (ix3 ⟨t.val, hN ▸ t.isLt⟩ (y 1) (y 2)) := fun y => DX_block h t (y 1).val (y 2)
  refine (e y).trans ?_
  exact place t (dxArr m c) y

theorem arr_8 : (dats m 0 c).arrAt 8 cfg0.N = acc9 m c 15 (by rw [show cfg0.N = 16 from N_0]; decide) := by
  refine (dats m 0 c).arrAt_eq_of_after_last 8 t0_15 (by decide +kernel) _ fun j => ?_
  blk_simp
  rw [after_8]; rfl

theorem arr_9 : (dats m 0 c).arrAt 9 cfg0.N = acc10 m c 15 (by rw [show cfg0.N = 16 from N_0]; decide) := by
  refine (dats m 0 c).arrAt_eq_of_after_last 9 t0_15 (by decide +kernel) _ fun j => ?_
  blk_simp
  rw [after_9]; rfl

theorem arr_10 : (dats m 0 c).arrAt 10 cfg0.N = acc11 m c 15 (by rw [show cfg0.N = 16 from N_0]; decide) := by
  refine (dats m 0 c).arrAt_eq_of_after_last 10 t0_15 (by decide +kernel) _ fun j => ?_
  blk_simp
  rw [after_10]; rfl

end Arrays

/-! ## The last host lines -/

section Tail

variable (W : Valuation τ sig (Elt Ideal))

/-- The largest element of the eight-row block. -/
def maxOf (v : FVec Ideal S8x128 .f32) : FVec Ideal S_ .f32 := Host.reduce FloatOps.maximumf v (constant S_ .f32 0xFF800000#32) reducesTo_S8x128_S_d0_1 h_S_
/-- The sum of the eight rows. -/
def sumOf (v : FVec Ideal S8x1920 .f32) : FVec Ideal S1920 .f32 := Host.reduceAdd v (constant S_ .f32 0x00000000#32) reducesTo_S8x1920_S1920_d0 h_S_

theorem last_v10 : StableHlo.after hostOps1 W (Proc.devRef (τ := τ) .tc main_v10) = maxOf (W (Proc.devRef .tc main_v9_1)) := by
  after_results
  rfl
theorem last_v11 : StableHlo.after hostOps1 W (Proc.devRef (τ := τ) .tc main_v11) = sumOf (W (Proc.devRef .tc main_v9_2)) := by
  after_results
  rfl
theorem last_v12 : StableHlo.after hostOps1 W (Proc.devRef (τ := τ) .tc main_v12) = sumOf (W (Proc.devRef .tc main_v9_3)) := by
  after_results
  rfl

end Tail

theorem maxOf_le (v : FVec Ideal S8x128 .f32) (i) (z : EReal) : maxOf v i ≤ z ↔ ∀ (r : Fin 8) (l : Fin 128), v (ix2 r l) ≤ z := by
  unfold maxOf
  pointwise
  rw [Finset.fold_max_le, bot_f32]
  exact ⟨fun h r l => h.2 (r, l) (Finset.mem_univ _), fun h => ⟨bot_le, fun x _ => h x.1 x.2⟩⟩

theorem sumOf_at (v : FVec Ideal S8x1920 .f32) (k : Fin 1920) : sumOf v (ix1 k) = ∑ r : Fin 8, v (ix2 r k) := by
  unfold sumOf
  pointwise
  try rw [zero_add]

section Run

variable (m : (ℓ : Loc nD τ sig) → Buf (Elt Ideal) ℓ) (ρ : Dev nD → PrngReg) (c : Dev nD)

theorem tail_eq (b : Ref sig .tc) : Pipeline.afterTail₀ cfgs (dats m) 0 (V0 m) [hostOps1] c b
    = StableHlo.after hostOps1 (Pipeline.withArrays cfg0.spec c (V0 m c) fun w => (dats m 0 c).arrAt w cfg0.N) (Proc.devRef .tc b) := by
  unfold Pipeline.afterTail₀
  rw [List.flatten_cons, List.flatten_nil, List.append_nil]

/-- The largest magnitude, -/
def amaxArr : FVec Ideal S_ .f32 := maxOf (acc9 m c 15 (by rw [show cfg0.N = 16 from N_0]; decide))
/-- the gain's gradient -/
def dgArr : FVec Ideal S1920 .f32 := sumOf (acc10 m c 15 (by rw [show cfg0.N = 16 from N_0]; decide))
/-- and the offset's. -/
def dbArr : FVec Ideal S1920 .f32 := sumOf (acc11 m c 15 (by rw [show cfg0.N = 16 from N_0]; decide))

theorem spec_inj : Function.Injective (Pipeline.arrRef spec0) := by decide

theorem tail_v10 : Pipeline.afterTail₀ cfgs (dats m) 0 (V0 m) [hostOps1] c main_v10 = amaxArr m c := by
  rw [tail_eq, last_v10]
  exact congrArg maxOf ((Pipeline.withArrays_arr spec0 spec_inj c (V0 m c) (fun w => (dats m 0 c).arrAt w cfg0.N) 8).trans arr_8)
theorem tail_v11 : Pipeline.afterTail₀ cfgs (dats m) 0 (V0 m) [hostOps1] c main_v11 = dgArr m c := by
  rw [tail_eq, last_v11]
  exact congrArg sumOf ((Pipeline.withArrays_arr spec0 spec_inj c (V0 m c) (fun w => (dats m 0 c).arrAt w cfg0.N) 9).trans arr_9)
theorem tail_v12 : Pipeline.afterTail₀ cfgs (dats m) 0 (V0 m) [hostOps1] c main_v12 = dbArr m c := by
  rw [tail_eq, last_v12]
  exact congrArg sumOf ((Pipeline.withArrays_arr spec0 spec_inj c (V0 m c) (fun w => (dats m 0 c).arrAt w cfg0.N) 10).trans arr_10)

/-- The run, read. -/
theorem run (h : ∀ c, Good m c) : θ_run defs (onTc (τ := τ) (main (F := Ideal))) ⟨m, fun _ => 0, ρ⟩ fun r => ∀ c : Dev nD,
      r.2.mem ((c.tc : Thread nD τ).loc main_v9_0) = dxArr m c
      ∧ r.2.mem ((c.tc : Thread nD τ).loc main_v10) = amaxArr m c
      ∧ r.2.mem ((c.tc : Thread nD τ).loc main_v11) = dgArr m c
      ∧ r.2.mem ((c.tc : Thread nD τ).loc main_v12) = dbArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have key : θ_run defs (onTc (τ := τ) (main (F := Ideal))) ⟨m, fun _ => 0, ρ⟩ fun r => ∀ c : Dev nD,
      r.2.mem ((c.tc : Thread nD τ).loc main_v9_0) = dxArr m c
      ∧ r.2.mem ((c.tc : Thread nD τ).loc main_v10) = amaxArr m c
      ∧ r.2.mem ((c.tc : Thread nD τ).loc main_v11) = dgArr m c
      ∧ r.2.mem ((c.tc : Thread nD τ).loc main_v12) = dbArr m c :=
    (θ_run defs _ _).mono (fun _ hr c => ⟨(((hr.1 c).1 7).trans (arr_7 (h c))),
      (((hr.1 c).2 main_v10 (Pipeline.mem_restRefs_of main_v10 (by decide) (by decide))).trans (tail_v10 m c)),
      (((hr.1 c).2 main_v11 (Pipeline.mem_restRefs_of main_v11 (by decide) (by decide))).trans (tail_v11 m c)),
      (((hr.1 c).2 main_v12 (Pipeline.mem_restRefs_of main_v12 (by decide) (by decide))).trans (tail_v12 m c))⟩)
      (run_main m ρ)
  have args := frame_of m ρ (dats m) (A_eq m) ((θ_run defs _ _).mono (fun _ hr => hr.1) (run_main m ρ))
  exact (θ_run defs _ _).mono (fun _ hr c => ⟨(hr.1 c).1, (hr.1 c).2.1, (hr.1 c).2.2.1, (hr.1 c).2.2.2, hr.2 c⟩) (θ_run_and key args)

end Run

end Cert.KernelIdeal.Pass

end
-- ==== Proof.RefRead.lean ====
/- The reference's host lines read back: each of its arrays as a function of the arguments' contents. -/
module

public import proofs.«01_k».proof.Defs
public import proofs.«01_k».proof.Proof.Gen.ReferenceIdeal
public import proofs.«01_k».proof.Proof.Gen.ReferenceIdeal.Frame
public import Idealize.ShloMosaic.Lib.Claim
public import Idealize.ShloMosaic.Lib.Pipeline.ValueKit

@[expose] public section

set_option maxRecDepth 16384
set_option maxHeartbeats 4000000

noncomputable section

namespace Cert.ReferenceIdeal.Pass

open Cert.ReferenceIdeal Cert.ReferenceIdeal.Gen
open Idealize.ShloMosaic Idealize.ShloMosaic.TcCoe Idealize.ShloMosaic.Tactic

def rv3 (v1 : FVec Ideal S16x1024x32x60 .f32) (v2 : FVec Ideal S16x1024x1920 .f32) (g b : FVec Ideal S1920 .f32) (e : FVec Ideal S_ .f32) : FVec Ideal S16x1024x1920 .f32 := broadcastInDim S16x1024x1920 ![] bcast_S_S16x1024x1920 e
def rv4 (v1 : FVec Ideal S16x1024x32x60 .f32) (v2 : FVec Ideal S16x1024x1920 .f32) (g b : FVec Ideal S1920 .f32) (e : FVec Ideal S_ .f32) : FVec Ideal S16x1024x1920 .f32 := mulf v2 (rv3 v1 v2 g b e)
def rv5 (v1 : FVec Ideal S16x1024x32x60 .f32) (v2 : FVec Ideal S16x1024x1920 .f32) (g b : FVec Ideal S1920 .f32) (e : FVec Ideal S_ .f32) : FVec Ideal S16x1024x32x60 .f32 := shapeCast S16x1024x32x60 (rv4 v1 v2 g b e) shapeCasts_S16x1024x1920_S16x1024x32x60
def rv6 (v1 : FVec Ideal S16x1024x32x60 .f32) (v2 : FVec Ideal S16x1024x1920 .f32) (g b : FVec Ideal S1920 .f32) (e : FVec Ideal S_ .f32) : FVec Ideal S32x60 .f32 := shapeCast S32x60 g shapeCasts_S1920_S32x60
def rv7 (v1 : FVec Ideal S16x1024x32x60 .f32) (v2 : FVec Ideal S16x1024x1920 .f32) (g b : FVec Ideal S1920 .f32) (e : FVec Ideal S_ .f32) : FVec Ideal S32x60 .f32 := shapeCast S32x60 b shapeCasts_S1920_S32x60
def rcst (v1 : FVec Ideal S16x1024x32x60 .f32) (v2 : FVec Ideal S16x1024x1920 .f32) (g b : FVec Ideal S1920 .f32) (e : FVec Ideal S_ .f32) : FVec Ideal S_ .f32 := constant S_ .f32 0x00000000#32
def rv8 (v1 : FVec Ideal S16x1024x32x60 .f32) (v2 : FVec Ideal S16x1024x1920 .f32) (g b : FVec Ideal S1920 .f32) (e : FVec Ideal S_ .f32) : FVec Ideal S16x32 .f32 := Host.reduceAdd v1 (rcst v1 v2 g b e) reducesTo_S16x1024x32x60_S16x32_d1_3 h_S_
def rv9 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![0, 2] bcast_S16x32_S16x1x32x1_0_2 (rv8 v1 v2 g b e)
def rcst_0 (v1 : FVec Ideal S16x1024x32x60 .f32) (v2 : FVec Ideal S16x1024x1920 .f32) (g b : FVec Ideal S1920 .f32) (e : FVec Ideal S_ .f32) : FVec Ideal S_ .f32 := constant S_ .f32 0x47700000#32
def rv10 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![] bcast_S_S16x1x32x1 (rcst_0 v1 v2 g b e)
def rv11 (v1 : FVec Ideal S16x1024x32x60 .f32) (v2 : FVec Ideal S16x1024x1920 .f32) (g b : FVec Ideal S1920 .f32) (e : FVec Ideal S_ .f32) : FVec Ideal S16x1x32x1 .f32 := Host.divf (rv9 v1 v2 g b e) (rv10 v1 v2 g b e)
def rv12 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S16x1x32x1_S16x1024x32x60_0_1_2_3 (rv11 v1 v2 g b e)
def rv13 (v1 : FVec Ideal S16x1024x32x60 .f32) (v2 : FVec Ideal S16x1024x1920 .f32) (g b : FVec Ideal S1920 .f32) (e : FVec Ideal S_ .f32) : FVec Ideal S16x1024x32x60 .f32 := subf v1 (rv12 v1 v2 g b e)
def rv14 (v1 : FVec Ideal S16x1024x32x60 .f32) (v2 : FVec Ideal S16x1024x1920 .f32) (g b : FVec Ideal S1920 .f32) (e : FVec Ideal S_ .f32) : FVec Ideal S16x1024x32x60 .f32 := mulf (rv13 v1 v2 g b e) (rv13 v1 v2 g b e)
def rcst_1 (v1 : FVec Ideal S16x1024x32x60 .f32) (v2 : FVec Ideal S16x1024x1920 .f32) (g b : FVec Ideal S1920 .f32) (e : FVec Ideal S_ .f32) : FVec Ideal S_ .f32 := constant S_ .f32 0x00000000#32
def rv15 (v1 : FVec Ideal S16x1024x32x60 .f32) (v2 : FVec Ideal S16x1024x1920 .f32) (g b : FVec Ideal S1920 .f32) (e : FVec Ideal S_ .f32) : FVec Ideal S16x32 .f32 := Host.reduceAdd (rv14 v1 v2 g b e) (rcst_1 v1 v2 g b e) reducesTo_S16x1024x32x60_S16x32_d1_3 h_S_
def rv16 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![0, 2] bcast_S16x32_S16x1x32x1_0_2 (rv15 v1 v2 g b e)
def rcst_2 (v1 : FVec Ideal S16x1024x32x60 .f32) (v2 : FVec Ideal S16x1024x1920 .f32) (g b : FVec Ideal S1920 .f32) (e : FVec Ideal S_ .f32) : FVec Ideal S_ .f32 := constant S_ .f32 0x47700000#32
def rv17 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![] bcast_S_S16x1x32x1 (rcst_2 v1 v2 g b e)
def rv18 (v1 : FVec Ideal S16x1024x32x60 .f32) (v2 : FVec Ideal S16x1024x1920 .f32) (g b : FVec Ideal S1920 .f32) (e : FVec Ideal S_ .f32) : FVec Ideal S16x1x32x1 .f32 := Host.divf (rv16 v1 v2 g b e) (rv17 v1 v2 g b e)
def rcst_3 (v1 : FVec Ideal S16x1024x32x60 .f32) (v2 : FVec Ideal S16x1024x1920 .f32) (g b : FVec Ideal S1920 .f32) (e : FVec Ideal S_ .f32) : FVec Ideal S_ .f32 := constant S_ .f32 0x3727C5AC#32
def rv19 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![] bcast_S_S16x1x32x1 (rcst_3 v1 v2 g b e)
def rv20 (v1 : FVec Ideal S16x1024x32x60 .f32) (v2 : FVec Ideal S16x1024x1920 .f32) (g b : FVec Ideal S1920 .f32) (e : FVec Ideal S_ .f32) : FVec Ideal S16x1x32x1 .f32 := addf (rv18 v1 v2 g b e) (rv19 v1 v2 g b e)
def rv21 (v1 : FVec Ideal S16x1024x32x60 .f32) (v2 : FVec Ideal S16x1024x1920 .f32) (g b : FVec Ideal S1920 .f32) (e : FVec Ideal S_ .f32) : FVec Ideal S16x1x32x1 .f32 := Host.rsqrt (rv20 v1 v2 g b e)
def rv22 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S16x1x32x1_S16x1024x32x60_0_1_2_3 (rv21 v1 v2 g b e)
def rv23 (v1 : FVec Ideal S16x1024x32x60 .f32) (v2 : FVec Ideal S16x1024x1920 .f32) (g b : FVec Ideal S1920 .f32) (e : FVec Ideal S_ .f32) : FVec Ideal S16x1024x32x60 .f32 := mulf (rv13 v1 v2 g b e) (rv22 v1 v2 g b e)
def rv24 (v1 : FVec Ideal S16x1024x32x60 .f32) (v2 : FVec Ideal S16x1024x1920 .f32) (g b : FVec Ideal S1920 .f32) (e : FVec Ideal S_ .f32) : FVec Ideal S1x1x32x60 .f32 := broadcastInDim S1x1x32x60 ![2, 3] bcast_S32x60_S1x1x32x60_2_3 (rv6 v1 v2 g b e)
def rv25 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S1x1x32x60_S16x1024x32x60_0_1_2_3 (rv24 v1 v2 g b e)
def rv26 (v1 : FVec Ideal S16x1024x32x60 .f32) (v2 : FVec Ideal S16x1024x1920 .f32) (g b : FVec Ideal S1920 .f32) (e : FVec Ideal S_ .f32) : FVec Ideal S16x1024x32x60 .f32 := mulf (rv23 v1 v2 g b e) (rv25 v1 v2 g b e)
def rv27 (v1 : FVec Ideal S16x1024x32x60 .f32) (v2 : FVec Ideal S16x1024x1920 .f32) (g b : FVec Ideal S1920 .f32) (e : FVec Ideal S_ .f32) : FVec Ideal S1x1x32x60 .f32 := broadcastInDim S1x1x32x60 ![2, 3] bcast_S32x60_S1x1x32x60_2_3 (rv7 v1 v2 g b e)
def rv28 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S1x1x32x60_S16x1024x32x60_0_1_2_3 (rv27 v1 v2 g b e)
def rv29 (v1 : FVec Ideal S16x1024x32x60 .f32) (v2 : FVec Ideal S16x1024x1920 .f32) (g b : FVec Ideal S1920 .f32) (e : FVec Ideal S_ .f32) : FVec Ideal S16x1024x32x60 .f32 := addf (rv26 v1 v2 g b e) (rv28 v1 v2 g b e)
def rv30 (v1 : FVec Ideal S16x1024x32x60 .f32) (v2 : FVec Ideal S16x1024x1920 .f32) (g b : FVec Ideal S1920 .f32) (e : FVec Ideal S_ .f32) : FVec Ideal S16x1024x32x60 .f32 := Host.negf (rv29 v1 v2 g b e)
def rv31 (v1 : FVec Ideal S16x1024x32x60 .f32) (v2 : FVec Ideal S16x1024x1920 .f32) (g b : FVec Ideal S1920 .f32) (e : FVec Ideal S_ .f32) : FVec Ideal S16x1024x32x60 .f32 := Host.exp (rv30 v1 v2 g b e)
def rcst_4 (v1 : FVec Ideal S16x1024x32x60 .f32) (v2 : FVec Ideal S16x1024x1920 .f32) (g b : FVec Ideal S1920 .f32) (e : FVec Ideal S_ .f32) : FVec Ideal S_ .f32 := constant S_ .f32 0x3F800000#32
def rv32 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![] bcast_S_S16x1024x32x60 (rcst_4 v1 v2 g b e)
def rv33 (v1 : FVec Ideal S16x1024x32x60 .f32) (v2 : FVec Ideal S16x1024x1920 .f32) (g b : FVec Ideal S1920 .f32) (e : FVec Ideal S_ .f32) : FVec Ideal S16x1024x32x60 .f32 := addf (rv32 v1 v2 g b e) (rv31 v1 v2 g b e)
def rcst_5 (v1 : FVec Ideal S16x1024x32x60 .f32) (v2 : FVec Ideal S16x1024x1920 .f32) (g b : FVec Ideal S1920 .f32) (e : FVec Ideal S_ .f32) : FVec Ideal S_ .f32 := constant S_ .f32 0x3F800000#32
def rv34 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![] bcast_S_S16x1024x32x60 (rcst_5 v1 v2 g b e)
def rv35 (v1 : FVec Ideal S16x1024x32x60 .f32) (v2 : FVec Ideal S16x1024x1920 .f32) (g b : FVec Ideal S1920 .f32) (e : FVec Ideal S_ .f32) : FVec Ideal S16x1024x32x60 .f32 := Host.divf (rv34 v1 v2 g b e) (rv33 v1 v2 g b e)
def rv36 (v1 : FVec Ideal S16x1024x32x60 .f32) (v2 : FVec Ideal S16x1024x1920 .f32) (g b : FVec Ideal S1920 .f32) (e : FVec Ideal S_ .f32) : FVec Ideal S16x1024x32x60 .f32 := mulf (rv5 v1 v2 g b e) (rv35 v1 v2 g b e)
def rcst_6 (v1 : FVec Ideal S16x1024x32x60 .f32) (v2 : FVec Ideal S16x1024x1920 .f32) (g b : FVec Ideal S1920 .f32) (e : FVec Ideal S_ .f32) : FVec Ideal S_ .f32 := constant S_ .f32 0x3F800000#32
def rv37 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![] bcast_S_S16x1024x32x60 (rcst_6 v1 v2 g b e)
def rv38 (v1 : FVec Ideal S16x1024x32x60 .f32) (v2 : FVec Ideal S16x1024x1920 .f32) (g b : FVec Ideal S1920 .f32) (e : FVec Ideal S_ .f32) : FVec Ideal S16x1024x32x60 .f32 := subf (rv37 v1 v2 g b e) (rv35 v1 v2 g b e)
def rv39 (v1 : FVec Ideal S16x1024x32x60 .f32) (v2 : FVec Ideal S16x1024x1920 .f32) (g b : FVec Ideal S1920 .f32) (e : FVec Ideal S_ .f32) : FVec Ideal S16x1024x32x60 .f32 := mulf (rv29 v1 v2 g b e) (rv38 v1 v2 g b e)
def rcst_7 (v1 : FVec Ideal S16x1024x32x60 .f32) (v2 : FVec Ideal S16x1024x1920 .f32) (g b : FVec Ideal S1920 .f32) (e : FVec Ideal S_ .f32) : FVec Ideal S_ .f32 := constant S_ .f32 0x3F800000#32
def rv40 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![] bcast_S_S16x1024x32x60 (rcst_7 v1 v2 g b e)
def rv41 (v1 : FVec Ideal S16x1024x32x60 .f32) (v2 : FVec Ideal S16x1024x1920 .f32) (g b : FVec Ideal S1920 .f32) (e : FVec Ideal S_ .f32) : FVec Ideal S16x1024x32x60 .f32 := addf (rv40 v1 v2 g b e) (rv39 v1 v2 g b e)
def rv42 (v1 : FVec Ideal S16x1024x32x60 .f32) (v2 : FVec Ideal S16x1024x1920 .f32) (g b : FVec Ideal S1920 .f32) (e : FVec Ideal S_ .f32) : FVec Ideal S16x1024x32x60 .f32 := mulf (rv36 v1 v2 g b e) (rv41 v1 v2 g b e)
def rv43 (v1 : FVec Ideal S16x1024x32x60 .f32) (v2 : FVec Ideal S16x1024x1920 .f32) (g b : FVec Ideal S1920 .f32) (e : FVec Ideal S_ .f32) : FVec Ideal S16x1024x32x60 .f32 := mulf (rv42 v1 v2 g b e) (rv23 v1 v2 g b e)
def rcst_8 (v1 : FVec Ideal S16x1024x32x60 .f32) (v2 : FVec Ideal S16x1024x1920 .f32) (g b : FVec Ideal S1920 .f32) (e : FVec Ideal S_ .f32) : FVec Ideal S_ .f32 := constant S_ .f32 0x00000000#32
def rv44 (v1 : FVec Ideal S16x1024x32x60 .f32) (v2 : FVec Ideal S16x1024x1920 .f32) (g b : FVec Ideal S1920 .f32) (e : FVec Ideal S_ .f32) : FVec Ideal S32x60 .f32 := Host.reduceAdd (rv43 v1 v2 g b e) (rcst_8 v1 v2 g b e) reducesTo_S16x1024x32x60_S32x60_d0_1 h_S_
def rv45 (v1 : FVec Ideal S16x1024x32x60 .f32) (v2 : FVec Ideal S16x1024x1920 .f32) (g b : FVec Ideal S1920 .f32) (e : FVec Ideal S_ .f32) : FVec Ideal S1920 .f32 := shapeCast S1920 (rv44 v1 v2 g b e) shapeCasts_S32x60_S1920
def rcst_9 (v1 : FVec Ideal S16x1024x32x60 .f32) (v2 : FVec Ideal S16x1024x1920 .f32) (g b : FVec Ideal S1920 .f32) (e : FVec Ideal S_ .f32) : FVec Ideal S_ .f32 := constant S_ .f32 0x00000000#32
def rv46 (v1 : FVec Ideal S16x1024x32x60 .f32) (v2 : FVec Ideal S16x1024x1920 .f32) (g b : FVec Ideal S1920 .f32) (e : FVec Ideal S_ .f32) : FVec Ideal S32x60 .f32 := Host.reduceAdd (rv42 v1 v2 g b e) (rcst_9 v1 v2 g b e) reducesTo_S16x1024x32x60_S32x60_d0_1 h_S_
def rv47 (v1 : FVec Ideal S16x1024x32x60 .f32) (v2 : FVec Ideal S16x1024x1920 .f32) (g b : FVec Ideal S1920 .f32) (e : FVec Ideal S_ .f32) : FVec Ideal S1920 .f32 := shapeCast S1920 (rv46 v1 v2 g b e) shapeCasts_S32x60_S1920
def rv48 (v1 : FVec Ideal S16x1024x32x60 .f32) (v2 : FVec Ideal S16x1024x1920 .f32) (g b : FVec Ideal S1920 .f32) (e : FVec Ideal S_ .f32) : FVec Ideal S1x1x32x60 .f32 := broadcastInDim S1x1x32x60 ![2, 3] bcast_S32x60_S1x1x32x60_2_3 (rv6 v1 v2 g b e)
def rv49 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S1x1x32x60_S16x1024x32x60_0_1_2_3 (rv48 v1 v2 g b e)
def rv50 (v1 : FVec Ideal S16x1024x32x60 .f32) (v2 : FVec Ideal S16x1024x1920 .f32) (g b : FVec Ideal S1920 .f32) (e : FVec Ideal S_ .f32) : FVec Ideal S16x1024x32x60 .f32 := mulf (rv42 v1 v2 g b e) (rv49 v1 v2 g b e)
def rcst_10 (v1 : FVec Ideal S16x1024x32x60 .f32) (v2 : FVec Ideal S16x1024x1920 .f32) (g b : FVec Ideal S1920 .f32) (e : FVec Ideal S_ .f32) : FVec Ideal S_ .f32 := constant S_ .f32 0x00000000#32
def rv51 (v1 : FVec Ideal S16x1024x32x60 .f32) (v2 : FVec Ideal S16x1024x1920 .f32) (g b : FVec Ideal S1920 .f32) (e : FVec Ideal S_ .f32) : FVec Ideal S16x32 .f32 := Host.reduceAdd (rv50 v1 v2 g b e) (rcst_10 v1 v2 g b e) reducesTo_S16x1024x32x60_S16x32_d1_3 h_S_
def rv52 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![0, 2] bcast_S16x32_S16x1x32x1_0_2 (rv51 v1 v2 g b e)
def rcst_11 (v1 : FVec Ideal S16x1024x32x60 .f32) (v2 : FVec Ideal S16x1024x1920 .f32) (g b : FVec Ideal S1920 .f32) (e : FVec Ideal S_ .f32) : FVec Ideal S_ .f32 := constant S_ .f32 0x47700000#32
def rv53 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![] bcast_S_S16x1x32x1 (rcst_11 v1 v2 g b e)
def rv54 (v1 : FVec Ideal S16x1024x32x60 .f32) (v2 : FVec Ideal S16x1024x1920 .f32) (g b : FVec Ideal S1920 .f32) (e : FVec Ideal S_ .f32) : FVec Ideal S16x1x32x1 .f32 := Host.divf (rv52 v1 v2 g b e) (rv53 v1 v2 g b e)
def rv55 (v1 : FVec Ideal S16x1024x32x60 .f32) (v2 : FVec Ideal S16x1024x1920 .f32) (g b : FVec Ideal S1920 .f32) (e : FVec Ideal S_ .f32) : FVec Ideal S16x1024x32x60 .f32 := mulf (rv50 v1 v2 g b e) (rv23 v1 v2 g b e)
def rcst_12 (v1 : FVec Ideal S16x1024x32x60 .f32) (v2 : FVec Ideal S16x1024x1920 .f32) (g b : FVec Ideal S1920 .f32) (e : FVec Ideal S_ .f32) : FVec Ideal S_ .f32 := constant S_ .f32 0x00000000#32
def rv56 (v1 : FVec Ideal S16x1024x32x60 .f32) (v2 : FVec Ideal S16x1024x1920 .f32) (g b : FVec Ideal S1920 .f32) (e : FVec Ideal S_ .f32) : FVec Ideal S16x32 .f32 := Host.reduceAdd (rv55 v1 v2 g b e) (rcst_12 v1 v2 g b e) reducesTo_S16x1024x32x60_S16x32_d1_3 h_S_
def rv57 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![0, 2] bcast_S16x32_S16x1x32x1_0_2 (rv56 v1 v2 g b e)
def rcst_13 (v1 : FVec Ideal S16x1024x32x60 .f32) (v2 : FVec Ideal S16x1024x1920 .f32) (g b : FVec Ideal S1920 .f32) (e : FVec Ideal S_ .f32) : FVec Ideal S_ .f32 := constant S_ .f32 0x47700000#32
def rv58 (v1 : FVec Ideal S16x1024x32x60 .f32) (v2 : FVec Ideal S16x1024x1920 .f32) (g b : FVec Ideal S1920 .f32) (e : FVec Ideal S_ .f32) : FVec Ideal S16x1x32x1 .f32 := broadcastInDim S16x1x32x1 ![] bcast_S_S16x1x32x1 (rcst_13 v1 v2 g b e)
def rv59 (v1 : FVec Ideal S16x1024x32x60 .f32) (v2 : FVec Ideal S16x1024x1920 .f32) (g b : FVec Ideal S1920 .f32) (e : FVec Ideal S_ .f32) : FVec Ideal S16x1x32x1 .f32 := Host.divf (rv57 v1 v2 g b e) (rv58 v1 v2 g b e)
def rv60 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S16x1x32x1_S16x1024x32x60_0_1_2_3 (rv54 v1 v2 g b e)
def rv61 (v1 : FVec Ideal S16x1024x32x60 .f32) (v2 : FVec Ideal S16x1024x1920 .f32) (g b : FVec Ideal S1920 .f32) (e : FVec Ideal S_ .f32) : FVec Ideal S16x1024x32x60 .f32 := subf (rv50 v1 v2 g b e) (rv60 v1 v2 g b e)
def rv62 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S16x1x32x1_S16x1024x32x60_0_1_2_3 (rv59 v1 v2 g b e)
def rv63 (v1 : FVec Ideal S16x1024x32x60 .f32) (v2 : FVec Ideal S16x1024x1920 .f32) (g b : FVec Ideal S1920 .f32) (e : FVec Ideal S_ .f32) : FVec Ideal S16x1024x32x60 .f32 := mulf (rv23 v1 v2 g b e) (rv62 v1 v2 g b e)
def rv64 (v1 : FVec Ideal S16x1024x32x60 .f32) (v2 : FVec Ideal S16x1024x1920 .f32) (g b : FVec Ideal S1920 .f32) (e : FVec Ideal S_ .f32) : FVec Ideal S16x1024x32x60 .f32 := subf (rv61 v1 v2 g b e) (rv63 v1 v2 g b e)
def rv65 (v1 : FVec Ideal S16x1024x32x60 .f32) (v2 : FVec Ideal S16x1024x1920 .f32) (g b : FVec Ideal S1920 .f32) (e : FVec Ideal S_ .f32) : FVec Ideal S16x1024x32x60 .f32 := broadcastInDim S16x1024x32x60 ![0, 1, 2, 3] bcast_S16x1x32x1_S16x1024x32x60_0_1_2_3 (rv21 v1 v2 g b e)
def rv66 (v1 : FVec Ideal S16x1024x32x60 .f32) (v2 : FVec Ideal S16x1024x1920 .f32) (g b : FVec Ideal S1920 .f32) (e : FVec Ideal S_ .f32) : FVec Ideal S16x1024x32x60 .f32 := mulf (rv65 v1 v2 g b e) (rv64 v1 v2 g b e)
def rv67 (v1 : FVec Ideal S16x1024x32x60 .f32) (v2 : FVec Ideal S16x1024x1920 .f32) (g b : FVec Ideal S1920 .f32) (e : FVec Ideal S_ .f32) : FVec Ideal S16x1024x1920 .f32 := shapeCast S16x1024x1920 (rv66 v1 v2 g b e) shapeCasts_S16x1024x32x60_S16x1024x1920
def rv68 (v1 : FVec Ideal S16x1024x32x60 .f32) (v2 : FVec Ideal S16x1024x1920 .f32) (g b : FVec Ideal S1920 .f32) (e : FVec Ideal S_ .f32) : FVec Ideal S16x1024x1920 .f32 := Host.absf (rv67 v1 v2 g b e)
def rcst_14 (v1 : FVec Ideal S16x1024x32x60 .f32) (v2 : FVec Ideal S16x1024x1920 .f32) (g b : FVec Ideal S1920 .f32) (e : FVec Ideal S_ .f32) : FVec Ideal S_ .f32 := constant S_ .f32 0xFF800000#32
def rv69 (v1 : FVec Ideal S16x1024x32x60 .f32) (v2 : FVec Ideal S16x1024x1920 .f32) (g b : FVec Ideal S1920 .f32) (e : FVec Ideal S_ .f32) : FVec Ideal S_ .f32 := Host.reduce FloatOps.maximumf (rv68 v1 v2 g b e) (rcst_14 v1 v2 g b e) reducesTo_S16x1024x1920_S_d0_1_2 h_S_

variable (W : Valuation τ sig (Elt Ideal))

theorem read_v45 (c : Dev nD) : StableHlo.after hostOps1 W (Proc.devRef (τ := τ) .tc main_v45) = rv45 (W (Proc.devRef .tc main_v1)) (W (Proc.devRef .tc main_v2)) (W (Proc.devRef .tc main_arg1)) (W (Proc.devRef .tc main_arg2)) (W (Proc.devRef .tc main_arg4)) := by
  after_results
  rfl

theorem read_v47 (c : Dev nD) : StableHlo.after hostOps1 W (Proc.devRef (τ := τ) .tc main_v47) = rv47 (W (Proc.devRef .tc main_v1)) (W (Proc.devRef .tc main_v2)) (W (Proc.devRef .tc main_arg1)) (W (Proc.devRef .tc main_arg2)) (W (Proc.devRef .tc main_arg4)) := by
  after_results
  rfl

theorem read_v67 (c : Dev nD) : StableHlo.after hostOps1 W (Proc.devRef (τ := τ) .tc main_v67) = rv67 (W (Proc.devRef .tc main_v1)) (W (Proc.devRef .tc main_v2)) (W (Proc.devRef .tc main_arg1)) (W (Proc.devRef .tc main_arg2)) (W (Proc.devRef .tc main_arg4)) := by
  after_results
  rfl

theorem read_v69 (c : Dev nD) : StableHlo.after hostOps1 W (Proc.devRef (τ := τ) .tc main_v69) = rv69 (W (Proc.devRef .tc main_v1)) (W (Proc.devRef .tc main_v2)) (W (Proc.devRef .tc main_arg1)) (W (Proc.devRef .tc main_arg2)) (W (Proc.devRef .tc main_arg4)) := by
  after_results
  rfl

end Cert.ReferenceIdeal.Pass

end
-- ==== Proof.RefFinal.lean ====
/- The run of the reference: its four results as the host lines compute them from the arguments. -/
module

public import proofs.«01_k».proof.Proof.RefRead

@[expose] public section

set_option maxRecDepth 16384
set_option maxHeartbeats 4000000

noncomputable section

namespace Cert.ReferenceIdeal.Pass

open Cert.ReferenceIdeal Cert.ReferenceIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- `x` as real values, its channels split into groups. -/
def w1 : FVec Ideal S16x1024x32x60 .f32 :=
  shapeCast S16x1024x32x60 (extf .f32 (m ((c : Thread nD τ).loc main_arg0) : FVec Ideal S16x1024x1920 .bf16) bitsLt_bf16_f32) shapeCasts_S16x1024x1920_S16x1024x32x60

/-- The codes as real values. -/
def w2 : FVec Ideal S16x1024x1920 .f32 := fun i => (m ((c : Thread nD τ).loc main_arg3) : S16x1024x1920.Idx → EReal) i

theorem V_main_v1 : V m c main_v1 = w1 m c := by
  unfold V V0
  simp only [List.flatten_cons, List.flatten_nil, List.append_nil]
  after_results
  rfl

/-- Where the call's one block stands. -/
theorem idx : ∀ t : Fin cfg0.N, win0_0.index t = ![0, 0, 0] ∧ win0_1.index t = ![0, 0, 0] := by decide +kernel

/-- The one call leaves the codes as real values. -/
theorem arr_v2 : (dats m 0 c).arrAt 1 cfg0.N = w2 m c := by
  refine (dats m 0 c).arrAt_eq_of_after_last 1 t0_0 (by decide +kernel) _ fun j => ?_
  blk_simp
  rw [after0_1]
  unfold out0_1
  rw [View.canon_unit_zero (by decide)]
  refine (congrFun (congrArg k0_pay1 (View.ld_unit_zero (S := S16x1024x1920) (funext fun a => by fin_cases a <;> rfl) _ (iblk m c 0 t0_0 : Vec Ideal S16x1024x1920 .fp8e5m2))) j).trans ?_
  unfold k0_pay1 w2
  blk_point [iblk, V, idx t0_0]

/-- The contents the last host lines start from. -/
abbrev W0 : Valuation τ sig (Elt Ideal) := Pipeline.withArrays cfg0.spec c (V0 m c) fun w => (dats m 0 c).arrAt w cfg0.N

theorem W0_v1 : W0 m c (Proc.devRef .tc main_v1) = w1 m c :=
  (Pipeline.withArrays_of_ne _ c (V0 m c) _ main_v1 (by exact (by decide : ∀ w, Pipeline.arrRef spec0 w ≠ main_v1))).trans (V_main_v1 m c)
theorem W0_arg1 : W0 m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)
theorem W0_arg2 : W0 m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem W0_arg4 : W0 m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem W0_v2 : W0 m c (Proc.devRef .tc main_v2) = w2 m c :=
  (Pipeline.withArrays_arr spec0 (by decide) c (V0 m c) (fun w => (dats m 0 c).arrAt w cfg0.N) 1).trans (arr_v2 m c)

/-- A result, of the contents of the arguments. -/
abbrev res {s : Shape} (f : FVec Ideal S16x1024x32x60 .f32 → FVec Ideal S16x1024x1920 .f32 → FVec Ideal S1920 .f32 → FVec Ideal S1920 .f32 → FVec Ideal S_ .f32 → FVec Ideal s .f32) : FVec Ideal s .f32 :=
  f (w1 m c) (w2 m c) (m ((c : Thread nD τ).loc main_arg1)) (m ((c : Thread nD τ).loc main_arg2)) (m ((c : Thread nD τ).loc main_arg4))

theorem tail_eq (b : Ref sig .tc) : Pipeline.afterTail₀ cfgs (dats m) 0 (V0 m) [hostOps1] c b = StableHlo.after hostOps1 (W0 m c) (Proc.devRef .tc b) := by
  unfold Pipeline.afterTail₀
  rw [List.flatten_cons, List.flatten_nil, List.append_nil]

theorem tail_v45 : Pipeline.afterTail₀ cfgs (dats m) 0 (V0 m) [hostOps1] c main_v45 = res m c rv45 := by
  rw [tail_eq, read_v45 _ c, W0_v1, W0_v2, W0_arg1, W0_arg2, W0_arg4]
theorem tail_v47 : Pipeline.afterTail₀ cfgs (dats m) 0 (V0 m) [hostOps1] c main_v47 = res m c rv47 := by
  rw [tail_eq, read_v47 _ c, W0_v1, W0_v2, W0_arg1, W0_arg2, W0_arg4]
theorem tail_v67 : Pipeline.afterTail₀ cfgs (dats m) 0 (V0 m) [hostOps1] c main_v67 = res m c rv67 := by
  rw [tail_eq, read_v67 _ c, W0_v1, W0_v2, W0_arg1, W0_arg2, W0_arg4]
theorem tail_v69 : Pipeline.afterTail₀ cfgs (dats m) 0 (V0 m) [hostOps1] c main_v69 = res m c rv69 := by
  rw [tail_eq, read_v69 _ c, W0_v1, W0_v2, W0_arg1, W0_arg2, W0_arg4]

/-- The run, read. -/
theorem run : θ_run defs (onTc (τ := τ) (main (F := Ideal))) ⟨m, fun _ => 0, ρ⟩ fun r => ∀ c : Dev nD,
      r.2.mem ((c.tc : Thread nD τ).loc main_v67) = res m c rv67
      ∧ r.2.mem ((c.tc : Thread nD τ).loc main_v69) = res m c rv69
      ∧ r.2.mem ((c.tc : Thread nD τ).loc main_v45) = res m c rv45
      ∧ r.2.mem ((c.tc : Thread nD τ).loc main_v47) = res m c rv47 :=
  (θ_run defs _ _).mono (fun _ h c => ⟨
      (((h c).2 main_v67 (Pipeline.mem_restRefs_of main_v67 (by decide) (by decide))).trans (tail_v67 m c)),
      (((h c).2 main_v69 (Pipeline.mem_restRefs_of main_v69 (by decide) (by decide))).trans (tail_v69 m c)),
      (((h c).2 main_v45 (Pipeline.mem_restRefs_of main_v45 (by decide) (by decide))).trans (tail_v45 m c)),
      (((h c).2 main_v47 (Pipeline.mem_restRefs_of main_v47 (by decide) (by decide))).trans (tail_v47 m c))⟩)
    (run_main m ρ)

end Cert.ReferenceIdeal.Pass

end
-- ==== Proof.RefValue.lean ====
/- The reference's results at exact arithmetic, element by element: the mathematics of `Spec.lean`. -/
module

public import proofs.«01_k».proof.Proof.RefRead
public import proofs.«01_k».proof.Proof.Algebra

@[expose] public section

set_option maxRecDepth 16384
set_option maxHeartbeats 4000000

noncomputable section

namespace Cert.ReferenceIdeal.Pass

open Cert.ReferenceIdeal Cert.ReferenceIdeal.Gen Cert.Gn
open Idealize.ShloMosaic Idealize.ShloMosaic.TcCoe Idealize.ShloMosaic.Tactic

/-! ## Two sums over two axes -/

/-- A sum over the rows and the channels of a group: the second and the last axis of four. -/
theorem sum_rows_chans {n : ℕ} (h : (⟨4, ![16, n, 32, 60]⟩ : Shape).ReducesTo [1, 3] S16x32) (v : (⟨4, ![16, n, 32, 60]⟩ : Shape).Idx → EReal)
    (init : EReal) (t : Fin 16) (q : Fin 32) :
    Ideal.hostReduceAdd h v init (ix2 t q) = init + ∑ s : Fin n, ∑ k : Fin 60, v (ix4 t s q k) := by
  refine congrArg (init + ·) ?_
  refine (Finset.sum_filter_eq_sum_of_fiber _ (fun p : Fin n × Fin 60 => (ix4 t p.1 q p.2 : (⟨4, ![16, n, 32, 60]⟩ : Shape).Idx))
    (fun _ _ e => Prod.ext (congrFun e 1) (congrFun e 3)) (fun i => ?_) v).trans ?_
  · constructor
    · intro e
      refine ⟨(i 1, i 3), ?_⟩
      funext a; apply Fin.ext
      match a with
      | ⟨0, _⟩ => exact (congrArg Fin.val (congrFun e 0)).symm
      | ⟨1, _⟩ => rfl
      | ⟨2, _⟩ => exact (congrArg Fin.val (congrFun e 1)).symm
      | ⟨3, _⟩ => rfl
    · rintro ⟨p, rfl⟩
      funext b
      apply Fin.ext
      match b with
      | ⟨0, _⟩ => rfl
      | ⟨1, _⟩ => rfl
  · simp only [Fintype.sum_prod_type]

/-- A sum over the samples and the rows: the first two axes of four. -/
theorem sum_samples (h : S16x1024x32x60.ReducesTo [0, 1] S32x60) (v : S16x1024x32x60.Idx → EReal)
    (init : EReal) (q : Fin 32) (k : Fin 60) :
    Ideal.hostReduceAdd h v init (ix2 q k) = init + ∑ t : Fin 16, ∑ s : Fin 1024, v (ix4 t s q k) := by
  refine congrArg (init + ·) ?_
  refine (Finset.sum_filter_eq_sum_of_fiber _ (fun p : Fin 16 × Fin 1024 => (ix4 p.1 p.2 q k : S16x1024x32x60.Idx))
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨p, rfl⟩
      funext b
      apply Fin.ext
      match b with
      | ⟨0, _⟩ => rfl
      | ⟨1, _⟩ => rfl
  · simp only [Fintype.sum_prod_type]

/-! ## The reference's arrays, one by one -/

variable {v1 : FVec Ideal S16x1024x32x60 .f32} {v2 : FVec Ideal S16x1024x1920 .f32} {g b : FVec Ideal S1920 .f32} {e : FVec Ideal S_ .f32}
variable {X Y : ℕ → ℕ → ℕ → EReal} {gm bt : ℕ → EReal} {ds : EReal}
variable (h1 : ∀ (t : Fin 16) (s : Fin 1024) (q : Fin 32) (k : Fin 60), v1 (ix4 t s q k) = X t s (q * 60 + k))
variable (h2 : ∀ (t : Fin 16) (s : Fin 1024) (c : Fin 1920), v2 (ix3 t s c) = Y t s c)
variable (hg : ∀ c : Fin 1920, g (ix1 c) = gm c) (hb : ∀ c : Fin 1920, b (ix1 c) = bt c) (he : e ix0 = ds)
variable (hn : ∀ c, NN (gm c))

include h1 in
theorem mean_at (t : Fin 16) (q : Fin 32) : rv11 v1 v2 g b e (ix4 t 0 q 0) = gmean (X t) q := by
  pointwise [rv11, rv10, rcst_0, rv9, rv8, rcst]
  rw [sum_rows_chans, div_count, zero_add, gmean, csum_rsum]
  simp only [h1]

include h1 in
theorem dev_at (t : Fin 16) (s : Fin 1024) (q : Fin 32) (k : Fin 60) : rv13 v1 v2 g b e (ix4 t s q k) = dev (X t) s (q * 60 + k) := by
  pointwise [rv13, rv12]
  rw [mean_at h1, h1, dev, ch_div]

include h1 in
theorem rstd_at (t : Fin 16) (q : Fin 32) : rv21 v1 v2 g b e (ix4 t 0 q 0) = rstd (X t) q := by
  pointwise [rv21, rv20, rv19, rcst_3, rv18, rv17, rcst_2, rv16, rv15, rcst_1, rv14]
  rw [sum_rows_chans, div_count, zero_add, rstd, gmean, csum_rsum]
  simp only [pointwise, dev_at h1]
  rfl

include h1 in
theorem xhat_at (t : Fin 16) (s : Fin 1024) (q : Fin 32) (k : Fin 60) :
    rv23 v1 v2 g b e (ix4 t s q k) = dev (X t) s (q * 60 + k) * rstd (X t) q := by
  pointwise [rv23, rv22]
  rw [dev_at h1, rstd_at h1]

include hg in
theorem gam_at (q : Fin 32) (k : Fin 60) : rv6 v1 v2 g b e (ix2 q k) = gm (q * 60 + k) := by
  pointwise [rv6]
  exact hg _

include h1 hg hb in
theorem pre_at (t : Fin 16) (s : Fin 1024) (q : Fin 32) (k : Fin 60) :
    rv29 v1 v2 g b e (ix4 t s q k) = pre (X t) gm bt s (q * 60 + k) := by
  pointwise [rv29, rv28, rv27, rv26, rv25, rv24, rv7]
  rw [xhat_at h1, gam_at hg, pre, ch_div, hb]

include h1 hg hb in
theorem gate_at (t : Fin 16) (s : Fin 1024) (q : Fin 32) (k : Fin 60) :
    rv35 v1 v2 g b e (ix4 t s q k) = Ideal.logistic (pre (X t) gm bt s (q * 60 + k)) := by
  pointwise [rv35, rv34, rv33, rv32, rv31, rv30, rcst_4, rcst_5]
  rw [pre_at h1 hg hb]; rfl

include h1 h2 hg hb he in
theorem dh_at (t : Fin 16) (s : Fin 1024) (q : Fin 32) (k : Fin 60) :
    rv42 v1 v2 g b e (ix4 t s q k) = dh (X t) (Y t) gm bt ds s (q * 60 + k) := by
  pointwise [rv42, rv41, rv40, rcst_7, rv39, rv38, rv37, rcst_6, rv36, rv5, rv4, rv3]
  rw [gate_at h1 hg hb, pre_at h1 hg hb, h2, he]; rfl

include h1 h2 hg hb he in
theorem dhx_at (t : Fin 16) (s : Fin 1024) (q : Fin 32) (k : Fin 60) :
    rv43 v1 v2 g b e (ix4 t s q k) = dh (X t) (Y t) gm bt ds s (q * 60 + k) * (dev (X t) s (q * 60 + k) * rstd (X t) q) := by
  pointwise [rv43]
  rw [dh_at h1 h2 hg hb he, xhat_at h1]

include h1 h2 hg hb he in
theorem g_at (t : Fin 16) (s : Fin 1024) (q : Fin 32) (k : Fin 60) :
    rv50 v1 v2 g b e (ix4 t s q k) = dh (X t) (Y t) gm bt ds s (q * 60 + k) * gm (q * 60 + k) := by
  pointwise [rv50, rv49, rv48]
  rw [dh_at h1 h2 hg hb he, gam_at hg]

/-- A factor that depends on the channel alone may be multiplied before or after the sum over the rows. -/
theorem sum_scale {f : ℕ → ℕ → EReal} (hn : ∀ c, NN (gm c)) (q : ℕ) :
    (∑ s : Fin 1024, ∑ k : Fin 60, f s (q * 60 + k) * gm (q * 60 + k)) = csum (fun c => rsum f c * gm c) q := by
  rw [Finset.sum_comm]
  exact Finset.sum_congr rfl fun k _ => ((hn _).sum_mul _ _).symm

include h1 h2 hg hb he hn in
theorem mg_at (t : Fin 16) (q : Fin 32) : rv54 v1 v2 g b e (ix4 t 0 q 0) = mg (X t) (Y t) gm bt ds q := by
  pointwise [rv54, rv53, rcst_11, rv52, rv51, rcst_10]
  rw [sum_rows_chans, div_count, zero_add]
  simp only [g_at h1 h2 hg hb he]
  rw [sum_scale hn]
  rfl

include h1 h2 hg hb he hn in
theorem mgx_at (t : Fin 16) (q : Fin 32) : rv59 v1 v2 g b e (ix4 t 0 q 0) = mgx (X t) (Y t) gm bt ds q := by
  pointwise [rv59, rv58, rcst_13, rv57, rv56, rcst_12]
  rw [sum_rows_chans, div_count, zero_add]
  have e1 : ∀ (s : Fin 1024) (k : Fin 60), rv55 v1 v2 g b e (ix4 t s q k)
      = dh (X t) (Y t) gm bt ds s (q * 60 + k) * (dev (X t) s (q * 60 + k) * rstd (X t) ((q * 60 + k : ℕ) / 60)) * gm (q * 60 + k) := fun s k => by
    pointwise [rv55]
    rw [g_at h1 h2 hg hb he, xhat_at h1, mul_right_comm, ch_div]
  simp only [e1]
  rw [sum_scale (f := fun s c => dh (X t) (Y t) gm bt ds s c * (dev (X t) s c * rstd (X t) (c / 60))) hn]
  rfl

/-- A channel is its place in its group. -/
theorem ch_split (c : Fin 1920) : (c : ℕ) / 60 * 60 + (c : ℕ) % 60 = c := by omega

include h1 h2 hg hb he hn in
/-- The gradient at the input. -/
theorem dx_at (t : Fin 16) (s : Fin 1024) (c : Fin 1920) :
    rv67 v1 v2 g b e (ix3 t s c) = dx (X t) (Y t) gm bt ds s c := by
  pointwise [rv67, rv66, rv65, rv64, rv63, rv62, rv61, rv60]
  rw [rstd_at h1, g_at h1 h2 hg hb he, mg_at h1 h2 hg hb he hn, xhat_at h1, mgx_at h1 h2 hg hb he hn]
  simp only [ch_split]; rfl

include h1 h2 hg hb he in
/-- The gradient of `gamma`, -/
theorem dgamma_at (c : Fin 1920) : rv45 v1 v2 g b e (ix1 c) = ∑ t : Fin 16, dg (X t) (Y t) gm bt ds c := by
  pointwise [rv45, rv44, rcst_8]
  rw [sum_samples, zero_add]
  simp only [dhx_at h1 h2 hg hb he, ch_split]
  rfl

include h1 h2 hg hb he in
/-- and of `beta`. -/
theorem dbeta_at (c : Fin 1920) : rv47 v1 v2 g b e (ix1 c) = ∑ t : Fin 16, db (X t) (Y t) gm bt ds c := by
  pointwise [rv47, rv46, rcst_9]
  rw [sum_samples, zero_add]
  simp only [dh_at h1 h2 hg hb he, ch_split]
  rfl

include h1 h2 hg hb he hn in
/-- The largest magnitude of the gradient at the input: it is below a bound when every magnitude is. -/
theorem amax_le (i) (z : EReal) : rv69 v1 v2 g b e i ≤ z ↔
    ∀ (t : Fin 16) (s : Fin 1024) (c : Fin 1920), FloatOps.absf (F := Ideal) (φ := .f32) (dx (X t) (Y t) gm bt ds s c) ≤ z := by
  pointwise [rv69, rv68, rcst_14]
  simp only [dx_at h1 h2 hg hb he hn]
  rw [Finset.fold_max_le, bot_f32]
  exact ⟨fun h t s c => h.2 (t, s, c) (Finset.mem_univ _), fun h => ⟨bot_le, fun x _ => h x.1 x.2.1 x.2.2⟩⟩

end Cert.ReferenceIdeal.Pass

end
-- ==== Proof.PreDomain.lean ====
/- What the precondition says of the inputs: real values of `x`, of the gain (not negative), of the offset, and of the
   scale of the codes (not negative). -/
module

public import proofs.«01_k».proof.Defs
public import proofs.«01_k».proof.Proof.Algebra
public import Idealize.ShloMosaic.Lib.ReduceAll
public import Idealize.ShloMosaic.Lib.Claim
public import Idealize.ShloMosaic.Lib.Pipeline.ValueKit

@[expose] public section

set_option maxRecDepth 16384
set_option maxHeartbeats 2000000

noncomputable section

namespace Cert.Pre_domain

open Cert.Gn
open Idealize.ShloMosaic Idealize.ShloMosaic.TcCoe Idealize.ShloMosaic.Tactic

/-- The shape relations the precondition's operations take. -/
instance facts : Cert.Pre_domain.Facts where
  bitsLt_bf16_f32 := by decide
  bcast_S_S16x1024x1920 := by decide
  reducesTo_S16x1024x1920_S_d0_1_2 := by decide
  h_S_ := by decide
  bcast_S_S1920 := by decide
  reducesTo_S1920_S_d0 := by decide

open Cert.Pre_domain.Facts

theorem andi_one {p q : BitVec 1} (h : IntOp.andi p q = 1#1) : p = 1#1 ∧ q = 1#1 := by
  revert p q; decide

theorem lt_of_olt {x y : EReal} (h : FloatOps.cmpf (F := Ideal) (φ := .f32) .olt x y = 1#1) : x < y := by
  have h' : BitVec.ofBool (decide (x < y)) = 1#1 := h
  by_contra hn
  rw [decide_eq_false hn] at h'
  exact absurd h' (by decide)

theorem le_of_oge {x y : EReal} (h : FloatOps.cmpf (F := Ideal) (φ := .f32) .oge x y = 1#1) : y ≤ x := by
  have h' : BitVec.ofBool (decide (y ≤ x)) = 1#1 := h
  by_contra hn
  rw [decide_eq_false hn] at h'
  exact absurd h' (by decide)

theorem re_of_abs {x : EReal} (h : FloatOps.cmpf (F := Ideal) (φ := .f32) .olt (FloatOps.absf (F := Ideal) (φ := .f32) x) (Ideal.ofBits .f32 0x7F800000#32) = 1#1) : Re x := by
  have h1 := lt_of_olt h
  rw [top_f32] at h1
  have h2 : max x (-x) < ⊤ := h1
  obtain ⟨ha, hb⟩ := max_lt_iff.mp h2
  refine ⟨x.toReal, (EReal.coe_toReal ha.ne fun hx => ?_).symm⟩
  rw [hx] at hb
  exact absurd hb (by simp)

theorem nn_of {x : EReal} (h : FloatOps.cmpf (F := Ideal) (φ := .f32) .olt x (Ideal.ofBits .f32 0x7F800000#32) = 1#1)
    (h0 : FloatOps.cmpf (F := Ideal) (φ := .f32) .oge x (Ideal.ofBits .f32 0x00000000#32) = 1#1) : NN x := by
  have h1 := lt_of_olt h
  rw [top_f32] at h1
  have h2 := le_of_oge h0
  rw [show Ideal.ofBits .f32 0x00000000#32 = 0 from Ideal.ofBits_zero_f32] at h2
  exact ⟨x.toReal, EReal.toReal_nonneg h2, (EReal.coe_toReal h1.ne (by rintro rfl; exact absurd h2 (by simp))).symm⟩

variable {x : FVec Ideal S16x1024x1920 .bf16} {g b : FVec Ideal S1920 .f32} {y : FVec Ideal S16x1024x1920 .fp8e5m2} {e : FVec Ideal S_ .f32}

theorem parts (h : fn (F := Ideal) x g b y e = fun _ => 1#1) :
    (∀ i, Re (x i)) ∧ (∀ i, NN (g i)) ∧ (∀ i, Re (b i)) ∧ (∀ i, NN (e i)) := by
  have h0 := congrFun h ix0
  unfold fn fn_part1 at h0
  dsimp only at h0
  obtain ⟨h1, h1'⟩ := andi_one h0
  obtain ⟨h2, h2'⟩ := andi_one h1
  obtain ⟨h3, h3'⟩ := andi_one h2
  obtain ⟨h4, h4'⟩ := andi_one h3
  obtain ⟨h5, h5'⟩ := andi_one h4
  refine ⟨fun i => ?_, fun i => ?_, fun i => ?_, fun i => ?_⟩
  · have := Host.reduce_andi_all _ _ _ _ _ h5 i
    exact re_of_abs this
  · have a := Host.reduce_andi_all _ _ _ _ _ h5' i
    have b := Host.reduce_andi_all _ _ _ _ _ h3' i
    exact nn_of a b
  · have := Host.reduce_andi_all _ _ _ _ _ h4' i
    exact re_of_abs this
  · rw [Subsingleton.elim i ix0]
    exact nn_of h2' h1'

end Cert.Pre_domain

end
-- ==== Proof.Algebraic.lean ====
/- The kernel and its reference compute the same four results over the reals. -/
module

public import proofs.«01_k».proof.Proof.PassFinal
public import proofs.«01_k».proof.Proof.RefFinal
public import proofs.«01_k».proof.Proof.RefValue
public import proofs.«01_k».proof.Proof.PreDomain

@[expose] public section

set_option maxRecDepth 16384
set_option maxHeartbeats 4000000

noncomputable section

namespace Cert.Gn

open Idealize.ShloMosaic Idealize.ShloMosaic.TcCoe Idealize.ShloMosaic.Tactic Idealize.SL.Sem
open Cert.KernelIdeal.Pass (Good Xf Yf Gf Bf Df cut1 cut3 dxArr amaxArr dgArr dbArr ab)
open Cert.ReferenceIdeal.Pass (w1 w2 res)

instance : Cert.KernelIdeal.Facts := Cert.KernelIdeal.Gen.facts
instance : Cert.ReferenceIdeal.Facts := Cert.ReferenceIdeal.Gen.facts

/-! ## What the precondition gives -/

section Given

variable {m : (ℓ : Loc Cert.KernelIdeal.nD Cert.KernelIdeal.τ Cert.KernelIdeal.sig) → Buf (Elt Ideal) ℓ}

theorem re_cut3 {v : Cert.KernelIdeal.S16x1024x1920.Idx → EReal} (h : ∀ i, Re (v i)) (t s k : ℕ) : Re (cut3 v t s k) := by
  unfold cut3; split
  · exact h _
  · exact NN.zero.re

theorem re_cut1 {v : Cert.KernelIdeal.S1920.Idx → EReal} (h : ∀ i, Re (v i)) (k : ℕ) : Re (cut1 v k) := by
  unfold cut1; split
  · exact h _
  · exact NN.zero.re

theorem nn_cut1 {v : Cert.KernelIdeal.S1920.Idx → EReal} (h : ∀ i, NN (v i)) (k : ℕ) : NN (cut1 v k) := by
  unfold cut1; split
  · exact h _
  · exact NN.zero

theorem good (h : Cert.Pre_KernelIdeal_domain m) (c : Dev Cert.KernelIdeal.nD) : Good m c := by
  obtain ⟨h1, h2, h3, h4⟩ := Cert.Pre_domain.parts (h c)
  exact ⟨re_cut3 h1, nn_cut1 h2, re_cut1 h3, h4 _⟩

end Given

/-! ## The reference's results -/

section Reference

variable (m : (ℓ : Loc Cert.ReferenceIdeal.nD Cert.ReferenceIdeal.τ Cert.ReferenceIdeal.sig) → Buf (Elt Ideal) ℓ) (c : Dev Cert.ReferenceIdeal.nD)

open Cert.ReferenceIdeal

theorem cut3_at (v : S16x1024x1920.Idx → EReal) (t : Fin 16) (s : Fin 1024) (k : Fin 1920) : v (ix3 t s k) = cut3 v t s k := by
  unfold cut3; rw [dif_pos ⟨t.isLt, s.isLt, k.isLt⟩]

theorem cut1_at (v : S1920.Idx → EReal) (k : Fin 1920) : v (ix1 k) = cut1 v k := by
  unfold cut1; rw [dif_pos k.isLt]

theorem x_at (t : Fin 16) (s : Fin 1024) (q : Fin 32) (k : Fin 60) : w1 m c (ix4 t s q k) = cut3 (m ((c : Thread nD τ).loc main_arg0)) t s (q * 60 + k) := by
  refine Eq.trans ?_ (cut3_at _ t s ⟨q.val * 60 + k.val, by have := q.isLt; have := k.isLt; omega⟩)
  unfold w1
  pointwise

end Reference

/-! ## The two agree -/

section Agree

variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}
variable {c : Dev Cert.KernelIdeal.nD} (h : Good m c)
variable (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
variable (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
variable (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
variable (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
variable (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include e0 in
theorem hx (t : Fin 16) (s : Fin 1024) (q : Fin 32) (k : Fin 60) : w1 m' c (ix4 t s q k) = Xf m c t s (q * 60 + k) :=
  (x_at m' c t s q k).trans (congrArg (fun v => cut3 v t s (q * 60 + k)) e0)
include e3 in
theorem hy (t : Fin 16) (s : Fin 1024) (k : Fin 1920) : w2 m' c (ix3 t s k) = Yf m c t s k :=
  (cut3_at _ t s k).trans (congrArg (fun v => cut3 v t s k) e3)
include e1 in
theorem hg (k : Fin 1920) : (m' ((c.tc : Thread Cert.ReferenceIdeal.nD Cert.ReferenceIdeal.τ).loc Cert.ReferenceIdeal.main_arg1) : FVec Ideal Cert.ReferenceIdeal.S1920 .f32) (ix1 k) = Gf m c k :=
  (cut1_at _ k).trans (congrArg (fun v => cut1 v k) e1)
include e2 in
theorem hb (k : Fin 1920) : (m' ((c.tc : Thread Cert.ReferenceIdeal.nD Cert.ReferenceIdeal.τ).loc Cert.ReferenceIdeal.main_arg2) : FVec Ideal Cert.ReferenceIdeal.S1920 .f32) (ix1 k) = Bf m c k :=
  (cut1_at _ k).trans (congrArg (fun v => cut1 v k) e2)
include e4 in
theorem hd : (m' ((c.tc : Thread Cert.ReferenceIdeal.nD Cert.ReferenceIdeal.τ).loc Cert.ReferenceIdeal.main_arg4) : FVec Ideal Cert.ReferenceIdeal.S_ .f32) ix0 = Df m c :=
  congrFun e4 ix0

include h e0 e1 e2 e3 e4 in
theorem same_dx : res m' c Cert.ReferenceIdeal.Pass.rv67 = dxArr m c := by
  have e : ∀ (t : Fin 16) (s : Fin 1024) (k : Fin 1920), res m' c Cert.ReferenceIdeal.Pass.rv67 (ix3 t s k) = dxArr m c (ix3 t s k) := fun t s k =>
    Cert.ReferenceIdeal.Pass.dx_at (hx e0) (hy e3) (hg e1) (hb e2) (hd e4) h.hg t s k
  funext i
  have ei : i = ix3 (i 0) (i 1) (i 2) := by funext a; fin_cases a <;> rfl
  rw [ei]; exact e _ _ _

include h e0 e1 e2 e3 e4 in
theorem same_dg : res m' c Cert.ReferenceIdeal.Pass.rv45 = dgArr m c := by
  have e : ∀ k : Fin 1920, res m' c Cert.ReferenceIdeal.Pass.rv45 (ix1 k) = dgArr m c (ix1 k) := fun k =>
    (Cert.ReferenceIdeal.Pass.dgamma_at (hx e0) (hy e3) (hg e1) (hb e2) (hd e4) k).trans
      ((Finset.sum_range (fun t => dg (Xf m c t) (Yf m c t) (Gf m c) (Bf m c) (Df m c) k)).symm.trans
        ((Cert.KernelIdeal.Pass.sumOf_at _ k).trans (Cert.KernelIdeal.Pass.acc10_sum h k 15 _)).symm)
  funext i
  have ei : i = ix1 (i 0) := by funext a; fin_cases a; rfl
  rw [ei]; exact e _

include h e0 e1 e2 e3 e4 in
theorem same_db : res m' c Cert.ReferenceIdeal.Pass.rv47 = dbArr m c := by
  have e : ∀ k : Fin 1920, res m' c Cert.ReferenceIdeal.Pass.rv47 (ix1 k) = dbArr m c (ix1 k) := fun k =>
    (Cert.ReferenceIdeal.Pass.dbeta_at (hx e0) (hy e3) (hg e1) (hb e2) (hd e4) k).trans
      ((Finset.sum_range (fun t => db (Xf m c t) (Yf m c t) (Gf m c) (Bf m c) (Df m c) k)).symm.trans
        ((Cert.KernelIdeal.Pass.sumOf_at _ k).trans (Cert.KernelIdeal.Pass.acc11_sum h k 15 _)).symm)
  funext i
  have ei : i = ix1 (i 0) := by funext a; fin_cases a; rfl
  rw [ei]; exact e _

theorem ab_nonneg (x : EReal) : 0 ≤ ab x := by
  change 0 ≤ max x (-x)
  rcases le_total 0 x with hx | hx
  · exact le_max_of_le_left hx
  · exact le_max_of_le_right (by simpa using EReal.neg_le_neg_iff.mpr hx)

include h in
theorem amax_le_iff (i) (z : EReal) : amaxArr m c i ≤ z
    ↔ ∀ (t : Fin 16) (s : Fin 1024) (k : Fin 1920), ab (dx (Xf m c t) (Yf m c t) (Gf m c) (Bf m c) (Df m c) s k) ≤ z := by
  refine (Cert.KernelIdeal.Pass.maxOf_le _ i z).trans (Iff.intro (fun H t s k => ?_) (fun H r l => ?_))
  · have hs := s.isLt
    have hk := k.isLt
    have := ((Cert.KernelIdeal.Pass.acc9_le h ⟨s.val % 8, by omega⟩ ⟨k.val % 128, by omega⟩ z 15 _).mp (H _ _)).2 t.val t.isLt (k.val / 128) (by omega) (s.val / 8) (by omega)
    have a1 : 8 * (s.val / 8) + s.val % 8 = s.val := by omega
    have a2 : 128 * (k.val / 128) + k.val % 128 = k.val := by omega
    simpa only [a1, a2] using this
  · refine (Cert.KernelIdeal.Pass.acc9_le h r l z 15 _).mpr (And.intro ((ab_nonneg _).trans (H 0 0 0)) fun t ht k hk u hu => ?_)
    have hr := r.isLt
    have hl := l.isLt
    exact H ⟨t, ht⟩ ⟨8 * u + r.val, by omega⟩ ⟨128 * k + l.val, by omega⟩

include h e0 e1 e2 e3 e4 in
theorem same_amax : res m' c Cert.ReferenceIdeal.Pass.rv69 = amaxArr m c := by
  funext i
  exact eq_of_forall_ge_iff fun z => (Cert.ReferenceIdeal.Pass.amax_le (hx e0) (hy e3) (hg e1) (hb e2) (hd e4) h.hg i z).trans (amax_le_iff h i z).symm

end Agree

/-- Wherever the inputs are real, the gain and the scale not negative, the kernel and the reference leave the same results. -/
theorem algebraic : Cert.algebraic_KernelIdeal_ReferenceIdeal_pre_domain := by
  intro m g m' g' hp he
  have G : ∀ c, Good m c := good hp
  refine ⟨fun c => dxArr m c, fun c => amaxArr m c, fun c => dgArr m c, fun c => dbArr m c, Cert.KernelIdeal.Pass.run m g G, ?_⟩
  refine (θ_run Cert.ReferenceIdeal.defs _ _).mono (fun r hr c => ?_) (θ_run_and (Cert.ReferenceIdeal.Pass.run m' g') (Cert.ReferenceIdeal.Gen.unchanged m' g'))
  obtain ⟨e0, e1, e2, e3, e4⟩ := he c
  obtain ⟨r0, r1, r2, r3⟩ := hr.1 c
  exact ⟨r0.trans (same_dx (G c) e0 e1 e2 e3 e4), r1.trans (same_amax (G c) e0 e1 e2 e3 e4), r2.trans (same_dg (G c) e0 e1 e2 e3 e4),
    r3.trans (same_db (G c) e0 e1 e2 e3 e4), hr.2 c⟩

end Cert.Gn

end
-- ==== Proof.QuantPiece.lean ====
/- The second call's loop: every piece it stores is the clipped, rescaled gradient encoded to eight bits. -/
module

public import proofs.«01_k».proof.Defs
public import proofs.«01_k».proof.Proof.Gen.Quant
public import proofs.«01_k».proof.Proof.Gen.Quant.Frame
public import proofs.«01_k».proof.Proof.Gen.Quant.Loops
public import Idealize.ShloMosaic.Lib.Pointwise
public import Idealize.ShloMosaic.Lib.ValueLayout

@[expose] public section
set_option maxRecDepth 20000

open Idealize.ShloMosaic Idealize.ShloMosaic.TcCoe

namespace Cert.Quant.Gen
open Cert.Quant

/-- One stored element: the gradient times the inverse scale, clipped to the largest code and encoded. -/
noncomputable def enc (q x : Bits .f32) : Bits .fp8e5m2 :=
  (truncf .fp8e5m2 (minimumf (broadcast S1x1 (Scalar.ofBits .f32 0x47600000#32 : Bits .f32)) (maximumf (broadcast S1x1 (Scalar.ofBits .f32 0xC7600000#32 : Bits .f32)) (mulf (broadcast S1x1 x) (broadcast S1x1 q)))) bitsLt_fp8e5m2_f32 : FVec Bits S1x1 .fp8e5m2) (ix2 0 0)

theorem pay5_at (q : FVec Bits S1x1 .f32) (w : Vec Bits S1x32x128 .f32) (a : Fin 32) (l : Fin 128) :
    k0_pay5 q w (ix3 (0 : Fin 1) a l) = enc (q (ix2 (0 : Fin 1) (0 : Fin 1))) (w (ix3 (0 : Fin 1) a l)) := by
  pointwise [k0_pay5]
  rfl

/-- A stored piece, at the position it lands on. -/
theorem piece5 (q : FVec Bits S1x1 .f32) (arg2 : Memref sig .tc .vmem S1x1024x1920 .f32) (X : BufTy.Contents (Elt Bits) arg2.view.ty) (off : Fin 3 → ℕ) (inb : ∀ a, off a + S1x32x128.size a ≤ S1x1024x1920.size a) (x : S1x32x128.Idx) :
    k0_pay5 q (View.readAt (Elt Bits) arg2.view (Rect.unit (s := S1x1024x1920) off S1x32x128.size inb).toLoadRect X) x
      = enc (q (ix2 (0 : Fin 1) (0 : Fin 1))) (arg2.view.read (Elt Bits) X ((Rect.unit (s := S1x1024x1920) off S1x32x128.size inb).emb x)) := by
  obtain ⟨a, l, rfl⟩ : ∃ (a : Fin 32) (l : Fin 128), x = ix3 (0 : Fin 1) a l :=
    ⟨x 1, x 2, funext fun d => by fin_cases d <;> first | rfl | exact Fin.eq_zero _⟩
  rw [pay5_at]
  rfl

/-- Everything one trip stores. -/
theorem trip_at (𝒱 : Variants) (c : Dev nD) (bd : Option 𝒱.V) (i : grid0.Coords) (arg1 : Memref sig .tc .vmem S8x128 .f32) (harg1 : arg1.IsWhole) (arg2 : Memref sig .tc .vmem S1x1024x1920 .f32) (harg2 : arg2.IsWhole) (arg3 : Memref sig .tc .vmem S1x1024x1920 .fp8e5m2) (harg3 : arg3.IsWhole) (arg4 : Memref sig .tc .vmem S1x1 .f32) (harg4 : arg4.IsWhole) (v0 : Vec Bits S8x128 .f32) (X_arg2 : BufTy.Contents (Elt Bits) arg2.view.ty) (k : Fin k0_t1_loop.trips) :
    ∀ p ∈ tripL_k0_t1 (F := Bits) 𝒱 c bd i arg1 harg1 arg2 harg2 arg3 harg3 arg4 harg4 v0 X_arg2 k, ∀ x : p.1.shape.Idx,
      p.2 x = enc (k0_pay2 v0 (ix2 (0 : Fin 1) (0 : Fin 1))) (arg2.view.read (Elt Bits) X_arg2 (p.1.emb x)) := by
  unfold tripL_k0_t1 trip_k0_t1
  dsimp only
  simp only [List.forall_mem_cons]
  refine ⟨fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun x => piece5 (k0_pay2 v0) arg2 X_arg2 _ _ x, fun p hp => absurd hp List.not_mem_nil⟩

/-- Everything the trips before the `n`-th store. -/
theorem pieces_at (𝒱 : Variants) (c : Dev nD) (bd : Option 𝒱.V) (i : grid0.Coords) (arg1 : Memref sig .tc .vmem S8x128 .f32) (harg1 : arg1.IsWhole) (arg2 : Memref sig .tc .vmem S1x1024x1920 .f32) (harg2 : arg2.IsWhole) (arg3 : Memref sig .tc .vmem S1x1024x1920 .fp8e5m2) (harg3 : arg3.IsWhole) (arg4 : Memref sig .tc .vmem S1x1 .f32) (harg4 : arg4.IsWhole) (v0 : Vec Bits S8x128 .f32) (X_arg2 : BufTy.Contents (Elt Bits) arg2.view.ty)  (n : ℕ) (hn : n ≤ k0_t1_loop.trips) :
    ∀ p ∈ pb_k0_t1 (F := Bits) 𝒱 c bd i arg1 harg1 arg2 harg2 arg3 harg3 arg4 harg4 v0 X_arg2 n, ∀ x : p.1.shape.Idx,
      p.2 x = enc (k0_pay2 v0 (ix2 (0 : Fin 1) (0 : Fin 1))) (arg2.view.read (Elt Bits) X_arg2 (p.1.emb x)) := by
  induction n with
  | zero => intro p hp; exact absurd hp (by rw [pb_k0_t1.eq_1]; exact List.not_mem_nil)
  | succ n ih =>
    intro p hp
    rw [pb_k0_t1_succ (F := Bits) 𝒱 c bd i arg1 harg1 arg2 harg2 arg3 harg3 arg4 harg4 v0 X_arg2 ⟨n, hn⟩] at hp
    rcases List.mem_append.mp hp with h | h
    · exact trip_at 𝒱 c bd i arg1 harg1 arg2 harg2 arg3 harg3 arg4 harg4 v0 X_arg2 ⟨n, hn⟩ p h
    · exact ih (by omega) p h

end Cert.Quant.Gen

end
-- ==== Proof.QuantFinal.lean ====
/- The second call's run, read: the codes and the scale it leaves. -/
module

public import proofs.«01_k».proof.Proof.QuantPiece
public import Idealize.ShloMosaic.Lib.Tactic
public import Idealize.ShloMosaic.Lib.VecWindow
public import Idealize.ShloMosaic.Lib.WritesUnit
public import Idealize.ShloMosaic.Lib.Pipeline.ValueKit

@[expose] public section

set_option maxRecDepth 16384
set_option maxHeartbeats 4000000

noncomputable section

namespace Cert.Quant.Pass

open Cert.Quant Cert.Quant.Gen
open Idealize.ShloMosaic Idealize.ShloMosaic.TcCoe Idealize.ShloMosaic.Tactic Idealize.SL.Sem
open Idealize.ShloMosaic.Pipeline (Dat)

/-- One sample's codes. -/
theorem out2_at (c : Dev nD) (i : grid0.Coords) (arg1 : Memref sig .tc .vmem S8x128 .f32) (harg1 : arg1.IsWhole) (arg2 : Memref sig .tc .vmem S1x1024x1920 .f32) (harg2 : arg2.IsWhole) (arg3 : Memref sig .tc .vmem S1x1024x1920 .fp8e5m2) (harg3 : arg3.IsWhole) (arg4 : Memref sig .tc .vmem S1x1 .f32) (harg4 : arg4.IsWhole)
    (x0 : Vec Bits S8x128 .f32) (x1 : Vec Bits S1x1024x1920 .f32) (y : S1x1024x1920.Idx) :
    out0_A_2 c i arg1 harg1 arg2 harg2 arg3 harg3 arg4 harg4 x0 x1 y = enc (k0_pay2 x0 (ix2 (0 : Fin 1) (0 : Fin 1))) (x1 y) := by
  unfold out0_A_2
  refine View.read_writes_apply_of_pieces _ _ (fun y => enc (k0_pay2 x0 (ix2 (0 : Fin 1) (0 : Fin 1))) (x1 y)) _ ?_ y (cover0_A_2 c i arg1 harg1 arg2 harg2 arg3 harg3 arg4 harg4 x0 x1 y)
  have e0 : View.readAt (Elt Bits) arg1.view (Rect.unit (s := S8x128) ![0, 0] S8x128.size (by decide)).toLoadRect (harg1.unread x0) = x0 := by
    rw [View.readAt_full]; exact harg1.read_unread x0
  have e1 : arg2.view.read (Elt Bits) (harg2.unread x1) = x1 := harg2.read_unread x1
  have key := pieces_at Variants.none c none i arg1 harg1 arg2 harg2 arg3 harg3 arg4 harg4 (View.readAt (Elt Bits) arg1.view (Rect.unit (s := S8x128) ![0, 0] S8x128.size (by decide)).toLoadRect (harg1.unread x0)) (harg2.unread x1) k0_t1_loop.trips le_rfl
  rw [e1] at key
  unfold kernelRun0_A
  dsimp only
  rw [e0] at key
  rw [show View.readAt (Elt Bits) arg1.view (Rect.unit (s := S8x128) ![0, 0] ![8, 128] inb_S8x128_S8x128_0_0).toLoadRect (harg1.unread x0) = x0 from e0]
  exact key

theorem out3_at (c : Dev nD) (i : grid0.Coords) (arg1 : Memref sig .tc .vmem S8x128 .f32) (harg1 : arg1.IsWhole) (arg2 : Memref sig .tc .vmem S1x1024x1920 .f32) (harg2 : arg2.IsWhole) (arg3 : Memref sig .tc .vmem S1x1024x1920 .fp8e5m2) (harg3 : arg3.IsWhole) (arg4 : Memref sig .tc .vmem S1x1 .f32) (harg4 : arg4.IsWhole)
    (x0 : Vec Bits S8x128 .f32) (x1 : Vec Bits S1x1024x1920 .f32) :
    out0_A_3 c i arg1 harg1 arg2 harg2 arg3 harg3 arg4 harg4 x0 x1 = k0_pay3 x0 := by
  unfold out0_A_3
  unfold kernelRun0_A
  dsimp only
  unfold kernelRun0_A.sl.H3_1
  have e0 : View.readAt (Elt Bits) arg1.view (Rect.unit (s := S8x128) ![0, 0] S8x128.size inb_S8x128_S8x128_0_0).toLoadRect (harg1.unread x0) = x0 := by
    rw [View.readAt_full]; exact harg1.read_unread x0
  refine (View.read_writes_full _ _ _ _ []).trans ?_
  exact congrArg k0_pay3 e0

variable (m : (ℓ : Loc nD τ sig) → Buf (Elt Bits) ℓ) (ρ : Dev nD → PrngReg) (c : Dev nD)

/-- The call's arguments. -/
abbrev A0 : Vec Bits S8x128 .f32 := m ((c : Thread nD τ).loc main_arg0)
abbrev A1 : Vec Bits S16x1024x1920 .f32 := m ((c : Thread nD τ).loc main_arg1)

/-- Where the blocks stand. -/
theorem idx : ∀ t : Fin cfg0.N, win0_0.index t = ![0, 0] ∧ win0_1.index t = ![t.val, 0, 0] ∧ win0_2.index t = ![t.val, 0, 0] ∧ win0_3.index t = ![0, 0] := by decide +kernel

/-- The codes. -/
def codes : Vec Bits S16x1024x1920 .fp8e5m2 := fun i => enc (k0_pay2 (A0 m c) (ix2 (0 : Fin 1) (0 : Fin 1))) (A1 m c i)

theorem blk0 (t : Fin cfg0.N) : (iblk m c 0 t : Vec Bits S8x128 .f32) = A0 m c := by
  funext y
  have e : ∀ (f : S8x128.Idx → Bits .f32) (y : S8x128.Idx), f ((win0_0.blk t).view.emb y) = f y := fun f y => by
    blk_point [idx t]
  exact e (A0 m c) y

theorem place (t : Fin cfg0.N) (f : S16x1024x1920.Idx → Bits .f32) (y : S1x1024x1920.Idx) :
    f ((win0_1.blk t).view.emb y) = f ((win0_2.blk t).view.emb y) := by
  have h0 : y 0 = (0 : Fin 1) := Fin.eq_zero _
  blk_point [idx t, h0]

theorem arr_2 : (dats m 0 c).arrAt 2 cfg0.N = codes m c := by
  refine (dats m 0 c).arrAt_eq_of_covers 2 _ (by decide +kernel) fun t hf y => ?_
  blk_simp [idx t]
  rw [after0_2]
  unfold outsAt0
  refine (out2_at c _ _ _ _ _ _ _ _ _ _ _ y).trans ?_
  rw [blk0]
  exact congrArg _ (place t (A1 m c) y)

theorem arr_3 : (dats m 0 c).arrAt 3 cfg0.N = k0_pay3 (A0 m c) := by
  refine (dats m 0 c).arrAt_eq_of_after_last 3 t0_15 (by decide +kernel) _ fun j => ?_
  blk_simp
  rw [after0_3]
  unfold outsAt0
  exact congrFun ((out3_at c (grid0.coords t0_15) (ms0_0 t0_15) (hs0_0 t0_15) (ms0_1 t0_15) (hs0_1 t0_15) (ms0_2 t0_15) (hs0_2 t0_15) (ms0_3 t0_15) (hs0_3 t0_15) (iblk m c 0 t0_15) (iblk m c 1 t0_15)).trans (congrArg k0_pay3 (blk0 m c t0_15))) j

/-- The scale, without its two unit axes. -/
def scale (v : FVec Bits S8x128 .f32) : FVec Bits S_ .f32 := shapeCast S_ (k0_pay3 v) shapeCasts_S1x1_S_

theorem tail_v1 : Pipeline.afterTail₀ cfgs (dats m) 0 (V0 m) [hostOps1] c main_v1 = scale (A0 m c) := by
  unfold Pipeline.afterTail₀
  rw [List.flatten_cons, List.flatten_nil, List.append_nil]
  have e : ∀ W : Valuation τ sig (Elt Bits), StableHlo.after hostOps1 W (Proc.devRef (τ := τ) .tc main_v1) = shapeCast S_ (W (Proc.devRef .tc main_v0_1) : Vec Bits S1x1 .f32) shapeCasts_S1x1_S_ := fun W => by
    after_results
    rfl
  rw [e]
  exact congrArg (fun v => shapeCast S_ v shapeCasts_S1x1_S_) ((Pipeline.withArrays_arr spec0 (by decide) c (V0 m c) (fun w => (dats m 0 c).arrAt w cfg0.N) 3).trans (arr_3 m c))

/-- The run, read. -/
theorem run : θ_run defs (onTc (τ := τ) (main (F := Bits))) ⟨m, fun _ => 0, ρ⟩ fun r => ∀ c : Dev nD,
      r.2.mem ((c.tc : Thread nD τ).loc main_v0_0) = codes m c
      ∧ r.2.mem ((c.tc : Thread nD τ).loc main_v1) = scale (A0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have key : θ_run defs (onTc (τ := τ) (main (F := Bits))) ⟨m, fun _ => 0, ρ⟩ fun r => ∀ c : Dev nD,
      r.2.mem ((c.tc : Thread nD τ).loc main_v0_0) = codes m c
      ∧ r.2.mem ((c.tc : Thread nD τ).loc main_v1) = scale (A0 m c) :=
    (θ_run defs _ _).mono (fun _ hr c => ⟨((hr c).1 2).trans (arr_2 m c),
      (((hr c).2 main_v1 (Pipeline.mem_restRefs_of main_v1 (by decide) (by decide))).trans (tail_v1 m c))⟩)
      (run_main m ρ)
  exact (θ_run defs _ _).mono (fun _ hr c => ⟨(hr.1 c).1, (hr.1 c).2, hr.2 c⟩) (θ_run_and key (unchanged m ρ))

end Cert.Quant.Pass

end
-- ==== Proof.QuantBits.lean ====
/- The power of two a largest magnitude is scaled by: the kernel's bit operations and the reference's frexp and ldexp, word for word. -/
module

public import proofs.«01_k».proof.Defs
public import Idealize.ShloMosaic.Lib.Tactic
public import Idealize.ShloMosaic.Lib.KernelVsHost

@[expose] public section

set_option maxRecDepth 16384

noncomputable section

namespace Cert.Qt

open Idealize.ShloMosaic

/-- frexp and ldexp first flush a subnormal word to a zero of its sign. -/
def flushed (b : BitVec 32) : BitVec 32 :=
  Scalar.select (IntOp.cmpi .eq (IntOp.andi b 2139095040#32) 0#32) (IntOp.andi b 2147483648#32) b

/-- The exponent field of the flushed word. -/
def field (b : BitVec 32) : BitVec 32 := IntOp.andi (IntOp.shrui .host (flushed b) 23#32) 255#32

/-- The exponent frexp returns. -/
def frexpE (b : BitVec 32) : BitVec 32 :=
  Scalar.select (IntOp.ori (IntOp.cmpi .eq (field b) 255#32) (IntOp.cmpi .eq (field b) 0#32)) 0#32 (IntOp.subi (field b) 126#32)

/-- The word ldexp returns. -/
def ldexpW (b e : BitVec 32) : BitVec 32 :=
  Scalar.select (IntOp.cmpi .eq (field b) 255#32) (flushed b)
    (Scalar.select (IntOp.cmpi .eq (field b) 0#32) (IntOp.andi (flushed b) 2147483648#32)
      (Scalar.select (IntOp.cmpi .sle (IntOp.addi (field b) (IntOp.minsi (IntOp.maxsi e 4294966784#32) 512#32)) 0#32) (IntOp.andi (flushed b) 2147483648#32)
        (Scalar.select (IntOp.cmpi .sge (IntOp.addi (field b) (IntOp.minsi (IntOp.maxsi e 4294966784#32) 512#32)) 255#32) (IntOp.ori (IntOp.andi (flushed b) 2147483648#32) 2139095040#32)
          (IntOp.ori (IntOp.ori (IntOp.andi (flushed b) 2147483648#32) (IntOp.shli .host (IntOp.addi (field b) (IntOp.minsi (IntOp.maxsi e 4294966784#32) 512#32)) 23#32)) (IntOp.andi (flushed b) 8388607#32)))))

/-- The kernel's exponent: the field of the word shifted arithmetically. -/
def kfield (u : ArithUnit) (b : BitVec 32) : BitVec 32 := IntOp.andi (IntOp.shrsi u b 23#32) 255#32

/-- Below the sign the two shifts agree. -/
theorem shift_agree (u v : ArithUnit) (b : BitVec 32) : kfield u b = IntOp.andi (IntOp.shrui v b 23#32) 255#32 := by
  have m : ∀ i : Fin 32, (255#32).getLsbD i.val = decide (i.val < 8) := by decide
  unfold kfield IntOp.andi IntOp.shrsi IntOp.shrui
  rw [if_pos (by decide), if_pos (by decide)]
  apply BitVec.eq_of_getLsbD_eq
  intro i hi
  rw [BitVec.getLsbD_and, BitVec.getLsbD_and, m ⟨i, hi⟩]
  by_cases h : i < 8
  · have h' : 23 + i < 32 := by omega
    simp [BitVec.getLsbD_sshiftRight, BitVec.getElem_sshiftRight, h, hi, h']
  · simp [h]

/-- A word whose exponent field is not zero is not flushed. -/
theorem flushed_eq (u : ArithUnit) (b : BitVec 32) (h : kfield u b ≠ 0#32) : flushed b = b := by
  have m : ∀ i : Fin 32, (255#32).getLsbD i.val = decide (i.val < 8) := by decide
  have k : ∀ i : Fin 8, (2139095040#32).getLsbD (23 + i.val) = true := by decide
  unfold flushed
  have hb : IntOp.andi b 2139095040#32 ≠ 0#32 := by
    intro h0
    refine h ((shift_agree u .host b).trans ?_)
    unfold IntOp.andi IntOp.shrui at *
    rw [if_pos (by decide)]
    apply BitVec.eq_of_getLsbD_eq
    intro i hi
    rw [BitVec.getLsbD_and, m ⟨i, hi⟩]
    by_cases hi8 : i < 8
    · have := congrArg (fun w => BitVec.getLsbD w (23 + i)) h0
      simp only [BitVec.getLsbD_and, k ⟨i, hi8⟩] at this
      simpa [hi8] using this
    · simp [hi8]
  have : IntOp.cmpi .eq (IntOp.andi b 2139095040#32) 0#32 = 0#1 := by
    unfold IntOp.cmpi
    exact congrArg BitVec.ofBool (beq_eq_false_iff_ne.mpr hb)
  rw [this]
  rfl

/-- Every exponent, one by one: the kernel's two words are ldexp's. -/
theorem words : ∀ (n : Fin 256) (c : Fin 2),
    IntOp.ori (BitVec.ofNat 1 c.val) (IntOp.andi (IntOp.cmpi .sgt (BitVec.ofNat 32 n.val) 0#32) (IntOp.cmpi .slt (BitVec.ofNat 32 n.val) 254#32)) = 1#1 →
      let e : BitVec 32 := Scalar.select (BitVec.ofNat 1 c.val) 0#32 (IntOp.subi (BitVec.ofNat 32 n.val) 126#32)
      IntOp.shli .vector (IntOp.addi e 127#32) 23#32 = ldexpW 1065353216#32 e
      ∧ IntOp.shli .vector (IntOp.addi (IntOp.subi 0#32 e) 127#32) 23#32 = ldexpW 1065353216#32 (-e)
      ∧ (c.val = 0 → BitVec.ofNat 32 n.val ≠ 0#32 ∧ Scalar.select (IntOp.ori (IntOp.cmpi .eq (BitVec.ofNat 32 n.val) 255#32) (IntOp.cmpi .eq (BitVec.ofNat 32 n.val) 0#32)) 0#32 (IntOp.subi (BitVec.ofNat 32 n.val) 126#32) = IntOp.subi (BitVec.ofNat 32 n.val) 126#32) := by
  decide +kernel

/-- The exponent the kernel scales by, of "the magnitude is zero" and of the share's word, -/
def expK (c : BitVec 1) (b : BitVec 32) : BitVec 32 := Scalar.select c 0#32 (IntOp.subi (kfield .vector b) 126#32)
/-- and the reference's. -/
def expR (c : BitVec 1) (b : BitVec 32) : BitVec 32 := Scalar.select c 0#32 (frexpE b)

/-- What the precondition says of the two. -/
def Normal (c : BitVec 1) (b : BitVec 32) : Prop :=
  IntOp.ori c (IntOp.andi (IntOp.cmpi .sgt (kfield .host b) 0#32) (IntOp.cmpi .slt (kfield .host b) 254#32)) = 1#1

theorem agree (c : BitVec 1) (b : BitVec 32) (h : Normal c b) :
    expR c b = expK c b
    ∧ IntOp.shli .vector (IntOp.addi (expK c b) 127#32) 23#32 = ldexpW 1065353216#32 (expK c b)
    ∧ IntOp.shli .vector (IntOp.addi (IntOp.subi 0#32 (expK c b)) 127#32) 23#32 = ldexpW 1065353216#32 (-(expK c b)) := by
  have hk : kfield .host b = kfield .vector b := (shift_agree .host .host b).trans (shift_agree .vector .host b).symm
  have hn : (kfield .vector b).toNat < 256 := by
    unfold kfield IntOp.andi
    rw [BitVec.toNat_and]
    exact lt_of_le_of_lt Nat.and_le_right (by decide)
  have en : BitVec.ofNat 32 (kfield .vector b).toNat = kfield .vector b := by simp
  have ec : BitVec.ofNat 1 c.toNat = c := by simp
  have w := words ⟨(kfield .vector b).toNat, hn⟩ ⟨c.toNat, c.isLt⟩
  simp only [en, ec] at w
  unfold Normal at h
  rw [hk] at h
  obtain ⟨w1, w2, w3⟩ := w h
  refine ⟨?_, w1, w2⟩
  unfold expR expK
  rcases (by decide : ∀ c : BitVec 1, c = 0#1 ∨ c = 1#1) c with rfl | rfl
  · obtain ⟨z, e⟩ := w3 rfl
    have f : field b = kfield .vector b := by
      unfold field
      rw [flushed_eq .vector b z, ← shift_agree .vector .host b]
    unfold frexpE
    rw [f, e]
  · rfl

end Cert.Qt

end
-- ==== Proof.QuantRead.lean ====
/- The quantising reference's host lines read back, and its one call: the codes and the scale it leaves. -/
module

public import proofs.«01_k».proof.Defs
public import proofs.«01_k».proof.Proof.Gen.QuantReference
public import proofs.«01_k».proof.Proof.Gen.QuantReference.Frame
public import proofs.«01_k».proof.Proof.QuantBits
public import Idealize.ShloMosaic.Lib.Tactic
public import Idealize.ShloMosaic.Lib.Pipeline.ValueKit

@[expose] public section

set_option maxRecDepth 16384
set_option maxHeartbeats 4000000

noncomputable section

namespace Cert.QuantReference.Pass

open Cert.QuantReference Cert.QuantReference.Gen Cert.Qt
open Idealize.ShloMosaic Idealize.ShloMosaic.TcCoe Idealize.ShloMosaic.Tactic Idealize.SL.Sem
open Idealize.ShloMosaic.Pipeline (Dat)

section Stages

variable (W : Valuation τ sig (Elt Bits))

/-- The largest element. -/
def maxOf (v : FVec Bits S8x128 .f32) : FVec Bits S_ .f32 := Host.reduce FloatOps.maximumf v (constant S_ .f32 0xFF800000#32) reducesTo_S8x128_S_d0_1 h_S_
/-- The share of the largest code it is. -/
def share (v : FVec Bits S_ .f32) : FVec Bits S_ .f32 := mulf v (constant S_ .f32 0x37924925#32)

theorem s0_v0 : StableHlo.after hostOps0 W (Proc.devRef (τ := τ) .tc main_v0) = maxOf (W (Proc.devRef .tc main_arg0)) := by
  after_results
  rfl
theorem s0_v1 : StableHlo.after hostOps0 W (Proc.devRef (τ := τ) .tc main_v1) = share (maxOf (W (Proc.devRef .tc main_arg0))) := by
  after_results
  rfl
theorem s1_e : StableHlo.after hostOps0_1 W (Proc.devRef (τ := τ) .tc main_v2_1) = (fun i => frexpE ((W (Proc.devRef .tc main_v1) : FVec Bits S_ .f32) i) : IVec S_ 32) := by
  after_results
  rfl
theorem s2_v3 : StableHlo.after hostOps0_2 W (Proc.devRef (τ := τ) .tc main_v3) = (cmpf (F := Bits) (s := S_) (φ := .f32) .oeq (W (Proc.devRef .tc main_v0)) (constant S_ .f32 0x00000000#32) : IVec S_ 1) := by
  after_results
theorem s2_c : StableHlo.after hostOps0_2 W (Proc.devRef (τ := τ) .tc main_c) = (constantI S_ 32 0#32 : IVec S_ 32) := by
  after_results
theorem s3_v4 : StableHlo.after hostOps0_3 W (Proc.devRef (τ := τ) .tc main_v4) = (select (W (Proc.devRef .tc main_v3) : IVec S_ 1) (W (Proc.devRef .tc main_c) : IVec S_ 32) (W (Proc.devRef .tc main_v2_1) : IVec S_ 32) : IVec S_ 32) := by
  after_results
  rfl
theorem s4_one : StableHlo.after hostOps0_4 W (Proc.devRef (τ := τ) .tc main_cst_2) = (constant S_ .f32 0x3F800000#32 : FVec Bits S_ .f32) := by
  after_results
theorem s5_v5 : StableHlo.after hostOps0_5 W (Proc.devRef (τ := τ) .tc main_v5) = (fun i => ldexpW ((W (Proc.devRef .tc main_cst_2) : FVec Bits S_ .f32) i) ((W (Proc.devRef .tc main_v4) : IVec S_ 32) i) : FVec Bits S_ .f32) := by
  after_results
  rfl
theorem s6_v6 : StableHlo.after hostOps0_6 W (Proc.devRef (τ := τ) .tc main_v6) = (negi (W (Proc.devRef .tc main_v4) : IVec S_ 32) : IVec S_ 32) := by
  after_results
theorem s6_one : StableHlo.after hostOps0_6 W (Proc.devRef (τ := τ) .tc main_cst_3) = (constant S_ .f32 0x3F800000#32 : FVec Bits S_ .f32) := by
  after_results
theorem s7_v7 : StableHlo.after hostOps0_7 W (Proc.devRef (τ := τ) .tc main_v7) = (fun i => ldexpW ((W (Proc.devRef .tc main_cst_3) : FVec Bits S_ .f32) i) ((W (Proc.devRef .tc main_v6) : IVec S_ 32) i) : FVec Bits S_ .f32) := by
  after_results
  rfl
theorem s8_v9 : StableHlo.after hostOps0_8 W (Proc.devRef (τ := τ) .tc main_v9) = (mulf (W (Proc.devRef .tc main_arg1) : FVec Bits S16x1024x1920 .f32) (broadcastInDim S16x1024x1920 ![] bcast_S_S16x1024x1920 (W (Proc.devRef .tc main_v7) : FVec Bits S_ .f32)) : FVec Bits S16x1024x1920 .f32) := by
  after_results
theorem s8_lo : StableHlo.after hostOps0_8 W (Proc.devRef (τ := τ) .tc main_cst_4) = (constant S_ .f32 0xC7600000#32 : FVec Bits S_ .f32) := by
  after_results
theorem s8_hi : StableHlo.after hostOps0_8 W (Proc.devRef (τ := τ) .tc main_cst_5) = (constant S_ .f32 0x47600000#32 : FVec Bits S_ .f32) := by
  after_results
theorem s9_v10 : StableHlo.after hostOps0_9 W (Proc.devRef (τ := τ) .tc main_v10) = (minimumf (broadcastInDim S16x1024x1920 ![] bcast_S_S16x1024x1920 (W (Proc.devRef .tc main_cst_5) : FVec Bits S_ .f32)) (maximumf (broadcastInDim S16x1024x1920 ![] bcast_S_S16x1024x1920 (W (Proc.devRef .tc main_cst_4) : FVec Bits S_ .f32)) (W (Proc.devRef .tc main_v9) : FVec Bits S16x1024x1920 .f32)) : FVec Bits S16x1024x1920 .f32) := by
  after_results
  try rfl

/-! What later lines leave alone. -/

theorem k1_v0 : StableHlo.after hostOps0_1 W (Proc.devRef (τ := τ) .tc main_v0) = W (Proc.devRef .tc main_v0) := by after_results
theorem k2_e : StableHlo.after hostOps0_2 W (Proc.devRef (τ := τ) .tc main_v2_1) = W (Proc.devRef .tc main_v2_1) := by after_results
theorem k4_v4 : StableHlo.after hostOps0_4 W (Proc.devRef (τ := τ) .tc main_v4) = W (Proc.devRef .tc main_v4) := by after_results
theorem k5_v4 : StableHlo.after hostOps0_5 W (Proc.devRef (τ := τ) .tc main_v4) = W (Proc.devRef .tc main_v4) := by after_results
theorem k6_v5 : StableHlo.after hostOps0_6 W (Proc.devRef (τ := τ) .tc main_v5) = W (Proc.devRef .tc main_v5) := by after_results
theorem k7_v5 : StableHlo.after hostOps0_7 W (Proc.devRef (τ := τ) .tc main_v5) = W (Proc.devRef .tc main_v5) := by after_results
theorem k8_v5 : StableHlo.after hostOps0_8 W (Proc.devRef (τ := τ) .tc main_v5) = W (Proc.devRef .tc main_v5) := by after_results
theorem k9_v5 : StableHlo.after hostOps0_9 W (Proc.devRef (τ := τ) .tc main_v5) = W (Proc.devRef .tc main_v5) := by after_results
theorem k0_a1 : StableHlo.after hostOps0 W (Proc.devRef (τ := τ) .tc main_arg1) = W (Proc.devRef .tc main_arg1) := by after_results
theorem k1_a1 : StableHlo.after hostOps0_1 W (Proc.devRef (τ := τ) .tc main_arg1) = W (Proc.devRef .tc main_arg1) := by after_results
theorem k2_a1 : StableHlo.after hostOps0_2 W (Proc.devRef (τ := τ) .tc main_arg1) = W (Proc.devRef .tc main_arg1) := by after_results
theorem k3_a1 : StableHlo.after hostOps0_3 W (Proc.devRef (τ := τ) .tc main_arg1) = W (Proc.devRef .tc main_arg1) := by after_results
theorem k4_a1 : StableHlo.after hostOps0_4 W (Proc.devRef (τ := τ) .tc main_arg1) = W (Proc.devRef .tc main_arg1) := by after_results
theorem k5_a1 : StableHlo.after hostOps0_5 W (Proc.devRef (τ := τ) .tc main_arg1) = W (Proc.devRef .tc main_arg1) := by after_results
theorem k6_a1 : StableHlo.after hostOps0_6 W (Proc.devRef (τ := τ) .tc main_arg1) = W (Proc.devRef .tc main_arg1) := by after_results
theorem k7_a1 : StableHlo.after hostOps0_7 W (Proc.devRef (τ := τ) .tc main_arg1) = W (Proc.devRef .tc main_arg1) := by after_results

end Stages

variable (m : (ℓ : Loc nD τ sig) → Buf (Elt Bits) ℓ) (ρ : Dev nD → PrngReg) (c : Dev nD)

/-- The arguments. -/
abbrev B0 : FVec Bits S8x128 .f32 := m ((c : Thread nD τ).loc main_arg0)
abbrev B1 : FVec Bits S16x1024x1920 .f32 := m ((c : Thread nD τ).loc main_arg1)

/-- The exponent. -/
def expo (v : FVec Bits S8x128 .f32) : IVec S_ 32 :=
  select (cmpf .oeq (maxOf v) (constant S_ .f32 0x00000000#32)) (constantI S_ 32 0#32) (fun i => frexpE (share (maxOf v) i))
/-- The scale. -/
def scaleR (v : FVec Bits S8x128 .f32) : FVec Bits S_ .f32 := fun i => ldexpW 1065353216#32 (expo v i)
/-- The inverse scale. -/
def invR (v : FVec Bits S8x128 .f32) : FVec Bits S_ .f32 := fun i => ldexpW 1065353216#32 (-(expo v i))
/-- The rescaled and clipped gradient. -/
def clipped (v : FVec Bits S8x128 .f32) (x : FVec Bits S16x1024x1920 .f32) : FVec Bits S16x1024x1920 .f32 :=
  minimumf (broadcastInDim S16x1024x1920 ![] bcast_S_S16x1024x1920 (constant S_ .f32 0x47600000#32 : FVec Bits S_ .f32))
    (maximumf (broadcastInDim S16x1024x1920 ![] bcast_S_S16x1024x1920 (constant S_ .f32 0xC7600000#32 : FVec Bits S_ .f32))
      (mulf x (broadcastInDim S16x1024x1920 ![] bcast_S_S16x1024x1920 (invR v))))

/-- The entry contents, one stretch of host lines at a time. -/
theorem V_stages (b : Ref sig .tc) : V m c b = StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b))))))))))) (Proc.devRef .tc b) := by
  unfold V V0
  simp only [List.flatten_cons, List.flatten_nil, List.append_nil, StableHlo.after_append]

theorem V_v5 : V m c main_v5 = scaleR (B0 m c) := by
  rw [V_stages, k9_v5, k8_v5, k7_v5, k6_v5, s5_v5, s4_one, k4_v4, s3_v4, s2_v3, s2_c, k2_e, s1_e, k1_v0, s0_v0, s0_v1]
  rfl

theorem V_v10 : V m c main_v10 = clipped (B0 m c) (B1 m c) := by
  rw [V_stages, s9_v10, s8_lo, s8_hi, s8_v9, s7_v7, s6_v6, s6_one, k5_v4, k4_v4, s3_v4, s2_v3, s2_c, k2_e, s1_e, k1_v0, s0_v0, s0_v1,
    k7_a1, k6_a1, k5_a1, k4_a1, k3_a1, k2_a1, k1_a1, k0_a1]
  rfl

/-- Where the call's one block stands. -/
theorem idx : ∀ t : Fin cfg0.N, win0_0.index t = ![0, 0, 0] ∧ win0_1.index t = ![0, 0, 0] := by decide +kernel

/-- The one call encodes them. -/
def codesR : FVec Bits S16x1024x1920 .fp8e5m2 := truncf .fp8e5m2 (clipped (B0 m c) (B1 m c)) bitsLt_fp8e5m2_f32

theorem arr_1 : (dats m 0 c).arrAt 1 cfg0.N = codesR m c := by
  refine (dats m 0 c).arrAt_eq_of_after_last 1 t0_0 (by decide +kernel) _ fun j => ?_
  blk_simp
  rw [after0_1]
  unfold out0_1
  rw [View.canon_unit_zero (by decide)]
  refine (congrFun (congrArg k0_pay1 (View.ld_unit_zero (S := S16x1024x1920) (funext fun a => by fin_cases a <;> rfl) _ (iblk m c 0 t0_0 : Vec Bits S16x1024x1920 .f32))) j).trans ?_
  have e : ∀ (f : S16x1024x1920.Idx → Bits .f32) (y : S16x1024x1920.Idx), f ((win0_0.blk t0_0).view.emb y) = f y := fun f y => by
    blk_point [idx t0_0]
  have eb : (iblk m c 0 t0_0 : Vec Bits S16x1024x1920 .f32) = clipped (B0 m c) (B1 m c) :=
    funext fun y => (e (V m c main_v10) y).trans (congrFun (V_v10 m c) y)
  rw [eb]
  unfold k0_pay1 codesR
  try simp only [shapeCast_self]

/-- The barrier after the quantisation hands both through. -/
theorem tail_codes : Pipeline.afterTail₀ cfgs (dats m) 0 (V0 m) [hostOps1] c main_v12_0 = codesR m c := by
  unfold Pipeline.afterTail₀
  rw [List.flatten_cons, List.flatten_nil, List.append_nil]
  have e : ∀ W : Valuation τ sig (Elt Bits), StableHlo.after hostOps1 W (Proc.devRef (τ := τ) .tc main_v12_0) = W (Proc.devRef .tc main_v11) := fun W => by
    after_results
    rfl
  rw [e]
  exact (Pipeline.withArrays_arr spec0 (by decide) c (V0 m c) (fun w => (dats m 0 c).arrAt w cfg0.N) 1).trans (arr_1 m c)

theorem tail_scale : Pipeline.afterTail₀ cfgs (dats m) 0 (V0 m) [hostOps1] c main_v12_1 = scaleR (B0 m c) := by
  unfold Pipeline.afterTail₀
  rw [List.flatten_cons, List.flatten_nil, List.append_nil]
  have e : ∀ W : Valuation τ sig (Elt Bits), StableHlo.after hostOps1 W (Proc.devRef (τ := τ) .tc main_v12_1) = W (Proc.devRef .tc main_v5) := fun W => by
    after_results
    rfl
  rw [e]
  exact (Pipeline.withArrays_of_ne spec0 c (V0 m c) (fun w => (dats m 0 c).arrAt w cfg0.N) main_v5 (by exact (by decide : ∀ w, Pipeline.arrRef spec0 w ≠ main_v5))).trans (V_v5 m c)

/-- The run, read. -/
theorem run : θ_run defs (onTc (τ := τ) (main (F := Bits))) ⟨m, fun _ => 0, ρ⟩ fun r => ∀ c : Dev nD,
      r.2.mem ((c.tc : Thread nD τ).loc main_v12_0) = codesR m c
      ∧ r.2.mem ((c.tc : Thread nD τ).loc main_v12_1) = scaleR (B0 m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have key : θ_run defs (onTc (τ := τ) (main (F := Bits))) ⟨m, fun _ => 0, ρ⟩ fun r => ∀ c : Dev nD,
      r.2.mem ((c.tc : Thread nD τ).loc main_v12_0) = codesR m c
      ∧ r.2.mem ((c.tc : Thread nD τ).loc main_v12_1) = scaleR (B0 m c) :=
    (θ_run defs _ _).mono (fun _ hr c => ⟨(((hr c).2 main_v12_0 (Pipeline.mem_restRefs_of main_v12_0 (by decide) (by decide))).trans (tail_codes m c)),
      (((hr c).2 main_v12_1 (Pipeline.mem_restRefs_of main_v12_1 (by decide) (by decide))).trans (tail_scale m c))⟩)
      (run_main m ρ)
  exact (θ_run defs _ _).mono (fun _ hr c => ⟨(hr.1 c).1, (hr.1 c).2, hr.2 c⟩) (θ_run_and key (unchanged m ρ))

end Cert.QuantReference.Pass

end
-- ==== Proof.QuantSame.lean ====
/- The second call leaves the reference's codes and scale, bit for bit, wherever the magnitude's share is zero or normal. -/
module

public import proofs.«01_k».proof.Proof.QuantFinal
public import proofs.«01_k».proof.Proof.QuantRead
public import proofs.«01_k».proof.Proof.Gen.Pre_normal
public import Idealize.ShloMosaic.PureOps.Reduce

@[expose] public section

set_option maxRecDepth 16384
set_option maxHeartbeats 400000

noncomputable section

namespace Cert.Qt

open Idealize.ShloMosaic Idealize.ShloMosaic.TcCoe Idealize.SL.Sem
open Cert.Quant (S8x128 S1x8x128 S1 S1x1x1 S1x1 S_)
open Cert.Quant.Gen (k0_pay1 k0_pay2 k0_pay3 enc)
open Cert.QuantReference.Pass (maxOf share expo scaleR invR clipped)

/-- The largest element as the kernel takes it: over the vector cast to three axes. -/
def kmax (v : FVec Bits S8x128 .f32) : Bits .f32 :=
  extractAt ![0, 0, 0] (shapeCast S1x1x1 (multiReduction .maximumf [1, 2] S1 (shapeCast S1x8x128 v Cert.Quant.Gen.shapeCasts_S8x128_S1x8x128 : FVec Bits S1x8x128 .f32) 0xFF800000#32 Cert.Quant.Gen.reduces_S1x8x128_S1 (.inl rfl) rfl : FVec Bits S1 .f32) Cert.Quant.Gen.shapeCasts_S1_S1x1x1 : FVec Bits S1x1x1 .f32) Cert.Quant.Gen.inpos_S1x1x1_p0_0_0

/-- A fold over row-major positions does not depend on how the number of positions is spelled. -/
theorem fold_cast {α : Type} (f : α → α → α) (n n' : Nat) (h : n = n') (x : Fin n' → α) (a : α) :
    (List.finRange n).foldl (fun r k => f r (x (finCongr h k))) a = (List.finRange n').foldl (fun r k => f r (x k)) a := by
  subst h
  rfl

/-- Both take the same elements in the same order. -/
theorem max_same (v : FVec Bits S8x128 .f32) (i : S_.Idx) : kmax v = maxOf v i := by
  have key := fold_cast (FloatOps.maximumf (F := Bits) (φ := .f32)) S1x8x128.numel S8x128.numel (by decide) (fun k => v (S8x128.rowMajor.symm k)) (FloatOps.ofBits .f32 0xFF800000#32)
  have l : ∀ j : S1.Idx, reduceFold Cert.Quant.Gen.reduces_S1x8x128_S1 FloatOps.maximumf (FloatOps.ofBits (F := Bits) .f32 0xFF800000#32) (shapeCast S1x8x128 v Cert.Quant.Gen.shapeCasts_S8x128_S1x8x128) j
      = (List.finRange S8x128.numel).foldl (fun r k => FloatOps.maximumf r (v (S8x128.rowMajor.symm k))) (FloatOps.ofBits .f32 0xFF800000#32) := fun j => by
    rw [reduceFold_eq_foldl_of_size_one _ (by decide), List.foldl_map, ← key]
    congr 1
    funext r k
    unfold shapeCast
    refine congrArg (fun z => FloatOps.maximumf r (v z)) (Shape.reshapeEquiv_eq_of_rowMajor _ ?_)
    rw [Equiv.apply_symm_apply, Equiv.apply_symm_apply]
    rfl
  have r : maxOf v i = (List.finRange S8x128.numel).foldl (fun r k => FloatOps.maximumf r (v (S8x128.rowMajor.symm k))) (FloatOps.ofBits .f32 0xFF800000#32) := by
    unfold maxOf
    rw [Host.reduce_eq_foldl, List.filter_eq_self.2 fun k _ => decide_eq_true (funext fun b => b.elim0), List.foldl_map]
    congr 1
  exact (l _).trans r.symm

/-- The exponent's integer lines, from the share and the test for zero. -/
theorem exp_at (t : FVec Bits S1x1 .f32) (z : IVec S1x1 1) (j : S1x1.Idx) :
    select z (broadcast S1x1 0#32) (subi (andi (shrsi (bitcastToInt t) (broadcast S1x1 23#32)) (broadcast S1x1 255#32)) (broadcast S1x1 126#32)) j
      = expK (z j) (BitOps.toBits (t j)) := by
  unfold expK kfield
  exact Eq.refl _

/-- The kernel's exponent. -/
theorem pay1_at (v : FVec Bits S8x128 .f32) (j : S1x1.Idx) :
    k0_pay1 (F := Bits) v j = expK (FloatOps.cmpf .oeq (kmax v) (FloatOps.ofBits .f32 0x00000000#32)) (BitOps.toBits (FloatOps.mulf (kmax v) (FloatOps.ofBits .f32 0x37924925#32))) := by
  have e : k0_pay1 (F := Bits) v = select (cmpf .oeq (broadcast S1x1 (kmax v) : FVec Bits S1x1 .f32) (broadcast S1x1 (Scalar.ofBits .f32 0x00000000#32 : Bits .f32))) (broadcast S1x1 0#32)
      (subi (andi (shrsi (bitcastToInt (mulf (broadcast S1x1 (kmax v) : FVec Bits S1x1 .f32) (broadcast S1x1 (Scalar.ofBits .f32 0x37924925#32 : Bits .f32)))) (broadcast S1x1 23#32)) (broadcast S1x1 255#32)) (broadcast S1x1 126#32)) := by
    unfold k0_pay1 kmax
    dsimp only
  rw [e, exp_at]
  unfold cmpf mulf broadcast Scalar.ofBits
  dsimp only

/-- The bits of the test for zero and of the share. -/
def zeroAt (a : Bits .f32) : BitVec 1 := FloatOps.cmpf .oeq a (FloatOps.ofBits .f32 0x00000000#32)
def shareAt (a : Bits .f32) : BitVec 32 := BitOps.toBits (FloatOps.mulf a (FloatOps.ofBits .f32 0x37924925#32))

/-- The precondition is the one the two exponents agree under. -/
theorem normal_of (v : FVec Bits S8x128 .f32) (x : FVec Bits Cert.Pre_normal.S16x1024x1920 .f32) (i : S_.Idx)
    (h : Cert.Pre_normal.fn (F := Bits) v x = (fun _ => 1#1)) : Normal (zeroAt (maxOf v i)) (shareAt (maxOf v i)) := by
  have e : Cert.Pre_normal.fn (F := Bits) v x = ori (cmpf .oeq (maxOf v) (constant S_ .f32 0x00000000#32))
      (andi (cmpi .sgt (andi (Host.shrsi (bitcastToInt (mulf (maxOf v) (constant S_ .f32 0x37924925#32))) (constantI S_ 32 23#32)) (constantI S_ 32 255#32)) (constantI S_ 32 0#32))
        (cmpi .slt (andi (Host.shrsi (bitcastToInt (mulf (maxOf v) (constant S_ .f32 0x37924925#32))) (constantI S_ 32 23#32)) (constantI S_ 32 255#32)) (constantI S_ 32 254#32))) := by
    unfold Cert.Pre_normal.fn maxOf
    dsimp only
  rw [e] at h
  have h' := congrFun h i
  unfold ori andi cmpi cmpf Host.shrsi bitcastToInt mulf constant constantI at h'
  unfold Normal kfield zeroAt shareAt
  exact h'

/-- The reference's exponent. -/
theorem expo_at (v : FVec Bits S8x128 .f32) (i : S_.Idx) : expo v i = expR (zeroAt (maxOf v i)) (shareAt (maxOf v i)) := by
  unfold expo expR zeroAt shareAt share select cmpf mulf constant constantI
  rfl

/-- Where the precondition holds, the kernel's two powers of two are the reference's. -/
theorem powers (v : FVec Bits S8x128 .f32) (x : FVec Bits Cert.Pre_normal.S16x1024x1920 .f32) (i : S_.Idx) (j : S1x1.Idx)
    (h : Cert.Pre_normal.fn (F := Bits) v x = (fun _ => 1#1)) :
    k0_pay2 (F := Bits) v j = invR v i ∧ k0_pay3 (F := Bits) v j = scaleR v i := by
  obtain ⟨he, h3, h2⟩ := agree _ _ (normal_of v x i h)
  have hp : k0_pay1 (F := Bits) v j = expK (zeroAt (maxOf v i)) (shareAt (maxOf v i)) := by
    rw [pay1_at, max_same v i]
    unfold zeroAt shareAt
    exact Eq.refl _
  have hx := expo_at v i
  rw [he, ← hp] at hx
  rw [← hp] at h2 h3
  constructor
  · unfold invR
    rw [hx]
    refine Eq.trans ?_ h2
    unfold k0_pay2
    unfold bitcastToFloat shli addi subi broadcast
    exact Eq.refl _
  · unfold scaleR
    rw [hx]
    refine Eq.trans ?_ h3
    unfold k0_pay3
    unfold bitcastToFloat shli addi broadcast
    exact Eq.refl _

/-- The reference's code of one element. -/
theorem codes_at (v : FVec Bits S8x128 .f32) (x : FVec Bits Cert.QuantReference.S16x1024x1920 .f32) (i : Cert.QuantReference.S16x1024x1920.Idx) (q : Bits .f32)
    (h : ∀ k, invR v k = q) :
    (truncf .fp8e5m2 (clipped v x) Cert.QuantReference.Gen.bitsLt_fp8e5m2_f32 : FVec Bits Cert.QuantReference.S16x1024x1920 .fp8e5m2) i = enc q (x i) := by
  unfold clipped enc truncf minimumf maximumf mulf broadcastInDim broadcast constant Scalar.ofBits
  dsimp only
  rw [h]

/-- The codes and the scale agree. -/
theorem bitexact : Cert.bitexact_Quant_QuantReference_pre_normal := by
  intro m g m' g' hpre hargs
  refine ⟨fun c => Cert.Quant.Pass.codes m c, fun c => Cert.Quant.Pass.scale (Cert.Quant.Pass.A0 m c), Cert.Quant.Pass.run m g, ?_⟩
  refine (θ_run Cert.QuantReference.defs _ _).mono (fun r hr c => ?_) (Cert.QuantReference.Pass.run m' g')
  obtain ⟨e0, e1⟩ := hargs c
  obtain ⟨r0, r1, r2⟩ := hr c
  have e0' : Cert.QuantReference.Pass.B0 m' c = Cert.Quant.Pass.A0 m c := e0
  have e1' : Cert.QuantReference.Pass.B1 m' c = Cert.Quant.Pass.A1 m c := e1
  have P := fun i j => powers (Cert.Quant.Pass.A0 m c) (Cert.Quant.Pass.A1 m c) i j (hpre c)
  refine ⟨r0.trans ?_, r1.trans ?_, r2⟩
  · funext i
    unfold Cert.QuantReference.Pass.codesR Cert.Quant.Pass.codes
    rw [e0', e1']
    exact codes_at _ _ i _ fun k => (P k _).1.symm
  · funext i
    rw [e0']
    unfold Cert.Quant.Pass.scale shapeCast
    exact (P i _).2.symm

end Cert.Qt

end
-- ==== Proof.lean ====
/- The proof of the certificate's claims: the frames of the kernel (as printed and idealized) and of the
   reference, the value claim, and the second call's frame and bits. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.ForgetKernelFrame
public import proofs.«01_k».proof.Proof.ForgetKernelIdealFrame
public import proofs.«01_k».proof.Proof.Algebraic
public import proofs.«01_k».proof.Proof.QuantSame
public import Idealize.ShloMosaic.Adequacy
public import Idealize.ShloMosaic.Init

@[expose] public section

noncomputable section

namespace Cert.Proof

open Idealize.ShloMosaic Idealize.SL.Sem

/-- The constant `1/61440` at the ideal values is the one the kernel's rounded constant stands for. -/
theorem preserves : Cert.preserves_Kernel_KernelIdeal :=
  IdealRules.named_const.statement Cert.KernelIdeal.κ "inv_n" .f32 0x37888889#32 ((1 / 61440 : ℝ) : EReal) rfl

theorem claim : Cert.Claim := ⟨Cert.Kernel.Gen.facts, Cert.KernelIdeal.Gen.facts, Cert.ReferenceIdeal.Gen.facts,
  Cert.Quant.Gen.facts, Cert.QuantReference.Gen.facts, Cert.Pre_domain.facts, Cert.Pre_normal.Gen.facts,
  fun m ρ _ => Cert.Kernel.Forget.frame m ρ,
  fun m ρ _ => Cert.KernelIdeal.Forget.frame m ρ, fun m ρ _ => Cert.KernelIdeal.Forget.frame m ρ,
  fun m ρ _ => Cert.ReferenceIdeal.Gen.frame m ρ, fun m ρ _ => Cert.ReferenceIdeal.Gen.frame m ρ,
  fun m ρ _ => Cert.Quant.Gen.frame m ρ, fun m ρ _ => Cert.Quant.Gen.frame m ρ,
  fun m ρ _ => Cert.QuantReference.Gen.frame m ρ,
  preserves, Cert.Gn.algebraic, Cert.Qt.bitexact⟩

end Cert.Proof

end
